-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_noise_drawn [hPre_noise_drawn : Cert.Pre_noise_drawn.Facts] (m : (ℓ : Loc Cert.KernelIdeal.nD Cert.KernelIdeal.τ Cert.KernelIdeal.sig) → Buf (Elt Ideal) ℓ) : Prop :=
  ∀ c : Dev Cert.KernelIdeal.nD,
    (Cert.Pre_noise_drawn.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_noise_drawn [hPre_noise_drawn : Cert.Pre_noise_drawn.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_noise_drawn.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_noise_drawn [hKernelIdeal : Cert.KernelIdeal.Facts] [hPre_noise_drawn : Cert.Pre_noise_drawn.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_noise_drawn m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_noise_drawn [hReferenceIdeal : Cert.ReferenceIdeal.Facts] [hPre_noise_drawn : Cert.Pre_noise_drawn.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_noise_drawn m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal_pre_noise_drawn [hKernelIdeal : Cert.KernelIdeal.Facts] [hReferenceIdeal : Cert.ReferenceIdeal.Facts] [hPre_noise_drawn : Cert.Pre_noise_drawn.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_noise_drawn m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v27)) (v1 : (c : Dev Cert.KernelIdeal.nD) → Buf (Elt Ideal) ((c.tc : Thread Cert.KernelIdeal.nD Cert.KernelIdeal.τ).loc Cert.KernelIdeal.main_v30)) (v2 : (c : Dev Cert.KernelIdeal.nD) → Buf (Elt Ideal) ((c.tc : Thread Cert.KernelIdeal.nD Cert.KernelIdeal.τ).loc Cert.KernelIdeal.main_v16_4)) (v3 : (c : Dev Cert.KernelIdeal.nD) → Buf (Elt Ideal) ((c.tc : Thread Cert.KernelIdeal.nD Cert.KernelIdeal.τ).loc Cert.KernelIdeal.main_v31)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v27) = v0 c
          ∧ r.2.mem ((c.tc : Thread Cert.KernelIdeal.nD Cert.KernelIdeal.τ).loc Cert.KernelIdeal.main_v30) = v1 c
          ∧ r.2.mem ((c.tc : Thread Cert.KernelIdeal.nD Cert.KernelIdeal.τ).loc Cert.KernelIdeal.main_v16_4) = v2 c
          ∧ r.2.mem ((c.tc : Thread Cert.KernelIdeal.nD Cert.KernelIdeal.τ).loc Cert.KernelIdeal.main_v31) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v142) = v0 c
          ∧ r.2.mem ((c.tc : Thread Cert.ReferenceIdeal.nD Cert.ReferenceIdeal.τ).loc Cert.ReferenceIdeal.main_v144) = v1 c
          ∧ r.2.mem ((c.tc : Thread Cert.ReferenceIdeal.nD Cert.ReferenceIdeal.τ).loc Cert.ReferenceIdeal.main_v152) = v2 c
          ∧ r.2.mem ((c.tc : Thread Cert.ReferenceIdeal.nD Cert.ReferenceIdeal.τ).loc Cert.ReferenceIdeal.main_v154) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_noise_drawn : Cert.Pre_noise_drawn.Facts),
    quiescent_Kernel (hKernel := hKernel)
    ∧ quiescent_KernelIdeal (hKernelIdeal := hKernelIdeal)
    ∧ quiescent_KernelIdeal_pre_noise_drawn (hKernelIdeal := hKernelIdeal) (hPre_noise_drawn := hPre_noise_drawn)
    ∧ quiescent_ReferenceIdeal (hReferenceIdeal := hReferenceIdeal)
    ∧ quiescent_ReferenceIdeal_pre_noise_drawn (hReferenceIdeal := hReferenceIdeal) (hPre_noise_drawn := hPre_noise_drawn)
    ∧ preserves_Kernel_KernelIdeal
    ∧ algebraic_KernelIdeal_ReferenceIdeal_pre_noise_drawn (hKernelIdeal := hKernelIdeal) (hReferenceIdeal := hReferenceIdeal) (hPre_noise_drawn := hPre_noise_drawn)
-- ==== Pre_noise_drawn.lean ====
abbrev S512x4 : Shape := ⟨2, ![512, 4]⟩
abbrev S512 : Shape := ⟨1, ![512]⟩
abbrev S64x4 : Shape := ⟨2, ![64, 4]⟩
abbrev S64 : Shape := ⟨1, ![64]⟩
abbrev S64x64 : Shape := ⟨2, ![64, 64]⟩
abbrev S262144 : Shape := ⟨1, ![262144]⟩
abbrev S_ : Shape := ⟨0, ![]⟩

class Facts : Prop where
  bcast_S_S262144 : S_.BroadcastsInDim S262144 (![] : Fin 0 → Fin S262144.rank)

variable [Facts]

def fn {F : FTy → Type} [FloatOps F] (main_arg0 : FVec F S512x4 .f32) (main_arg1 : IVec S512 32) (main_arg2 : FVec F S64x4 .f32) (main_arg3 : IVec S64 32) (main_arg4 : IVec S64x64 32) (main_arg5 : FVec F S262144 .f32) : IVec S262144 1 :=
  let main_cst : FVec F S_ .f32 := constant S_ .f32 0x00000000#32
  let main_v0 : FVec F S262144 .f32 := broadcastInDim S262144 ![] bcast_S_S262144 main_cst
  let main_v1 : IVec S262144 1 := cmpf .oge main_arg5 main_v0
  main_v1
-- ==== Kernel.lean ====
abbrev S512x4 : Shape := ⟨2, ![512, 4]⟩
abbrev S512 : Shape := ⟨1, ![512]⟩
abbrev S64x4 : Shape := ⟨2, ![64, 4]⟩
abbrev S64 : Shape := ⟨1, ![64]⟩
abbrev S64x64 : Shape := ⟨2, ![64, 64]⟩
abbrev S262144 : Shape := ⟨1, ![262144]⟩
abbrev S4x512 : Shape := ⟨2, ![4, 512]⟩
abbrev S64x1 : Shape := ⟨2, ![64, 1]⟩
abbrev S1x512 : Shape := ⟨2, ![1, 512]⟩
abbrev S512x1 : Shape := ⟨2, ![512, 1]⟩
abbrev S_ : Shape := ⟨0, ![]⟩
abbrev S262144x1 : Shape := ⟨2, ![262144, 1]⟩
abbrev S512x512 : Shape := ⟨2, ![512, 512]⟩
abbrev S1x256 : Shape := ⟨2, ![1, 256]⟩
abbrev S1x768 : Shape := ⟨2, ![1, 768]⟩
abbrev S64x512 : Shape := ⟨2, ![64, 512]⟩
abbrev S512x64 : Shape := ⟨2, ![512, 64]⟩
abbrev S1x512x512 : Shape := ⟨3, ![1, 512, 512]⟩
abbrev S1 : Shape := ⟨1, ![1]⟩
abbrev S1x1x1 : Shape := ⟨3, ![1, 1, 1]⟩
abbrev S256x1 : Shape := ⟨2, ![256, 1]⟩
abbrev S256x512 : Shape := ⟨2, ![256, 512]⟩
abbrev S256 : Shape := ⟨1, ![256]⟩
abbrev S256x64 : Shape := ⟨2, ![256, 64]⟩
abbrev S256x256 : Shape := ⟨2, ![256, 256]⟩
abbrev S768x1 : Shape := ⟨2, ![768, 1]⟩
abbrev S768x512 : Shape := ⟨2, ![768, 512]⟩
abbrev S768 : Shape := ⟨1, ![768]⟩
abbrev S768x768 : Shape := ⟨2, ![768, 768]⟩
abbrev S1024 : Shape := ⟨1, ![1024]⟩
abbrev S1024x1 : Shape := ⟨2, ![1024, 1]⟩
abbrev S1024x2 : Shape := ⟨2, ![1024, 2]⟩

abbrev nBuf : Space → Nat
  | .hbm => 124
  | .vmem => 12
  | .smem => 0
  | _ => 0

abbrev bufTy : (tb : Table) → Fin (tcTables nBuf tb) → BufTy
  | .hbm, ⟨0, _⟩ => ⟨S512x4, .f32⟩
  | .hbm, ⟨1, _⟩ => ⟨S512, .i32⟩
  | .hbm, ⟨2, _⟩ => ⟨S64x4, .f32⟩
  | .hbm, ⟨3, _⟩ => ⟨S64, .i32⟩
  | .hbm, ⟨4, _⟩ => ⟨S64x64, .i32⟩
  | .hbm, ⟨5, _⟩ => ⟨S262144, .f32⟩
  | .hbm, ⟨6, _⟩ => ⟨S4x512, .f32⟩
  | .hbm, ⟨7, _⟩ => ⟨S64x1, .i32⟩
  | .hbm, ⟨8, _⟩ => ⟨S1x512, .i32⟩
  | .hbm, ⟨9, _⟩ => ⟨S512x1, .i32⟩
  | .hbm, ⟨10, _⟩ => ⟨S262144, .f32⟩
  | .hbm, ⟨11, _⟩ => ⟨S262144, .i32⟩
  | .hbm, ⟨12, _⟩ => ⟨S262144, .f32⟩
  | .hbm, ⟨13, _⟩ => ⟨S262144, .i32⟩
  | .hbm, ⟨14, _⟩ => ⟨S_, .i32⟩
  | .hbm, ⟨15, _⟩ => ⟨S262144, .i32⟩
  | .hbm, ⟨16, _⟩ => ⟨S262144, .i32⟩
  | .hbm, ⟨17, _⟩ => ⟨S_, .i32⟩
  | .hbm, ⟨18, _⟩ => ⟨S262144, .i32⟩
  | .hbm, ⟨19, _⟩ => ⟨S262144, .i1⟩
  | .hbm, ⟨20, _⟩ => ⟨S_, .i32⟩
  | .hbm, ⟨21, _⟩ => ⟨S262144, .i32⟩
  | .hbm, ⟨22, _⟩ => ⟨S262144, .i32⟩
  | .hbm, ⟨23, _⟩ => ⟨S262144, .i32⟩
  | .hbm, ⟨24, _⟩ => ⟨S262144x1, .i32⟩
  | .hbm, ⟨25, _⟩ => ⟨S262144, .i32⟩
  | .hbm, ⟨26, _⟩ => ⟨S512x512, .i32⟩
  | .hbm, ⟨27, _⟩ => ⟨S1x256, .i32⟩
  | .hbm, ⟨28, _⟩ => ⟨S1x256, .f32⟩
  | .hbm, ⟨29, _⟩ => ⟨S1x256, .i32⟩
  | .hbm, ⟨30, _⟩ => ⟨S1x768, .i32⟩
  | .hbm, ⟨31, _⟩ => ⟨S512x512, .i32⟩
  | .hbm, ⟨32, _⟩ => ⟨S256, .i32⟩
  | .hbm, ⟨33, _⟩ => ⟨S768, .i32⟩
  | .hbm, ⟨34, _⟩ => ⟨S_, .i32⟩
  | .hbm, ⟨35, _⟩ => ⟨S_, .i32⟩
  | .hbm, ⟨36, _⟩ => ⟨S256, .i32⟩
  | .hbm, ⟨37, _⟩ => ⟨S256, .i32⟩
  | .hbm, ⟨38, _⟩ => ⟨S256, .i32⟩
  | .hbm, ⟨39, _⟩ => ⟨S_, .i32⟩
  | .hbm, ⟨40, _⟩ => ⟨S256, .i32⟩
  | .hbm, ⟨41, _⟩ => ⟨S256, .i1⟩
  | .hbm, ⟨42, _⟩ => ⟨S256, .i32⟩
  | .hbm, ⟨43, _⟩ => ⟨S256, .i32⟩
  | .hbm, ⟨44, _⟩ => ⟨S_, .i32⟩
  | .hbm, ⟨45, _⟩ => ⟨S256, .i32⟩
  | .hbm, ⟨46, _⟩ => ⟨S256, .i1⟩
  | .hbm, ⟨47, _⟩ => ⟨S256, .i1⟩
  | .hbm, ⟨48, _⟩ => ⟨S_, .i32⟩
  | .hbm, ⟨49, _⟩ => ⟨S256, .i32⟩
  | .hbm, ⟨50, _⟩ => ⟨S256, .i32⟩
  | .hbm, ⟨51, _⟩ => ⟨S256, .i32⟩
  | .hbm, ⟨52, _⟩ => ⟨S_, .i32⟩
  | .hbm, ⟨53, _⟩ => ⟨S_, .i32⟩
  | .hbm, ⟨54, _⟩ => ⟨S768, .i32⟩
  | .hbm, ⟨55, _⟩ => ⟨S768, .i32⟩
  | .hbm, ⟨56, _⟩ => ⟨S768, .i32⟩
  | .hbm, ⟨57, _⟩ => ⟨S_, .i32⟩
  | .hbm, ⟨58, _⟩ => ⟨S768, .i32⟩
  | .hbm, ⟨59, _⟩ => ⟨S768, .i1⟩
  | .hbm, ⟨60, _⟩ => ⟨S768, .i32⟩
  | .hbm, ⟨61, _⟩ => ⟨S768, .i32⟩
  | .hbm, ⟨62, _⟩ => ⟨S_, .i32⟩
  | .hbm, ⟨63, _⟩ => ⟨S768, .i32⟩
  | .hbm, ⟨64, _⟩ => ⟨S768, .i1⟩
  | .hbm, ⟨65, _⟩ => ⟨S768, .i1⟩
  | .hbm, ⟨66, _⟩ => ⟨S_, .i32⟩
  | .hbm, ⟨67, _⟩ => ⟨S768, .i32⟩
  | .hbm, ⟨68, _⟩ => ⟨S768, .i32⟩
  | .hbm, ⟨69, _⟩ => ⟨S768, .i32⟩
  | .hbm, ⟨70, _⟩ => ⟨S1024, .i32⟩
  | .hbm, ⟨71, _⟩ => ⟨S_, .i32⟩
  | .hbm, ⟨72, _⟩ => ⟨S_, .i32⟩
  | .hbm, ⟨73, _⟩ => ⟨S_, .i32⟩
  | .hbm, ⟨74, _⟩ => ⟨S_, .i1⟩
  | .hbm, ⟨75, _⟩ => ⟨S_, .i32⟩
  | .hbm, ⟨76, _⟩ => ⟨S_, .i32⟩
  | .hbm, ⟨77, _⟩ => ⟨S256, .i32⟩
  | .hbm, ⟨78, _⟩ => ⟨S256, .i32⟩
  | .hbm, ⟨79, _⟩ => ⟨S_, .i32⟩
  | .hbm, ⟨80, _⟩ => ⟨S256, .i32⟩
  | .hbm, ⟨81, _⟩ => ⟨S256, .i1⟩
  | .hbm, ⟨82, _⟩ => ⟨S_, .i32⟩
  | .hbm, ⟨83, _⟩ => ⟨S256, .i32⟩
  | .hbm, ⟨84, _⟩ => ⟨S256, .i1⟩
  | .hbm, ⟨85, _⟩ => ⟨S_, .i32⟩
  | .hbm, ⟨86, _⟩ => ⟨S_, .i1⟩
  | .hbm, ⟨87, _⟩ => ⟨S256, .i1⟩
  | .hbm, ⟨88, _⟩ => ⟨S256, .i1⟩
  | .hbm, ⟨89, _⟩ => ⟨S256, .i1⟩
  | .hbm, ⟨90, _⟩ => ⟨S256, .i32⟩
  | .hbm, ⟨91, _⟩ => ⟨S256, .i32⟩
  | .hbm, ⟨92, _⟩ => ⟨S256, .i32⟩
  | .hbm, ⟨93, _⟩ => ⟨S_, .i32⟩
  | .hbm, ⟨94, _⟩ => ⟨S_, .i32⟩
  | .hbm, ⟨95, _⟩ => ⟨S_, .i32⟩
  | .hbm, ⟨96, _⟩ => ⟨S_, .i1⟩
  | .hbm, ⟨97, _⟩ => ⟨S_, .i32⟩
  | .hbm, ⟨98, _⟩ => ⟨S_, .i32⟩
  | .hbm, ⟨99, _⟩ => ⟨S768, .i32⟩
  | .hbm, ⟨100, _⟩ => ⟨S768, .i32⟩
  | .hbm, ⟨101, _⟩ => ⟨S_, .i32⟩
  | .hbm, ⟨102, _⟩ => ⟨S768, .i32⟩
  | .hbm, ⟨103, _⟩ => ⟨S768, .i1⟩
  | .hbm, ⟨104, _⟩ => ⟨S_, .i32⟩
  | .hbm, ⟨105, _⟩ => ⟨S768, .i32⟩
  | .hbm, ⟨106, _⟩ => ⟨S768, .i1⟩
  | .hbm, ⟨107, _⟩ => ⟨S_, .i32⟩
  | .hbm, ⟨108, _⟩ => ⟨S_, .i1⟩
  | .hbm, ⟨109, _⟩ => ⟨S768, .i1⟩
  | .hbm, ⟨110, _⟩ => ⟨S768, .i1⟩
  | .hbm, ⟨111, _⟩ => ⟨S768, .i1⟩
  | .hbm, ⟨112, _⟩ => ⟨S768, .i32⟩
  | .hbm, ⟨113, _⟩ => ⟨S768, .i32⟩
  | .hbm, ⟨114, _⟩ => ⟨S768, .i32⟩
  | .hbm, ⟨115, _⟩ => ⟨S1024, .i32⟩
  | .hbm, ⟨116, _⟩ => ⟨S1024x1, .i32⟩
  | .hbm, ⟨117, _⟩ => ⟨S1024x1, .i32⟩
  | .hbm, ⟨118, _⟩ => ⟨S1024x2, .i32⟩
  | .hbm, ⟨119, _⟩ => ⟨S256, .i32⟩
  | .hbm, ⟨120, _⟩ => ⟨S_, .i32⟩
  | .hbm, ⟨121, _⟩ => ⟨S768, .i32⟩
  | .hbm, ⟨122, _⟩ => ⟨S1024, .i32⟩
  | .hbm, ⟨123, _⟩ => ⟨S256, .f32⟩
  | .local _ .vmem, ⟨0, _⟩ => ⟨S64x4, .f32⟩
  | .local _ .vmem, ⟨1, _⟩ => ⟨S4x512, .f32⟩
  | .local _ .vmem, ⟨2, _⟩ => ⟨S64x1, .i32⟩
  | .local _ .vmem, ⟨3, _⟩ => ⟨S1x512, .i32⟩
  | .local _ .vmem, ⟨4, _⟩ => ⟨S512x1, .i32⟩
  | .local _ .vmem, ⟨5, _⟩ => ⟨S64x64, .i32⟩
  | .local _ .vmem, ⟨6, _⟩ => ⟨S512x512, .i32⟩
  | .local _ .vmem, ⟨7, _⟩ => ⟨S1x256, .i32⟩
  | .local _ .vmem, ⟨8, _⟩ => ⟨S1x256, .f32⟩
  | .local _ .vmem, ⟨9, _⟩ => ⟨S1x256, .i32⟩
  | .local _ .vmem, ⟨10, _⟩ => ⟨S1x768, .i32⟩
  | .local _ .vmem, ⟨11, _⟩ => ⟨S512x512, .i32⟩
  | _, _ => ⟨S512x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_call0_v0 : Ref sig .tc := ⟨.hbm, 11, rfl⟩
abbrev main_call0_v1_0 : Ref sig .tc := ⟨.hbm, 12, rfl⟩
abbrev main_v5 : Ref sig .tc := ⟨.hbm, 13, rfl⟩
abbrev main_c : Ref sig .tc := ⟨.hbm, 14, rfl⟩
abbrev main_v6 : Ref sig .tc := ⟨.hbm, 15, rfl⟩
abbrev main_v7 : Ref sig .tc := ⟨.hbm, 16, rfl⟩
abbrev main_c_0 : Ref sig .tc := ⟨.hbm, 17, rfl⟩
abbrev main_v8 : Ref sig .tc := ⟨.hbm, 18, rfl⟩
abbrev main_v9 : Ref sig .tc := ⟨.hbm, 19, rfl⟩
abbrev main_c_1 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16_0 : Ref sig .tc := ⟨.hbm, 27, rfl⟩
abbrev main_v16_1 : Ref sig .tc := ⟨.hbm, 28, rfl⟩
abbrev main_v16_2 : Ref sig .tc := ⟨.hbm, 29, rfl⟩
abbrev main_v16_3 : Ref sig .tc := ⟨.hbm, 30, rfl⟩
abbrev main_v16_4 : Ref sig .tc := ⟨.hbm, 31, rfl⟩
abbrev main_v17 : Ref sig .tc := ⟨.hbm, 32, rfl⟩
abbrev main_v18 : Ref sig .tc := ⟨.hbm, 33, rfl⟩
abbrev main_c_2 : Ref sig .tc := ⟨.hbm, 34, rfl⟩
abbrev main_call1_v0 : Ref sig .tc := ⟨.hbm, 35, rfl⟩
abbrev main_call1_v1 : Ref sig .tc := ⟨.hbm, 36, rfl⟩
abbrev main_call1_v2 : Ref sig .tc := ⟨.hbm, 37, rfl⟩
abbrev main_call1_v3 : Ref sig .tc := ⟨.hbm, 38, rfl⟩
abbrev main_call1_v4 : Ref sig .tc := ⟨.hbm, 39, rfl⟩
abbrev main_call1_v5 : Ref sig .tc := ⟨.hbm, 40, rfl⟩
abbrev main_call1_v6 : Ref sig .tc := ⟨.hbm, 41, rfl⟩
abbrev main_call1_v7 : Ref sig .tc := ⟨.hbm, 42, rfl⟩
abbrev main_call1_v8 : Ref sig .tc := ⟨.hbm, 43, rfl⟩
abbrev main_call1_c : Ref sig .tc := ⟨.hbm, 44, rfl⟩
abbrev main_call1_v9 : Ref sig .tc := ⟨.hbm, 45, rfl⟩
abbrev main_call1_v10 : Ref sig .tc := ⟨.hbm, 46, rfl⟩
abbrev main_call1_v11 : Ref sig .tc := ⟨.hbm, 47, rfl⟩
abbrev main_call1_c_0 : Ref sig .tc := ⟨.hbm, 48, rfl⟩
abbrev main_call1_v12 : Ref sig .tc := ⟨.hbm, 49, rfl⟩
abbrev main_call1_v13 : Ref sig .tc := ⟨.hbm, 50, rfl⟩
abbrev main_v19 : Ref sig .tc := ⟨.hbm, 51, rfl⟩
abbrev main_c_3 : Ref sig .tc := ⟨.hbm, 52, rfl⟩
abbrev main_call2_v0 : Ref sig .tc := ⟨.hbm, 53, rfl⟩
abbrev main_call2_v1 : Ref sig .tc := ⟨.hbm, 54, rfl⟩
abbrev main_call2_v2 : Ref sig .tc := ⟨.hbm, 55, rfl⟩
abbrev main_call2_v3 : Ref sig .tc := ⟨.hbm, 56, rfl⟩
abbrev main_call2_v4 : Ref sig .tc := ⟨.hbm, 57, rfl⟩
abbrev main_call2_v5 : Ref sig .tc := ⟨.hbm, 58, rfl⟩
abbrev main_call2_v6 : Ref sig .tc := ⟨.hbm, 59, rfl⟩
abbrev main_call2_v7 : Ref sig .tc := ⟨.hbm, 60, rfl⟩
abbrev main_call2_v8 : Ref sig .tc := ⟨.hbm, 61, rfl⟩
abbrev main_call2_c : Ref sig .tc := ⟨.hbm, 62, rfl⟩
abbrev main_call2_v9 : Ref sig .tc := ⟨.hbm, 63, rfl⟩
abbrev main_call2_v10 : Ref sig .tc := ⟨.hbm, 64, rfl⟩
abbrev main_call2_v11 : Ref sig .tc := ⟨.hbm, 65, rfl⟩
abbrev main_call2_c_0 : Ref sig .tc := ⟨.hbm, 66, rfl⟩
abbrev main_call2_v12 : Ref sig .tc := ⟨.hbm, 67, rfl⟩
abbrev main_call2_v13 : Ref sig .tc := ⟨.hbm, 68, rfl⟩
abbrev main_v20 : Ref sig .tc := ⟨.hbm, 69, rfl⟩
abbrev main_v21 : Ref sig .tc := ⟨.hbm, 70, rfl⟩
abbrev main_c_4 : Ref sig .tc := ⟨.hbm, 71, rfl⟩
abbrev main_call3_v0 : Ref sig .tc := ⟨.hbm, 72, rfl⟩
abbrev main_call3_c : Ref sig .tc := ⟨.hbm, 73, rfl⟩
abbrev main_call3_v1 : Ref sig .tc := ⟨.hbm, 74, rfl⟩
abbrev main_call3_c_0 : Ref sig .tc := ⟨.hbm, 75, rfl⟩
abbrev main_call3_v2 : Ref sig .tc := ⟨.hbm, 76, rfl⟩
abbrev main_call3_v3 : Ref sig .tc := ⟨.hbm, 77, rfl⟩
abbrev main_call3_v4 : Ref sig .tc := ⟨.hbm, 78, rfl⟩
abbrev main_call3_c_1 : Ref sig .tc := ⟨.hbm, 79, rfl⟩
abbrev main_call3_v5 : Ref sig .tc := ⟨.hbm, 80, rfl⟩
abbrev main_call3_v6 : Ref sig .tc := ⟨.hbm, 81, rfl⟩
abbrev main_call3_c_2 : Ref sig .tc := ⟨.hbm, 82, rfl⟩
abbrev main_call3_v7 : Ref sig .tc := ⟨.hbm, 83, rfl⟩
abbrev main_call3_v8 : Ref sig .tc := ⟨.hbm, 84, rfl⟩
abbrev main_call3_c_3 : Ref sig .tc := ⟨.hbm, 85, rfl⟩
abbrev main_call3_v9 : Ref sig .tc := ⟨.hbm, 86, rfl⟩
abbrev main_call3_v10 : Ref sig .tc := ⟨.hbm, 87, rfl⟩
abbrev main_call3_v11 : Ref sig .tc := ⟨.hbm, 88, rfl⟩
abbrev main_call3_v12 : Ref sig .tc := ⟨.hbm, 89, rfl⟩
abbrev main_call3_v13 : Ref sig .tc := ⟨.hbm, 90, rfl⟩
abbrev main_call3_v14 : Ref sig .tc := ⟨.hbm, 91, rfl⟩
abbrev main_v22 : Ref sig .tc := ⟨.hbm, 92, rfl⟩
abbrev main_c_5 : Ref sig .tc := ⟨.hbm, 93, rfl⟩
abbrev main_call4_v0 : Ref sig .tc := ⟨.hbm, 94, rfl⟩
abbrev main_call4_c : Ref sig .tc := ⟨.hbm, 95, rfl⟩
abbrev main_call4_v1 : Ref sig .tc := ⟨.hbm, 96, rfl⟩
abbrev main_call4_c_0 : Ref sig .tc := ⟨.hbm, 97, rfl⟩
abbrev main_call4_v2 : Ref sig .tc := ⟨.hbm, 98, rfl⟩
abbrev main_call4_v3 : Ref sig .tc := ⟨.hbm, 99, rfl⟩
abbrev main_call4_v4 : Ref sig .tc := ⟨.hbm, 100, rfl⟩
abbrev main_call4_c_1 : Ref sig .tc := ⟨.hbm, 101, rfl⟩
abbrev main_call4_v5 : Ref sig .tc := ⟨.hbm, 102, rfl⟩
abbrev main_call4_v6 : Ref sig .tc := ⟨.hbm, 103, rfl⟩
abbrev main_call4_c_2 : Ref sig .tc := ⟨.hbm, 104, rfl⟩
abbrev main_call4_v7 : Ref sig .tc := ⟨.hbm, 105, rfl⟩
abbrev main_call4_v8 : Ref sig .tc := ⟨.hbm, 106, rfl⟩
abbrev main_call4_c_3 : Ref sig .tc := ⟨.hbm, 107, rfl⟩
abbrev main_call4_v9 : Ref sig .tc := ⟨.hbm, 108, rfl⟩
abbrev main_call4_v10 : Ref sig .tc := ⟨.hbm, 109, rfl⟩
abbrev main_call4_v11 : Ref sig .tc := ⟨.hbm, 110, rfl⟩
abbrev main_call4_v12 : Ref sig .tc := ⟨.hbm, 111, rfl⟩
abbrev main_call4_v13 : Ref sig .tc := ⟨.hbm, 112, rfl⟩
abbrev main_call4_v14 : Ref sig .tc := ⟨.hbm, 113, rfl⟩
abbrev main_v23 : Ref sig .tc := ⟨.hbm, 114, rfl⟩
abbrev main_v24 : Ref sig .tc := ⟨.hbm, 115, rfl⟩
abbrev main_v25 : Ref sig .tc := ⟨.hbm, 116, rfl⟩
abbrev main_v26 : Ref sig .tc := ⟨.hbm, 117, rfl⟩
abbrev main_v27 : Ref sig .tc := ⟨.hbm, 118, rfl⟩
abbrev main_v28 : Ref sig .tc := ⟨.hbm, 119, rfl⟩
abbrev main_c_6 : Ref sig .tc := ⟨.hbm, 120, rfl⟩
abbrev main_v29 : Ref sig .tc := ⟨.hbm, 121, rfl⟩
abbrev main_v30 : Ref sig .tc := ⟨.hbm, 122, rfl⟩
abbrev main_v31 : Ref sig .tc := ⟨.hbm, 123, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11

abbrev nD : Nat := 1
abbrev τ : Topo := Topo.v7x

variable {F : FTy → Type} [FloatOps F]

abbrev grid0 : Pipeline.Grid := .none

@[reducible] def k0_t1_loop : Scf.Loop 32 :=
  let c0_i32_94 : BitVec 32 := 0#32
  let c262144_i32 : BitVec 32 := 262144#32
  let v1516 : BitVec 32 := Scalar.addi c0_i32_94 c262144_i32
  let c1_i32_95 : BitVec 32 := 1#32
  ⟨c0_i32_94, v1516, c1_i32_95⟩
@[reducible] def k0_t2_loop : Scf.Loop 32 :=
  let c0_i32_98 : BitVec 32 := 0#32
  let c31_i32 : BitVec 32 := 31#32
  let v1518 : BitVec 32 := Scalar.addi c0_i32_98 c31_i32
  let c1_i32_99 : BitVec 32 := 1#32
  ⟨c0_i32_98, v1518, c1_i32_99⟩
@[reducible] def k0_t3_loop : Scf.Loop 32 :=
  let c0_i32_68 : BitVec 32 := 0#32
  let c21_i32 : BitVec 32 := 21#32
  let v1024 : BitVec 32 := Scalar.addi c0_i32_68 c21_i32
  let c1_i32 : BitVec 32 := 1#32
  ⟨c0_i32_68, v1024, c1_i32⟩
abbrev stage0_0 : Fin 1 → Memref sig .tc .vmem S64x4 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S64x1 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x512 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S512x1 .i32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S64x64 .i32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S512x512 .i32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x256 .i32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1x256 .i32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1x768 .i32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S512x512 .i32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
-- ==== ReferenceIdeal.lean ====
abbrev S512x4 : Shape := ⟨2, ![512, 4]⟩
abbrev S512 : Shape := ⟨1, ![512]⟩
abbrev S64x4 : Shape := ⟨2, ![64, 4]⟩
abbrev S64 : Shape := ⟨1, ![64]⟩
abbrev S64x64 : Shape := ⟨2, ![64, 64]⟩
abbrev S262144 : Shape := ⟨1, ![262144]⟩
abbrev S64x1 : Shape := ⟨2, ![64, 1]⟩
abbrev S512x1 : Shape := ⟨2, ![512, 1]⟩
abbrev S64x2 : Shape := ⟨2, ![64, 2]⟩
abbrev S64x1x2 : Shape := ⟨3, ![64, 1, 2]⟩
abbrev S512x2 : Shape := ⟨2, ![512, 2]⟩
abbrev S1x512x2 : Shape := ⟨3, ![1, 512, 2]⟩
abbrev S64x512x2 : Shape := ⟨3, ![64, 512, 2]⟩
abbrev S_ : Shape := ⟨0, ![]⟩
abbrev S64x512x1 : Shape := ⟨3, ![64, 512, 1]⟩
abbrev S64x512 : Shape := ⟨2, ![64, 512]⟩
abbrev S1x512 : Shape := ⟨2, ![1, 512]⟩
abbrev S512x512 : Shape := ⟨2, ![512, 512]⟩
abbrev S64x64x1 : Shape := ⟨3, ![64, 64, 1]⟩
abbrev S1x64x512 : Shape := ⟨3, ![1, 64, 512]⟩
abbrev S64x64x512 : Shape := ⟨3, ![64, 64, 512]⟩
abbrev S64x1x512 : Shape := ⟨3, ![64, 1, 512]⟩
abbrev S64x512x512 : Shape := ⟨3, ![64, 512, 512]⟩
abbrev S256 : Shape := ⟨1, ![256]⟩
abbrev S256x1 : Shape := ⟨2, ![256, 1]⟩
abbrev S768 : Shape := ⟨1, ![768]⟩
abbrev S1024 : Shape := ⟨1, ![1024]⟩
abbrev S1024x1 : Shape := ⟨2, ![1024, 1]⟩
abbrev S1024x2 : Shape := ⟨2, ![1024, 2]⟩
abbrev S512x64 : Shape := ⟨2, ![512, 64]⟩

abbrev nBuf : Space → Nat
  | .hbm => 266
  | .vmem => 0
  | .smem => 0
  | _ => 0

abbrev hbmTy0_0 (i : Nat) : BufTy := match i % 128 with
  | 0 => ⟨S512x4, .f32⟩
  | 1 => ⟨S512, .i32⟩
  | 2 => ⟨S64x4, .f32⟩
  | 3 => ⟨S64, .i32⟩
  | 4 => ⟨S64x64, .i32⟩
  | 5 => ⟨S262144, .f32⟩
  | 6 => ⟨S64x1, .f32⟩
  | 7 => ⟨S64, .f32⟩
  | 8 => ⟨S64x1, .f32⟩
  | 9 => ⟨S64, .f32⟩
  | 10 => ⟨S64, .f32⟩
  | 11 => ⟨S64x1, .f32⟩
  | 12 => ⟨S64, .f32⟩
  | 13 => ⟨S64x1, .f32⟩
  | 14 => ⟨S64, .f32⟩
  | 15 => ⟨S64, .f32⟩
  | 16 => ⟨S64, .f32⟩
  | 17 => ⟨S512x1, .f32⟩
  | 18 => ⟨S512, .f32⟩
  | 19 => ⟨S512x1, .f32⟩
  | 20 => ⟨S512, .f32⟩
  | 21 => ⟨S512, .f32⟩
  | 22 => ⟨S512x1, .f32⟩
  | 23 => ⟨S512, .f32⟩
  | 24 => ⟨S512x1, .f32⟩
  | 25 => ⟨S512, .f32⟩
  | 26 => ⟨S512, .f32⟩
  | 27 => ⟨S512, .f32⟩
  | 28 => ⟨S64x2, .f32⟩
  | 29 => ⟨S64x1x2, .f32⟩
  | 30 => ⟨S512x2, .f32⟩
  | 31 => ⟨S1x512x2, .f32⟩
  | 32 => ⟨S64x512x2, .f32⟩
  | 33 => ⟨S64x512x2, .f32⟩
  | 34 => ⟨S64x512x2, .f32⟩
  | 35 => ⟨S64x2, .f32⟩
  | 36 => ⟨S64x1x2, .f32⟩
  | 37 => ⟨S512x2, .f32⟩
  | 38 => ⟨S1x512x2, .f32⟩
  | 39 => ⟨S64x512x2, .f32⟩
  | 40 => ⟨S64x512x2, .f32⟩
  | 41 => ⟨S64x512x2, .f32⟩
  | 42 => ⟨S64x512x2, .f32⟩
  | 43 => ⟨S_, .f32⟩
  | 44 => ⟨S_, .f32⟩
  | 45 => ⟨S64x512x2, .f32⟩
  | 46 => ⟨S64x512x2, .f32⟩
  | 47 => ⟨S64x512x1, .f32⟩
  | 48 => ⟨S64x512, .f32⟩
  | 49 => ⟨S64x512x1, .f32⟩
  | 50 => ⟨S64x512, .f32⟩
  | 51 => ⟨S64x512, .f32⟩
  | 52 => ⟨S64x1, .f32⟩
  | 53 => ⟨S1x512, .f32⟩
  | 54 => ⟨S64x512, .f32⟩
  | 55 => ⟨S64x512, .f32⟩
  | 56 => ⟨S64x512, .f32⟩
  | 57 => ⟨S64x512, .f32⟩
  | 58 => ⟨S_, .f32⟩
  | 59 => ⟨S64x512, .f32⟩
  | 60 => ⟨S64x512, .f32⟩
  | 61 => ⟨S64x512, .f32⟩
  | 62 => ⟨S64x1, .i32⟩
  | 63 => ⟨S1x512, .i32⟩
  | 64 => ⟨S64x512, .i32⟩
  | 65 => ⟨S64x512, .i32⟩
  | 66 => ⟨S64x512, .i1⟩
  | 67 => ⟨S_, .f32⟩
  | 68 => ⟨S64x512, .f32⟩
  | 69 => ⟨S64x512, .i1⟩
  | 70 => ⟨S64x512, .i1⟩
  | 71 => ⟨S64x512, .f32⟩
  | 72 => ⟨S_, .i32⟩
  | 73 => ⟨S64x64, .i32⟩
  | 74 => ⟨S64x64, .i1⟩
  | 75 => ⟨S64x64, .f32⟩
  | 76 => ⟨S512x512, .i32⟩
  | 77 => ⟨S512x512, .i32⟩
  | 78 => ⟨S_, .i32⟩
  | 79 => ⟨S512x512, .i32⟩
  | 80 => ⟨S512x512, .i32⟩
  | 81 => ⟨S512x512, .i1⟩
  | 82 => ⟨S512x512, .f32⟩
  | 83 => ⟨S_, .i32⟩
  | 84 => ⟨S512, .i32⟩
  | 85 => ⟨S512, .i1⟩
  | 86 => ⟨S512, .f32⟩
  | 87 => ⟨S_, .f32⟩
  | 88 => ⟨S512x512, .f32⟩
  | 89 => ⟨S512x512, .f32⟩
  | 90 => ⟨S512x1, .f32⟩
  | 91 => ⟨S512x512, .f32⟩
  | 92 => ⟨S512x512, .f32⟩
  | 93 => ⟨S1x512, .f32⟩
  | 94 => ⟨S512x512, .f32⟩
  | 95 => ⟨S512x512, .f32⟩
  | 96 => ⟨S64x64, .f32⟩
  | 97 => ⟨S64x64x1, .f32⟩
  | 98 => ⟨S1x64x512, .f32⟩
  | 99 => ⟨S64x64x512, .f32⟩
  | 100 => ⟨S64x64x512, .f32⟩
  | 101 => ⟨S64x64x512, .f32⟩
  | 102 => ⟨S_, .f32⟩
  | 103 => ⟨S64x512, .f32⟩
  | 104 => ⟨S64x512x1, .f32⟩
  | 105 => ⟨S64x1x512, .f32⟩
  | 106 => ⟨S64x512x512, .f32⟩
  | 107 => ⟨S64x512x512, .f32⟩
  | 108 => ⟨S64x512x512, .f32⟩
  | 109 => ⟨S_, .f32⟩
  | 110 => ⟨S512x512, .f32⟩
  | 111 => ⟨S_, .f32⟩
  | 112 => ⟨S512x512, .f32⟩
  | 113 => ⟨S512x512, .i1⟩
  | 114 => ⟨S512x512, .f32⟩
  | 115 => ⟨S_, .f32⟩
  | 116 => ⟨S512x512, .f32⟩
  | 117 => ⟨S512x512, .f32⟩
  | 118 => ⟨S512x512, .f32⟩
  | 119 => ⟨S64x64x1, .f32⟩
  | 120 => ⟨S1x64x512, .f32⟩
  | 121 => ⟨S64x64x512, .f32⟩
  | 122 => ⟨S64x64x512, .f32⟩
  | 123 => ⟨S64x64x512, .f32⟩
  | 124 => ⟨S_, .f32⟩
  | 125 => ⟨S64x512, .f32⟩
  | 126 => ⟨S64x512x1, .f32⟩
  | 127 => ⟨S64x1x512, .f32⟩
  | _ => ⟨S512x4, .f32⟩

abbrev hbmTy0_1 (i : Nat) : BufTy := match i % 128 with
  | 0 => ⟨S64x512x512, .f32⟩
  | 1 => ⟨S64x512x512, .f32⟩
  | 2 => ⟨S64x512x512, .f32⟩
  | 3 => ⟨S_, .f32⟩
  | 4 => ⟨S512x512, .f32⟩
  | 5 => ⟨S512x512, .f32⟩
  | 6 => ⟨S262144, .f32⟩
  | 7 => ⟨S256, .f32⟩
  | 8 => ⟨S256, .i32⟩
  | 9 => ⟨S_, .i32⟩
  | 10 => ⟨S_, .i32⟩
  | 11 => ⟨S256, .i32⟩
  | 12 => ⟨S256, .i32⟩
  | 13 => ⟨S256, .i32⟩
  | 14 => ⟨S_, .i32⟩
  | 15 => ⟨S256, .i32⟩
  | 16 => ⟨S256, .i1⟩
  | 17 => ⟨S256, .i32⟩
  | 18 => ⟨S256, .i32⟩
  | 19 => ⟨S_, .i32⟩
  | 20 => ⟨S256, .i32⟩
  | 21 => ⟨S256, .i1⟩
  | 22 => ⟨S256, .i1⟩
  | 23 => ⟨S_, .i32⟩
  | 24 => ⟨S256, .i32⟩
  | 25 => ⟨S256, .i32⟩
  | 26 => ⟨S256, .i32⟩
  | 27 => ⟨S_, .i32⟩
  | 28 => ⟨S_, .i32⟩
  | 29 => ⟨S_, .i32⟩
  | 30 => ⟨S_, .i1⟩
  | 31 => ⟨S_, .i32⟩
  | 32 => ⟨S_, .i32⟩
  | 33 => ⟨S256, .i32⟩
  | 34 => ⟨S256, .i32⟩
  | 35 => ⟨S_, .i32⟩
  | 36 => ⟨S256, .i32⟩
  | 37 => ⟨S256, .i1⟩
  | 38 => ⟨S_, .i32⟩
  | 39 => ⟨S256, .i32⟩
  | 40 => ⟨S256, .i1⟩
  | 41 => ⟨S_, .i32⟩
  | 42 => ⟨S_, .i1⟩
  | 43 => ⟨S256, .i1⟩
  | 44 => ⟨S256, .i1⟩
  | 45 => ⟨S256, .i1⟩
  | 46 => ⟨S256, .i32⟩
  | 47 => ⟨S256, .i32⟩
  | 48 => ⟨S256, .i32⟩
  | 49 => ⟨S_, .f32⟩
  | 50 => ⟨S256, .f32⟩
  | 51 => ⟨S256, .i1⟩
  | 52 => ⟨S262144, .f32⟩
  | 53 => ⟨S_, .i32⟩
  | 54 => ⟨S256, .i32⟩
  | 55 => ⟨S256, .i1⟩
  | 56 => ⟨S_, .i32⟩
  | 57 => ⟨S256, .i32⟩
  | 58 => ⟨S256, .i32⟩
  | 59 => ⟨S256, .i32⟩
  | 60 => ⟨S256x1, .i32⟩
  | 61 => ⟨S256, .f32⟩
  | 62 => ⟨S256, .i32⟩
  | 63 => ⟨S256, .i32⟩
  | 64 => ⟨S256, .i32⟩
  | 65 => ⟨S_, .f32⟩
  | 66 => ⟨S512x512, .f32⟩
  | 67 => ⟨S512x512, .f32⟩
  | 68 => ⟨S512x512, .f32⟩
  | 69 => ⟨S262144, .f32⟩
  | 70 => ⟨S_, .f32⟩
  | 71 => ⟨S262144, .f32⟩
  | 72 => ⟨S262144, .i1⟩
  | 73 => ⟨S_, .f32⟩
  | 74 => ⟨S_, .f32⟩
  | 75 => ⟨S262144, .f32⟩
  | 76 => ⟨S262144, .f32⟩
  | 77 => ⟨S768, .f32⟩
  | 78 => ⟨S768, .i32⟩
  | 79 => ⟨S_, .i32⟩
  | 80 => ⟨S_, .i32⟩
  | 81 => ⟨S768, .i32⟩
  | 82 => ⟨S768, .i32⟩
  | 83 => ⟨S768, .i32⟩
  | 84 => ⟨S_, .i32⟩
  | 85 => ⟨S768, .i32⟩
  | 86 => ⟨S768, .i1⟩
  | 87 => ⟨S768, .i32⟩
  | 88 => ⟨S768, .i32⟩
  | 89 => ⟨S_, .i32⟩
  | 90 => ⟨S768, .i32⟩
  | 91 => ⟨S768, .i1⟩
  | 92 => ⟨S768, .i1⟩
  | 93 => ⟨S_, .i32⟩
  | 94 => ⟨S768, .i32⟩
  | 95 => ⟨S768, .i32⟩
  | 96 => ⟨S768, .i32⟩
  | 97 => ⟨S_, .i32⟩
  | 98 => ⟨S_, .i32⟩
  | 99 => ⟨S_, .i32⟩
  | 100 => ⟨S_, .i1⟩
  | 101 => ⟨S_, .i32⟩
  | 102 => ⟨S_, .i32⟩
  | 103 => ⟨S768, .i32⟩
  | 104 => ⟨S768, .i32⟩
  | 105 => ⟨S_, .i32⟩
  | 106 => ⟨S768, .i32⟩
  | 107 => ⟨S768, .i1⟩
  | 108 => ⟨S_, .i32⟩
  | 109 => ⟨S768, .i32⟩
  | 110 => ⟨S768, .i1⟩
  | 111 => ⟨S_, .i32⟩
  | 112 => ⟨S_, .i1⟩
  | 113 => ⟨S768, .i1⟩
  | 114 => ⟨S768, .i1⟩
  | 115 => ⟨S768, .i1⟩
  | 116 => ⟨S768, .i32⟩
  | 117 => ⟨S768, .i32⟩
  | 118 => ⟨S768, .i32⟩
  | 119 => ⟨S1024, .i32⟩
  | 120 => ⟨S1024, .i32⟩
  | 121 => ⟨S1024x1, .i32⟩
  | 122 => ⟨S1024x1, .i32⟩
  | 123 => ⟨S1024x2, .i32⟩
  | 124 => ⟨S_, .i32⟩
  | 125 => ⟨S768, .i32⟩
  | 126 => ⟨S1024, .i32⟩
  | 127 => ⟨S512x64, .f32⟩
  | _ => ⟨S512x4, .f32⟩

abbrev hbmTy0_2 (i : Nat) : BufTy := match i % 128 with
  | 0 => ⟨S512x64, .f32⟩
  | 1 => ⟨S512x512, .f32⟩
  | 2 => ⟨S512x512, .f32⟩
  | 3 => ⟨S512x512, .f32⟩
  | 4 => ⟨S_, .f32⟩
  | 5 => ⟨S512x512, .f32⟩
  | 6 => ⟨S512x512, .i1⟩
  | 7 => ⟨S512x512, .i32⟩
  | 8 => ⟨S256, .f32⟩
  | 9 => ⟨S256, .f32⟩
  | _ => ⟨S512x4, .f32⟩

abbrev hbmTy (i : Nat) : BufTy := match i / 128 with
  | 0 => hbmTy0_0 i
  | 1 => hbmTy0_1 i
  | 2 => hbmTy0_2 i
  | _ => ⟨S512x4, .f32⟩

abbrev bufTy : (tb : Table) → Fin (tcTables nBuf tb) → BufTy
  | .hbm, ⟨i, _⟩ => hbmTy i
  | _, _ => ⟨S512x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_cst : Ref sig .tc := ⟨.hbm, 43, rfl⟩
abbrev main_call0_v0 : Ref sig .tc := ⟨.hbm, 44, rfl⟩
abbrev main_call0_v1 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_cst_0 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_cst_1 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_c : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_c_2 : Ref sig .tc := ⟨.hbm, 78, rfl⟩
abbrev main_v66 : Ref sig .tc := ⟨.hbm, 79, rfl⟩
abbrev main_v67 : Ref sig .tc := ⟨.hbm, 80, rfl⟩
abbrev main_v68 : Ref sig .tc := ⟨.hbm, 81, rfl⟩
abbrev main_v69 : Ref sig .tc := ⟨.hbm, 82, rfl⟩
abbrev main_c_3 : Ref sig .tc := ⟨.hbm, 83, rfl⟩
abbrev main_v70 : Ref sig .tc := ⟨.hbm, 84, rfl⟩
abbrev main_v71 : Ref sig .tc := ⟨.hbm, 85, rfl⟩
abbrev main_v72 : Ref sig .tc := ⟨.hbm, 86, rfl⟩
abbrev main_cst_4 : Ref sig .tc := ⟨.hbm, 87, rfl⟩
abbrev main_v73 : Ref sig .tc := ⟨.hbm, 88, rfl⟩
abbrev main_v74 : Ref sig .tc := ⟨.hbm, 89, rfl⟩
abbrev main_v75 : Ref sig .tc := ⟨.hbm, 90, rfl⟩
abbrev main_v76 : Ref sig .tc := ⟨.hbm, 91, rfl⟩
abbrev main_v77 : Ref sig .tc := ⟨.hbm, 92, rfl⟩
abbrev main_v78 : Ref sig .tc := ⟨.hbm, 93, rfl⟩
abbrev main_v79 : Ref sig .tc := ⟨.hbm, 94, rfl⟩
abbrev main_v80 : Ref sig .tc := ⟨.hbm, 95, rfl⟩
abbrev main_v81 : Ref sig .tc := ⟨.hbm, 96, rfl⟩
abbrev main_v82 : Ref sig .tc := ⟨.hbm, 97, rfl⟩
abbrev main_v83 : Ref sig .tc := ⟨.hbm, 98, rfl⟩
abbrev main_v84 : Ref sig .tc := ⟨.hbm, 99, rfl⟩
abbrev main_v85 : Ref sig .tc := ⟨.hbm, 100, rfl⟩
abbrev main_v86 : Ref sig .tc := ⟨.hbm, 101, rfl⟩
abbrev main_cst_5 : Ref sig .tc := ⟨.hbm, 102, rfl⟩
abbrev main_v87 : Ref sig .tc := ⟨.hbm, 103, rfl⟩
abbrev main_v88 : Ref sig .tc := ⟨.hbm, 104, rfl⟩
abbrev main_v89 : Ref sig .tc := ⟨.hbm, 105, rfl⟩
abbrev main_v90 : Ref sig .tc := ⟨.hbm, 106, rfl⟩
abbrev main_v91 : Ref sig .tc := ⟨.hbm, 107, rfl⟩
abbrev main_v92 : Ref sig .tc := ⟨.hbm, 108, rfl⟩
abbrev main_cst_6 : Ref sig .tc := ⟨.hbm, 109, rfl⟩
abbrev main_v93 : Ref sig .tc := ⟨.hbm, 110, rfl⟩
abbrev main_cst_7 : Ref sig .tc := ⟨.hbm, 111, rfl⟩
abbrev main_v94 : Ref sig .tc := ⟨.hbm, 112, rfl⟩
abbrev main_v95 : Ref sig .tc := ⟨.hbm, 113, rfl⟩
abbrev main_v96 : Ref sig .tc := ⟨.hbm, 114, rfl⟩
abbrev main_cst_8 : Ref sig .tc := ⟨.hbm, 115, rfl⟩
abbrev main_v97 : Ref sig .tc := ⟨.hbm, 116, rfl⟩
abbrev main_v98 : Ref sig .tc := ⟨.hbm, 117, rfl⟩
abbrev main_v99 : Ref sig .tc := ⟨.hbm, 118, rfl⟩
abbrev main_v100 : Ref sig .tc := ⟨.hbm, 119, rfl⟩
abbrev main_v101 : Ref sig .tc := ⟨.hbm, 120, rfl⟩
abbrev main_v102 : Ref sig .tc := ⟨.hbm, 121, rfl⟩
abbrev main_v103 : Ref sig .tc := ⟨.hbm, 122, rfl⟩
abbrev main_v104 : Ref sig .tc := ⟨.hbm, 123, rfl⟩
abbrev main_cst_9 : Ref sig .tc := ⟨.hbm, 124, rfl⟩
abbrev main_v105 : Ref sig .tc := ⟨.hbm, 125, rfl⟩
abbrev main_v106 : Ref sig .tc := ⟨.hbm, 126, rfl⟩
abbrev main_v107 : Ref sig .tc := ⟨.hbm, 127, rfl⟩
abbrev main_v108 : Ref sig .tc := ⟨.hbm, 128, rfl⟩
abbrev main_v109 : Ref sig .tc := ⟨.hbm, 129, rfl⟩
abbrev main_v110 : Ref sig .tc := ⟨.hbm, 130, rfl⟩
abbrev main_cst_10 : Ref sig .tc := ⟨.hbm, 131, rfl⟩
abbrev main_v111 : Ref sig .tc := ⟨.hbm, 132, rfl⟩
abbrev main_v112 : Ref sig .tc := ⟨.hbm, 133, rfl⟩
abbrev main_v113 : Ref sig .tc := ⟨.hbm, 134, rfl⟩
abbrev main_values : Ref sig .tc := ⟨.hbm, 135, rfl⟩
abbrev main_indices : Ref sig .tc := ⟨.hbm, 136, rfl⟩
abbrev main_c_11 : Ref sig .tc := ⟨.hbm, 137, rfl⟩
abbrev main_call1_v0 : Ref sig .tc := ⟨.hbm, 138, rfl⟩
abbrev main_call1_v1 : Ref sig .tc := ⟨.hbm, 139, rfl⟩
abbrev main_call1_v2 : Ref sig .tc := ⟨.hbm, 140, rfl⟩
abbrev main_call1_v3 : Ref sig .tc := ⟨.hbm, 141, rfl⟩
abbrev main_call1_v4 : Ref sig .tc := ⟨.hbm, 142, rfl⟩
abbrev main_call1_v5 : Ref sig .tc := ⟨.hbm, 143, rfl⟩
abbrev main_call1_v6 : Ref sig .tc := ⟨.hbm, 144, rfl⟩
abbrev main_call1_v7 : Ref sig .tc := ⟨.hbm, 145, rfl⟩
abbrev main_call1_v8 : Ref sig .tc := ⟨.hbm, 146, rfl⟩
abbrev main_call1_c : Ref sig .tc := ⟨.hbm, 147, rfl⟩
abbrev main_call1_v9 : Ref sig .tc := ⟨.hbm, 148, rfl⟩
abbrev main_call1_v10 : Ref sig .tc := ⟨.hbm, 149, rfl⟩
abbrev main_call1_v11 : Ref sig .tc := ⟨.hbm, 150, rfl⟩
abbrev main_call1_c_0 : Ref sig .tc := ⟨.hbm, 151, rfl⟩
abbrev main_call1_v12 : Ref sig .tc := ⟨.hbm, 152, rfl⟩
abbrev main_call1_v13 : Ref sig .tc := ⟨.hbm, 153, rfl⟩
abbrev main_v114 : Ref sig .tc := ⟨.hbm, 154, rfl⟩
abbrev main_c_12 : Ref sig .tc := ⟨.hbm, 155, rfl⟩
abbrev main_call2_v0 : Ref sig .tc := ⟨.hbm, 156, rfl⟩
abbrev main_call2_c : Ref sig .tc := ⟨.hbm, 157, rfl⟩
abbrev main_call2_v1 : Ref sig .tc := ⟨.hbm, 158, rfl⟩
abbrev main_call2_c_0 : Ref sig .tc := ⟨.hbm, 159, rfl⟩
abbrev main_call2_v2 : Ref sig .tc := ⟨.hbm, 160, rfl⟩
abbrev main_call2_v3 : Ref sig .tc := ⟨.hbm, 161, rfl⟩
abbrev main_call2_v4 : Ref sig .tc := ⟨.hbm, 162, rfl⟩
abbrev main_call2_c_1 : Ref sig .tc := ⟨.hbm, 163, rfl⟩
abbrev main_call2_v5 : Ref sig .tc := ⟨.hbm, 164, rfl⟩
abbrev main_call2_v6 : Ref sig .tc := ⟨.hbm, 165, rfl⟩
abbrev main_call2_c_2 : Ref sig .tc := ⟨.hbm, 166, rfl⟩
abbrev main_call2_v7 : Ref sig .tc := ⟨.hbm, 167, rfl⟩
abbrev main_call2_v8 : Ref sig .tc := ⟨.hbm, 168, rfl⟩
abbrev main_call2_c_3 : Ref sig .tc := ⟨.hbm, 169, rfl⟩
abbrev main_call2_v9 : Ref sig .tc := ⟨.hbm, 170, rfl⟩
abbrev main_call2_v10 : Ref sig .tc := ⟨.hbm, 171, rfl⟩
abbrev main_call2_v11 : Ref sig .tc := ⟨.hbm, 172, rfl⟩
abbrev main_call2_v12 : Ref sig .tc := ⟨.hbm, 173, rfl⟩
abbrev main_call2_v13 : Ref sig .tc := ⟨.hbm, 174, rfl⟩
abbrev main_call2_v14 : Ref sig .tc := ⟨.hbm, 175, rfl⟩
abbrev main_v115 : Ref sig .tc := ⟨.hbm, 176, rfl⟩
abbrev main_cst_13 : Ref sig .tc := ⟨.hbm, 177, rfl⟩
abbrev main_v116 : Ref sig .tc := ⟨.hbm, 178, rfl⟩
abbrev main_v117 : Ref sig .tc := ⟨.hbm, 179, rfl⟩
abbrev main_v118 : Ref sig .tc := ⟨.hbm, 180, rfl⟩
abbrev main_c_14 : Ref sig .tc := ⟨.hbm, 181, rfl⟩
abbrev main_v119 : Ref sig .tc := ⟨.hbm, 182, rfl⟩
abbrev main_v120 : Ref sig .tc := ⟨.hbm, 183, rfl⟩
abbrev main_c_15 : Ref sig .tc := ⟨.hbm, 184, rfl⟩
abbrev main_v121 : Ref sig .tc := ⟨.hbm, 185, rfl⟩
abbrev main_v122 : Ref sig .tc := ⟨.hbm, 186, rfl⟩
abbrev main_v123 : Ref sig .tc := ⟨.hbm, 187, rfl⟩
abbrev main_v124 : Ref sig .tc := ⟨.hbm, 188, rfl⟩
abbrev main_v125 : Ref sig .tc := ⟨.hbm, 189, rfl⟩
abbrev main_v126 : Ref sig .tc := ⟨.hbm, 190, rfl⟩
abbrev main_v127 : Ref sig .tc := ⟨.hbm, 191, rfl⟩
abbrev main_v128 : Ref sig .tc := ⟨.hbm, 192, rfl⟩
abbrev main_cst_16 : Ref sig .tc := ⟨.hbm, 193, rfl⟩
abbrev main_v129 : Ref sig .tc := ⟨.hbm, 194, rfl⟩
abbrev main_v130 : Ref sig .tc := ⟨.hbm, 195, rfl⟩
abbrev main_v131 : Ref sig .tc := ⟨.hbm, 196, rfl⟩
abbrev main_v132 : Ref sig .tc := ⟨.hbm, 197, rfl⟩
abbrev main_cst_17 : Ref sig .tc := ⟨.hbm, 198, rfl⟩
abbrev main_v133 : Ref sig .tc := ⟨.hbm, 199, rfl⟩
abbrev main_v134 : Ref sig .tc := ⟨.hbm, 200, rfl⟩
abbrev main_cst_18 : Ref sig .tc := ⟨.hbm, 201, rfl⟩
abbrev main_call3_v0 : Ref sig .tc := ⟨.hbm, 202, rfl⟩
abbrev main_call3_v1 : Ref sig .tc := ⟨.hbm, 203, rfl⟩
abbrev main_v135 : Ref sig .tc := ⟨.hbm, 204, rfl⟩
abbrev main_values_19 : Ref sig .tc := ⟨.hbm, 205, rfl⟩
abbrev main_indices_20 : Ref sig .tc := ⟨.hbm, 206, rfl⟩
abbrev main_c_21 : Ref sig .tc := ⟨.hbm, 207, rfl⟩
abbrev main_call4_v0 : Ref sig .tc := ⟨.hbm, 208, rfl⟩
abbrev main_call4_v1 : Ref sig .tc := ⟨.hbm, 209, rfl⟩
abbrev main_call4_v2 : Ref sig .tc := ⟨.hbm, 210, rfl⟩
abbrev main_call4_v3 : Ref sig .tc := ⟨.hbm, 211, rfl⟩
abbrev main_call4_v4 : Ref sig .tc := ⟨.hbm, 212, rfl⟩
abbrev main_call4_v5 : Ref sig .tc := ⟨.hbm, 213, rfl⟩
abbrev main_call4_v6 : Ref sig .tc := ⟨.hbm, 214, rfl⟩
abbrev main_call4_v7 : Ref sig .tc := ⟨.hbm, 215, rfl⟩
abbrev main_call4_v8 : Ref sig .tc := ⟨.hbm, 216, rfl⟩
abbrev main_call4_c : Ref sig .tc := ⟨.hbm, 217, rfl⟩
abbrev main_call4_v9 : Ref sig .tc := ⟨.hbm, 218, rfl⟩
abbrev main_call4_v10 : Ref sig .tc := ⟨.hbm, 219, rfl⟩
abbrev main_call4_v11 : Ref sig .tc := ⟨.hbm, 220, rfl⟩
abbrev main_call4_c_0 : Ref sig .tc := ⟨.hbm, 221, rfl⟩
abbrev main_call4_v12 : Ref sig .tc := ⟨.hbm, 222, rfl⟩
abbrev main_call4_v13 : Ref sig .tc := ⟨.hbm, 223, rfl⟩
abbrev main_v136 : Ref sig .tc := ⟨.hbm, 224, rfl⟩
abbrev main_c_22 : Ref sig .tc := ⟨.hbm, 225, rfl⟩
abbrev main_call5_v0 : Ref sig .tc := ⟨.hbm, 226, rfl⟩
abbrev main_call5_c : Ref sig .tc := ⟨.hbm, 227, rfl⟩
abbrev main_call5_v1 : Ref sig .tc := ⟨.hbm, 228, rfl⟩
abbrev main_call5_c_0 : Ref sig .tc := ⟨.hbm, 229, rfl⟩
abbrev main_call5_v2 : Ref sig .tc := ⟨.hbm, 230, rfl⟩
abbrev main_call5_v3 : Ref sig .tc := ⟨.hbm, 231, rfl⟩
abbrev main_call5_v4 : Ref sig .tc := ⟨.hbm, 232, rfl⟩
abbrev main_call5_c_1 : Ref sig .tc := ⟨.hbm, 233, rfl⟩
abbrev main_call5_v5 : Ref sig .tc := ⟨.hbm, 234, rfl⟩
abbrev main_call5_v6 : Ref sig .tc := ⟨.hbm, 235, rfl⟩
abbrev main_call5_c_2 : Ref sig .tc := ⟨.hbm, 236, rfl⟩
abbrev main_call5_v7 : Ref sig .tc := ⟨.hbm, 237, rfl⟩
abbrev main_call5_v8 : Ref sig .tc := ⟨.hbm, 238, rfl⟩
abbrev main_call5_c_3 : Ref sig .tc := ⟨.hbm, 239, rfl⟩
abbrev main_call5_v9 : Ref sig .tc := ⟨.hbm, 240, rfl⟩
abbrev main_call5_v10 : Ref sig .tc := ⟨.hbm, 241, rfl⟩
abbrev main_call5_v11 : Ref sig .tc := ⟨.hbm, 242, rfl⟩
abbrev main_call5_v12 : Ref sig .tc := ⟨.hbm, 243, rfl⟩
abbrev main_call5_v13 : Ref sig .tc := ⟨.hbm, 244, rfl⟩
abbrev main_call5_v14 : Ref sig .tc := ⟨.hbm, 245, rfl⟩
abbrev main_v137 : Ref sig .tc := ⟨.hbm, 246, rfl⟩
abbrev main_v138 : Ref sig .tc := ⟨.hbm, 247, rfl⟩
abbrev main_v139 : Ref sig .tc := ⟨.hbm, 248, rfl⟩
abbrev main_v140 : Ref sig .tc := ⟨.hbm, 249, rfl⟩
abbrev main_v141 : Ref sig .tc := ⟨.hbm, 250, rfl⟩
abbrev main_v142 : Ref sig .tc := ⟨.hbm, 251, rfl⟩
abbrev main_c_23 : Ref sig .tc := ⟨.hbm, 252, rfl⟩
abbrev main_v143 : Ref sig .tc := ⟨.hbm, 253, rfl⟩
abbrev main_v144 : Ref sig .tc := ⟨.hbm, 254, rfl⟩
abbrev main_v145 : Ref sig .tc := ⟨.hbm, 255, rfl⟩
abbrev main_v146 : Ref sig .tc := ⟨.hbm, 256, rfl⟩
abbrev main_v147 : Ref sig .tc := ⟨.hbm, 257, rfl⟩
abbrev main_v148 : Ref sig .tc := ⟨.hbm, 258, rfl⟩
abbrev main_v149 : Ref sig .tc := ⟨.hbm, 259, rfl⟩
abbrev main_cst_24 : Ref sig .tc := ⟨.hbm, 260, rfl⟩
abbrev main_v150 : Ref sig .tc := ⟨.hbm, 261, rfl⟩
abbrev main_v151 : Ref sig .tc := ⟨.hbm, 262, rfl⟩
abbrev main_v152 : Ref sig .tc := ⟨.hbm, 263, rfl⟩
abbrev main_v153 : Ref sig .tc := ⟨.hbm, 264, rfl⟩
abbrev main_v154 : Ref sig .tc := ⟨.hbm, 265, rfl⟩

abbrev nD : Nat := 1
abbrev τ : Topo := Topo.v7x

variable {F : FTy → Type} [FloatOps F]
-- ==== Proof.KernelIdealSelect.lean ====
/- The selection of the foreground pairs in the kernel body: the branch on the number of positives, as one value. -/
module

public import proofs.«01_k».proof.Proof.Gen.KernelIdeal.Frame
public import proofs.«01_k».proof.Proof.Gen.KernelIdeal.Skeleton
public import proofs.«01_k».proof.Proof.Gen.KernelIdeal.Points
public import Idealize.ShloMosaic.Lib.Exec

@[expose] public section

set_option maxRecDepth 16384

noncomputable section

namespace Cert.KernelIdeal.Body

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- One step of the bisection for the 256th largest order word: the interval's half that keeps the count of larger
    words below 256 at its upper end. -/
def fgStep (w : IVec S512x512 32) (p : BitVec 32 × BitVec 32) : BitVec 32 × BitVec 32 :=
  let v1533 : BitVec 32 := Scalar.subi p.2 p.1
  let v1534 : BitVec 32 := Scalar.divsi v1533 2#32
  let v1535 : BitVec 1 := Scalar.cmpi .sgt v1533 0#32
  let v1536 : BitVec 32 := Scalar.extui v1535
  let v1537 : BitVec 1 := Scalar.cmpi .slt v1533 0#32
  let v1538 : BitVec 32 := Scalar.extui v1537
  let v1539 : BitVec 32 := Scalar.subi v1536 v1538
  let v1540 : BitVec 1 := Scalar.cmpi .sgt 2#32 0#32
  let v1541 : BitVec 32 := Scalar.extui v1540
  let v1542 : BitVec 1 := Scalar.cmpi .slt 2#32 0#32
  let v1543 : BitVec 32 := Scalar.extui v1542
  let v1544 : BitVec 32 := Scalar.subi v1541 v1543
  let v1545 : BitVec 1 := Scalar.cmpi .ne v1539 v1544
  let v1546 : BitVec 32 := Scalar.remsi v1533 2#32
  let v1547 : BitVec 1 := Scalar.cmpi .ne v1546 0#32
  let v1548 : BitVec 1 := Scalar.andi v1545 v1547
  let v1549 : BitVec 32 := Scalar.subi v1534 1#32
  let v1550 : BitVec 32 := Scalar.select v1548 v1549 v1534
  let v1551 : BitVec 32 := Scalar.addi p.1 v1550
  let v1558 : BitVec 32 := extractAt ![0, 0, 0] (k0_pay22 w p.1 p.2) inpos_S1x1x1_p0_0_0
  let v1559 : BitVec 1 := Scalar.cmpi .slt v1558 256#32
  (Scalar.select v1559 p.1 v1551, Scalar.select v1559 v1551 p.2)

/-- The order words of the rare branch: for each pair the number of pairs with a smaller score. -/
def orderWords (v0 v1 : IVec S512x512 32) (v841 : FVec F S64x512 .f32) (v850 : IVec S512x512 1)
    (v856 : FVec F S512x64 .f32) : IVec S512x512 32 :=
  let a1 := k0_pay2 v841 v856
  let a2 := k0_pay5 v841 v856 a1 (k0_pay3 v856) (k0_pay4 v841)
  let a3 := k0_pay8 v841 v856 a2 (k0_pay6 v856) (k0_pay7 v841)
  let a4 := k0_pay11 v841 v856 a3 (k0_pay9 v856) (k0_pay10 v841)
  let a5 := k0_pay14 v841 v856 a4 (k0_pay12 v856) (k0_pay13 v841)
  let a6 := k0_pay17 v841 v856 a5 (k0_pay15 v856) (k0_pay16 v841)
  Scf.fold (n := k0_t1_loop.trips)
    (fun k acc => k0_pay21 v0 v1 v841 v850 v856 a6 (k0_pay18 v856) (k0_pay19 v841) k acc) k0_pay20

/-- The 256th largest order word, by bisection. -/
def fgThreshold (w : IVec S512x512 32) : BitVec 32 :=
  (Scf.fold (n := k0_t2_loop.trips) (fun _ p => fgStep w p) (4294967295#32, 1065353216#32)).2

/-- The three values of the rare branch, where more pairs are positive than there are places: the pairs above the
    threshold, the pairs at the threshold, and how many of the latter are needed. -/
def rareSel (v0 v1 : IVec S512x512 32) (v841 : FVec F S64x512 .f32) (v850 : IVec S512x512 1)
    (v856 : FVec F S512x64 .f32) : FVec F S512x512 .f32 × FVec F S512x512 .f32 × F .f32 :=
  (k0_pay23 (F := F) (orderWords v0 v1 v841 v850 v856) (fgThreshold (orderWords v0 v1 v841 v850 v856)),
     k0_pay24 (F := F) (orderWords v0 v1 v841 v850 v856) (fgThreshold (orderWords v0 v1 v841 v850 v856)),
     k0_pay104 (k0_pay25 (F := F) (orderWords v0 v1 v841 v850 v856) (fgThreshold (orderWords v0 v1 v841 v850 v856))))

/-- The three values of the branch: the pairs taken outright, the pairs taken by lowest index, and how many of the
    latter are needed. -/
def fgSel (v0 v1 : IVec S512x512 32) (v841 : FVec F S64x512 .f32) (v850 : IVec S512x512 1)
    (v856 : FVec F S512x64 .f32) (v858 : FVec F S512x512 .f32) : FVec F S512x512 .f32 × FVec F S512x512 .f32 × F .f32 :=
  if Scalar.cmpi .ne (Scalar.extui (Scalar.cmpf .ole (k0_pay101 v858) (Scalar.ofBits .f32 0x43800000#32)) : BitVec 32) 0#32 = 1#1 then
    (v858, k0_pay102 v858, k0_pay103 v858)
  else
    rareSel v0 v1 v841 v850 v856

/-- The rare branch computes its values and touches no memory. -/
theorem part7_value (arg0 : Memref sig .tc .vmem S64x4 .f32) (harg0 : arg0.IsWhole) (arg1 : Memref sig .tc .vmem S4x512 .f32) (harg1 : arg1.IsWhole) (arg2 : Memref sig .tc .vmem S64x1 .i32) (harg2 : arg2.IsWhole) (arg3 : Memref sig .tc .vmem S1x512 .i32) (harg3 : arg3.IsWhole) (arg4 : Memref sig .tc .vmem S512x1 .i32) (harg4 : arg4.IsWhole) (arg5 : Memref sig .tc .vmem S64x64 .i32) (harg5 : arg5.IsWhole) (arg6 : Memref sig .tc .vmem S512x512 .i32) (harg6 : arg6.IsWhole) (arg7 : Memref sig .tc .vmem S1x256 .i32) (harg7 : arg7.IsWhole) (arg8 : Memref sig .tc .vmem S1x256 .f32) (harg8 : arg8.IsWhole) (arg9 : Memref sig .tc .vmem S1x256 .i32) (harg9 : arg9.IsWhole) (arg10 : Memref sig .tc .vmem S1x768 .i32) (harg10 : arg10.IsWhole) (arg11 : Memref sig .tc .vmem S512x512 .i32) (harg11 : arg11.IsWhole)
    (v0 v1 : IVec S512x512 32) (v841 : FVec F S64x512 .f32) (v850 : IVec S512x512 1)
    (v856 : FVec F S512x64 .f32) :
    k0_part7 (F := F) arg0 harg0 arg1 harg1 arg2 harg2 arg3 harg3 arg4 harg4 arg5 harg5 arg6 harg6 arg7 harg7 arg8 harg8 arg9 harg9 arg10 harg10 arg11 harg11 v0 v1 v841 v850 v856 =
      pure ⟨k0_pay23 (F := F) (orderWords v0 v1 v841 v850 v856) (fgThreshold (orderWords v0 v1 v841 v850 v856)),
        k0_pay24 (F := F) (orderWords v0 v1 v841 v850 v856) (fgThreshold (orderWords v0 v1 v841 v850 v856)),
        k0_pay25 (F := F) (orderWords v0 v1 v841 v850 v856) (fgThreshold (orderWords v0 v1 v841 v850 v856))⟩ := by
  rw [k0_part7_eq_skeleton]; unfold k0_part7_skel
  simp only [k0_part1_eq_skeleton, k0_part2_eq_skeleton, k0_part3_eq_skeleton, k0_part4_eq_skeleton, k0_part5_eq_skeleton, k0_part6_eq_skeleton]
  unfold k0_part1_skel k0_part2_skel k0_part3_skel k0_part4_skel k0_part5_skel k0_part6_skel
  simp only [pure_bind]
  have h1 := fun (a : FVec F S512x512 .f32) (b : FVec F S512x512 .f32) (c : FVec F S512x512 .f32) =>
    Scf.for_pure (E := TpuEff nD τ sig (Elt F) Λ₀ .tc) k0_t1_loop.lb k0_t1_loop.ub k0_t1_loop.st k0_t1_ok k0_pay20
      (k0_t1_body arg0 harg0 arg1 harg1 arg2 harg2 arg3 harg3 arg4 harg4 arg5 harg5 arg6 harg6 arg7 harg7 arg8 harg8 arg9 harg9 arg10 harg10 arg11 harg11 v0 v1 v841 v850 v856 a b c) (fun k acc => k0_pay21 v0 v1 v841 v850 v856 a b c k acc) (fun _ _ => rfl)
  have h2 := fun (w : IVec S512x512 32) =>
    Scf.for_pure (E := TpuEff nD τ sig (Elt F) Λ₀ .tc) k0_t2_loop.lb k0_t2_loop.ub k0_t2_loop.st k0_t2_ok
      (4294967295#32, 1065353216#32) (k0_t2_body arg0 harg0 arg1 harg1 arg2 harg2 arg3 harg3 arg4 harg4 arg5 harg5 arg6 harg6 arg7 harg7 arg8 harg8 arg9 harg9 arg10 harg10 arg11 harg11 v0 v1 v841 v850 v856 w) (fun _ p => fgStep w p) (fun _ ⟨_, _⟩ => rfl)
  unfold Scf.Loop.for
  rw [h1]
  show (Scf.for _ _ _ _ _ _ >>= _) = _
  rw [h2]
  rfl

/-- The part of the body holding the branch computes its values and touches no memory. -/
theorem part23_value (arg0 : Memref sig .tc .vmem S64x4 .f32) (harg0 : arg0.IsWhole) (arg1 : Memref sig .tc .vmem S4x512 .f32) (harg1 : arg1.IsWhole) (arg2 : Memref sig .tc .vmem S64x1 .i32) (harg2 : arg2.IsWhole) (arg3 : Memref sig .tc .vmem S1x512 .i32) (harg3 : arg3.IsWhole) (arg4 : Memref sig .tc .vmem S512x1 .i32) (harg4 : arg4.IsWhole) (arg5 : Memref sig .tc .vmem S64x64 .i32) (harg5 : arg5.IsWhole) (arg6 : Memref sig .tc .vmem S512x512 .i32) (harg6 : arg6.IsWhole) (arg7 : Memref sig .tc .vmem S1x256 .i32) (harg7 : arg7.IsWhole) (arg8 : Memref sig .tc .vmem S1x256 .f32) (harg8 : arg8.IsWhole) (arg9 : Memref sig .tc .vmem S1x256 .i32) (harg9 : arg9.IsWhole) (arg10 : Memref sig .tc .vmem S1x768 .i32) (harg10 : arg10.IsWhole) (arg11 : Memref sig .tc .vmem S512x512 .i32) (harg11 : arg11.IsWhole)
    (v0 v1 : IVec S512x512 32) (v5 v9 : FVec F S512x512 .bf16) (v841 : FVec F S64x512 .f32)
    (v850 : IVec S512x512 1) (v856 : FVec F S512x64 .f32) (v858 : FVec F S512x512 .f32) (v868 v869 : IVec S512x512 1) :
    k0_part23 (F := F) arg0 harg0 arg1 harg1 arg2 harg2 arg3 harg3 arg4 harg4 arg5 harg5 arg6 harg6 arg7 harg7 arg8 harg8 arg9 harg9 arg10 harg10 arg11 harg11 v0 v1 v5 v9 v841 v850 v856 v858 v868 v869 =
      pure ⟨k0_pay99 v868 v869, k0_pay100 (F := F),
        k0_pay105 v5 v9 (fgSel v0 v1 v841 v850 v856 v858).1 (fgSel v0 v1 v841 v850 v856 v858).2.1 (fgSel v0 v1 v841 v850 v856 v858).2.2,
        k0_pay107 (F := F),
        k0_pay108 v5 v9 (fgSel v0 v1 v841 v850 v856 v858).1 (fgSel v0 v1 v841 v850 v856 v858).2.1 (fgSel v0 v1 v841 v850 v856 v858).2.2,
        iota .tc S256x512 32 [1] iota_S256x512_d1_w32,
        k0_pay109 v5 v9 (fgSel v0 v1 v841 v850 v856 v858).1 (fgSel v0 v1 v841 v850 v856 v858).2.1 (fgSel v0 v1 v841 v850 v856 v858).2.2,
        k0_pay110 v5 v9 (fgSel v0 v1 v841 v850 v856 v858).1 (fgSel v0 v1 v841 v850 v856 v858).2.1 (fgSel v0 v1 v841 v850 v856 v858).2.2⟩ := by
  rw [k0_part23_eq_skeleton]; unfold k0_part23_skel
  simp only [part7_value]
  by_cases h : Scalar.cmpi .ne (Scalar.extui (Scalar.cmpf .ole (k0_pay101 v858) (Scalar.ofBits .f32 0x43800000#32)) : BitVec 32) 0#32 = 1#1
  · have e : fgSel v0 v1 v841 v850 v856 v858 = (v858, k0_pay102 v858, k0_pay103 v858) := by unfold fgSel; rw [if_pos h]
    rw [e, if_pos h]; rfl
  · have e : fgSel v0 v1 v841 v850 v856 v858 = rareSel v0 v1 v841 v850 v856 := by
      unfold fgSel; rw [if_neg h]
    rw [e, if_neg h]; rfl

end Cert.KernelIdeal.Body

end
-- ==== Proof.KernelIdealBody.lean ====
/- The whole-body run of the kernel on whole staging buffers. -/
module

public import proofs.«01_k».proof.Proof.KernelIdealSelect

@[expose] public section

set_option maxRecDepth 16384

noncomputable section

namespace Cert.KernelIdeal.Body

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev VO0_7 : View sig .tc .vmem S1x256 .i32 := (Memref.whole cc0_stg7_0 : Memref sig .tc .vmem S1x256 .i32).view
abbrev VO0_8 : View sig .tc .vmem S1x256 .f32 := (Memref.whole cc0_stg8_0 : Memref sig .tc .vmem S1x256 .f32).view
abbrev VO0_9 : View sig .tc .vmem S1x256 .i32 := (Memref.whole cc0_stg9_0 : Memref sig .tc .vmem S1x256 .i32).view
abbrev VO0_10 : View sig .tc .vmem S1x768 .i32 := (Memref.whole cc0_stg10_0 : Memref sig .tc .vmem S1x768 .i32).view
abbrev VO0_11 : View sig .tc .vmem S512x512 .i32 := (Memref.whole cc0_stg11_0 : Memref sig .tc .vmem S512x512 .i32).view
abbrev ms0_0 (t : Fin cfg0.N) : Memref sig .tc .vmem S64x4 .f32 := win0_0.stage (cfg0.slots t 0)
abbrev hs0_0 (t : Fin cfg0.N) : (ms0_0 t).IsWhole := hstage0_0 0
abbrev ms0_1 (t : Fin cfg0.N) : Memref sig .tc .vmem S4x512 .f32 := win0_1.stage (cfg0.slots t 1)
abbrev hs0_1 (t : Fin cfg0.N) : (ms0_1 t).IsWhole := hstage0_1 0
abbrev ms0_2 (t : Fin cfg0.N) : Memref sig .tc .vmem S64x1 .i32 := win0_2.stage (cfg0.slots t 2)
abbrev hs0_2 (t : Fin cfg0.N) : (ms0_2 t).IsWhole := hstage0_2 0
abbrev ms0_3 (t : Fin cfg0.N) : Memref sig .tc .vmem S1x512 .i32 := win0_3.stage (cfg0.slots t 3)
abbrev hs0_3 (t : Fin cfg0.N) : (ms0_3 t).IsWhole := hstage0_3 0
abbrev ms0_4 (t : Fin cfg0.N) : Memref sig .tc .vmem S512x1 .i32 := win0_4.stage (cfg0.slots t 4)
abbrev hs0_4 (t : Fin cfg0.N) : (ms0_4 t).IsWhole := hstage0_4 0
abbrev ms0_5 (t : Fin cfg0.N) : Memref sig .tc .vmem S64x64 .i32 := win0_5.stage (cfg0.slots t 5)
abbrev hs0_5 (t : Fin cfg0.N) : (ms0_5 t).IsWhole := hstage0_5 0
abbrev ms0_6 (t : Fin cfg0.N) : Memref sig .tc .vmem S512x512 .i32 := win0_6.stage (cfg0.slots t 6)
abbrev hs0_6 (t : Fin cfg0.N) : (ms0_6 t).IsWhole := hstage0_6 0
abbrev ms0_7 (t : Fin cfg0.N) : Memref sig .tc .vmem S1x256 .i32 := win0_7.stage (cfg0.slots t 7)
abbrev hs0_7 (t : Fin cfg0.N) : (ms0_7 t).IsWhole := hstage0_7 0
abbrev ms0_8 (t : Fin cfg0.N) : Memref sig .tc .vmem S1x256 .f32 := win0_8.stage (cfg0.slots t 8)
abbrev hs0_8 (t : Fin cfg0.N) : (ms0_8 t).IsWhole := hstage0_8 0
abbrev ms0_9 (t : Fin cfg0.N) : Memref sig .tc .vmem S1x256 .i32 := win0_9.stage (cfg0.slots t 9)
abbrev hs0_9 (t : Fin cfg0.N) : (ms0_9 t).IsWhole := hstage0_9 0
abbrev ms0_10 (t : Fin cfg0.N) : Memref sig .tc .vmem S1x768 .i32 := win0_10.stage (cfg0.slots t 10)
abbrev hs0_10 (t : Fin cfg0.N) : (ms0_10 t).IsWhole := hstage0_10 0
abbrev ms0_11 (t : Fin cfg0.N) : Memref sig .tc .vmem S512x512 .i32 := win0_11.stage (cfg0.slots t 11)
abbrev hs0_11 (t : Fin cfg0.N) : (ms0_11 t).IsWhole := hstage0_11 0

set_option maxHeartbeats 2000000 in
/-- The body's run: from the inputs' staging buffers at their contents and the outputs' at anything, it ends with the
    inputs as they were and with every output's buffer written by the pieces listed here. -/
noncomputable def kernelRun (c : Dev nD) (arg0 : Memref sig .tc .vmem S64x4 .f32) (harg0 : arg0.IsWhole) (arg1 : Memref sig .tc .vmem S4x512 .f32) (harg1 : arg1.IsWhole) (arg2 : Memref sig .tc .vmem S64x1 .i32) (harg2 : arg2.IsWhole) (arg3 : Memref sig .tc .vmem S1x512 .i32) (harg3 : arg3.IsWhole) (arg4 : Memref sig .tc .vmem S512x1 .i32) (harg4 : arg4.IsWhole) (arg5 : Memref sig .tc .vmem S64x64 .i32) (harg5 : arg5.IsWhole) (arg6 : Memref sig .tc .vmem S512x512 .i32) (harg6 : arg6.IsWhole) (arg7 : Memref sig .tc .vmem S1x256 .i32) (harg7 : arg7.IsWhole) (arg8 : Memref sig .tc .vmem S1x256 .f32) (harg8 : arg8.IsWhole) (arg9 : Memref sig .tc .vmem S1x256 .i32) (harg9 : arg9.IsWhole) (arg10 : Memref sig .tc .vmem S1x768 .i32) (harg10 : arg10.IsWhole) (arg11 : Memref sig .tc .vmem S512x512 .i32) (harg11 : arg11.IsWhole)
    (x0 : Vec F S64x4 .f32) (x1 : Vec F S4x512 .f32) (x2 : Vec F S64x1 .i32) (x3 : Vec F S1x512 .i32) (x4 : Vec F S512x1 .i32) (x5 : Vec F S64x64 .i32) (x6 : Vec F S512x512 .i32) :
    Σ' (L7 : List (View.Piece (Elt F) S1x256 .i32)), Σ' (L8 : List (View.Piece (Elt F) S1x256 .f32)), Σ' (L9 : List (View.Piece (Elt F) S1x256 .i32)), Σ' (L10 : List (View.Piece (Elt F) S1x768 .i32)), { L11 : List (View.Piece (Elt F) S512x512 .i32) //
      ∀ (E : Set ℕ) (K : PUnit → sProp 𝕄),
        iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ (∃ f, arg7.view.loc (c : Thread nD τ) ↦[arg7.view.set]{fullShare} arg7.view.writes (Elt F) f L7) ∗ (∃ f, arg8.view.loc (c : Thread nD τ) ↦[arg8.view.set]{fullShare} arg8.view.writes (Elt F) f L8) ∗ (∃ f, arg9.view.loc (c : Thread nD τ) ↦[arg9.view.set]{fullShare} arg9.view.writes (Elt F) f L9) ∗ (∃ f, arg10.view.loc (c : Thread nD τ) ↦[arg10.view.set]{fullShare} arg10.view.writes (Elt F) f L10) ∗ (∃ f, arg11.view.loc (c : Thread nD τ) ↦[arg11.view.set]{fullShare} arg11.view.writes (Elt F) f L11)) -∗ K ⟨⟩))
          ⊢ wp frame (wpE (defs₀ (F := F)) Variants.none c none) E (cc0__main_body arg0 harg0 arg1 harg1 arg2 harg2 arg3 harg3 arg4 harg4 arg5 harg5 arg6 harg6 arg7 harg7 arg8 harg8 arg9 harg9 arg10 harg10 arg11 harg11) K } := by
  refine ⟨?_, ?_, ?_, ?_, ?_, fun E K => ?run⟩
  case run =>
    simp only [cc0__main_body_eq_skeleton]; unfold cc0__main_body_skel
    simp only [part23_value, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part24_eq_skeleton, k0_part25_eq_skeleton, k0_part26_eq_skeleton, k0_part27_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%d10, %f10, -, H10⟩, ⟨%d11, %f11, -, H11⟩, Hk⟩
    obtain rfl := harg0.eq_unread hf0; obtain rfl := harg1.eq_unread hf1; obtain rfl := harg2.eq_unread hf2; obtain rfl := harg3.eq_unread hf3; obtain rfl := harg4.eq_unread hf4; obtain rfl := harg5.eq_unread hf5; obtain rfl := harg6.eq_unread hf6
    sl_exec
    sl_step
    iapply Hk
    isplitl [H0]
    · iexists _; isplitr; · ipureintro; exact harg0.read_unread _
      iexact H0
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]; · iexists _; iexact H7
    isplitl [H8]; · iexists _; iexact H8
    isplitl [H9]; · iexists _; iexact H9
    isplitl [H10]; · iexists _; iexact H10
    iexists _; iexact H11

end Cert.KernelIdeal.Body

end
-- ==== Proof.KernelIdealFrame.lean ====
/- The frame of the program and what its launch leaves in every output. -/
module

public import proofs.«01_k».proof.Proof.KernelIdealBody
public import Idealize.ShloMosaic.Lib.Claim

@[expose] public section

set_option maxRecDepth 16384

noncomputable section

namespace Cert.KernelIdeal.Body

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The pieces of this output cover its block. -/
theorem cover7 (c : Dev nD) (arg0 : Memref sig .tc .vmem S64x4 .f32) (harg0 : arg0.IsWhole) (arg1 : Memref sig .tc .vmem S4x512 .f32) (harg1 : arg1.IsWhole) (arg2 : Memref sig .tc .vmem S64x1 .i32) (harg2 : arg2.IsWhole) (arg3 : Memref sig .tc .vmem S1x512 .i32) (harg3 : arg3.IsWhole) (arg4 : Memref sig .tc .vmem S512x1 .i32) (harg4 : arg4.IsWhole) (arg5 : Memref sig .tc .vmem S64x64 .i32) (harg5 : arg5.IsWhole) (arg6 : Memref sig .tc .vmem S512x512 .i32) (harg6 : arg6.IsWhole) (arg7 : Memref sig .tc .vmem S1x256 .i32) (harg7 : arg7.IsWhole) (arg8 : Memref sig .tc .vmem S1x256 .f32) (harg8 : arg8.IsWhole) (arg9 : Memref sig .tc .vmem S1x256 .i32) (harg9 : arg9.IsWhole) (arg10 : Memref sig .tc .vmem S1x768 .i32) (harg10 : arg10.IsWhole) (arg11 : Memref sig .tc .vmem S512x512 .i32) (harg11 : arg11.IsWhole)
    (x0 : Vec F S64x4 .f32) (x1 : Vec F S4x512 .f32) (x2 : Vec F S64x1 .i32) (x3 : Vec F S1x512 .i32) (x4 : Vec F S512x1 .i32) (x5 : Vec F S64x64 .i32) (x6 : Vec F S512x512 .i32) (y : S1x256.Idx) :
    ∃ pc ∈ (kernelRun c arg0 harg0 arg1 harg1 arg2 harg2 arg3 harg3 arg4 harg4 arg5 harg5 arg6 harg6 arg7 harg7 arg8 harg8 arg9 harg9 arg10 harg10 arg11 harg11 x0 x1 x2 x3 x4 x5 x6).1, y ∈ pc.1.set :=
  View.cover_of_tiledL (kernelRun c arg0 harg0 arg1 harg1 arg2 harg2 arg3 harg3 arg4 harg4 arg5 harg5 arg6 harg6 arg7 harg7 arg8 harg8 arg9 harg9 arg10 harg10 arg11 harg11 x0 x1 x2 x3 x4 x5 x6).1 S1x256.size (by sl_kernel_rfl) y

/-- What the run leaves in this output. -/
def out7 (c : Dev nD) (arg0 : Memref sig .tc .vmem S64x4 .f32) (harg0 : arg0.IsWhole) (arg1 : Memref sig .tc .vmem S4x512 .f32) (harg1 : arg1.IsWhole) (arg2 : Memref sig .tc .vmem S64x1 .i32) (harg2 : arg2.IsWhole) (arg3 : Memref sig .tc .vmem S1x512 .i32) (harg3 : arg3.IsWhole) (arg4 : Memref sig .tc .vmem S512x1 .i32) (harg4 : arg4.IsWhole) (arg5 : Memref sig .tc .vmem S64x64 .i32) (harg5 : arg5.IsWhole) (arg6 : Memref sig .tc .vmem S512x512 .i32) (harg6 : arg6.IsWhole) (arg7 : Memref sig .tc .vmem S1x256 .i32) (harg7 : arg7.IsWhole) (arg8 : Memref sig .tc .vmem S1x256 .f32) (harg8 : arg8.IsWhole) (arg9 : Memref sig .tc .vmem S1x256 .i32) (harg9 : arg9.IsWhole) (arg10 : Memref sig .tc .vmem S1x768 .i32) (harg10 : arg10.IsWhole) (arg11 : Memref sig .tc .vmem S512x512 .i32) (harg11 : arg11.IsWhole)
    (x0 : Vec F S64x4 .f32) (x1 : Vec F S4x512 .f32) (x2 : Vec F S64x1 .i32) (x3 : Vec F S1x512 .i32) (x4 : Vec F S512x1 .i32) (x5 : Vec F S64x64 .i32) (x6 : Vec F S512x512 .i32) : Vec F S1x256 .i32 :=
  VO0_7.read (Elt F) (VO0_7.writes (Elt F) VO0_7.junk (kernelRun c arg0 harg0 arg1 harg1 arg2 harg2 arg3 harg3 arg4 harg4 arg5 harg5 arg6 harg6 arg7 harg7 arg8 harg8 arg9 harg9 arg10 harg10 arg11 harg11 x0 x1 x2 x3 x4 x5 x6).1)

/-- The pieces of this output cover its block. -/
theorem cover8 (c : Dev nD) (arg0 : Memref sig .tc .vmem S64x4 .f32) (harg0 : arg0.IsWhole) (arg1 : Memref sig .tc .vmem S4x512 .f32) (harg1 : arg1.IsWhole) (arg2 : Memref sig .tc .vmem S64x1 .i32) (harg2 : arg2.IsWhole) (arg3 : Memref sig .tc .vmem S1x512 .i32) (harg3 : arg3.IsWhole) (arg4 : Memref sig .tc .vmem S512x1 .i32) (harg4 : arg4.IsWhole) (arg5 : Memref sig .tc .vmem S64x64 .i32) (harg5 : arg5.IsWhole) (arg6 : Memref sig .tc .vmem S512x512 .i32) (harg6 : arg6.IsWhole) (arg7 : Memref sig .tc .vmem S1x256 .i32) (harg7 : arg7.IsWhole) (arg8 : Memref sig .tc .vmem S1x256 .f32) (harg8 : arg8.IsWhole) (arg9 : Memref sig .tc .vmem S1x256 .i32) (harg9 : arg9.IsWhole) (arg10 : Memref sig .tc .vmem S1x768 .i32) (harg10 : arg10.IsWhole) (arg11 : Memref sig .tc .vmem S512x512 .i32) (harg11 : arg11.IsWhole)
    (x0 : Vec F S64x4 .f32) (x1 : Vec F S4x512 .f32) (x2 : Vec F S64x1 .i32) (x3 : Vec F S1x512 .i32) (x4 : Vec F S512x1 .i32) (x5 : Vec F S64x64 .i32) (x6 : Vec F S512x512 .i32) (y : S1x256.Idx) :
    ∃ pc ∈ (kernelRun c arg0 harg0 arg1 harg1 arg2 harg2 arg3 harg3 arg4 harg4 arg5 harg5 arg6 harg6 arg7 harg7 arg8 harg8 arg9 harg9 arg10 harg10 arg11 harg11 x0 x1 x2 x3 x4 x5 x6).2.1, y ∈ pc.1.set :=
  View.cover_of_tiledL (kernelRun c arg0 harg0 arg1 harg1 arg2 harg2 arg3 harg3 arg4 harg4 arg5 harg5 arg6 harg6 arg7 harg7 arg8 harg8 arg9 harg9 arg10 harg10 arg11 harg11 x0 x1 x2 x3 x4 x5 x6).2.1 S1x256.size (by sl_kernel_rfl) y

/-- What the run leaves in this output. -/
def out8 (c : Dev nD) (arg0 : Memref sig .tc .vmem S64x4 .f32) (harg0 : arg0.IsWhole) (arg1 : Memref sig .tc .vmem S4x512 .f32) (harg1 : arg1.IsWhole) (arg2 : Memref sig .tc .vmem S64x1 .i32) (harg2 : arg2.IsWhole) (arg3 : Memref sig .tc .vmem S1x512 .i32) (harg3 : arg3.IsWhole) (arg4 : Memref sig .tc .vmem S512x1 .i32) (harg4 : arg4.IsWhole) (arg5 : Memref sig .tc .vmem S64x64 .i32) (harg5 : arg5.IsWhole) (arg6 : Memref sig .tc .vmem S512x512 .i32) (harg6 : arg6.IsWhole) (arg7 : Memref sig .tc .vmem S1x256 .i32) (harg7 : arg7.IsWhole) (arg8 : Memref sig .tc .vmem S1x256 .f32) (harg8 : arg8.IsWhole) (arg9 : Memref sig .tc .vmem S1x256 .i32) (harg9 : arg9.IsWhole) (arg10 : Memref sig .tc .vmem S1x768 .i32) (harg10 : arg10.IsWhole) (arg11 : Memref sig .tc .vmem S512x512 .i32) (harg11 : arg11.IsWhole)
    (x0 : Vec F S64x4 .f32) (x1 : Vec F S4x512 .f32) (x2 : Vec F S64x1 .i32) (x3 : Vec F S1x512 .i32) (x4 : Vec F S512x1 .i32) (x5 : Vec F S64x64 .i32) (x6 : Vec F S512x512 .i32) : Vec F S1x256 .f32 :=
  VO0_8.read (Elt F) (VO0_8.writes (Elt F) VO0_8.junk (kernelRun c arg0 harg0 arg1 harg1 arg2 harg2 arg3 harg3 arg4 harg4 arg5 harg5 arg6 harg6 arg7 harg7 arg8 harg8 arg9 harg9 arg10 harg10 arg11 harg11 x0 x1 x2 x3 x4 x5 x6).2.1)

/-- The pieces of this output cover its block. -/
theorem cover9 (c : Dev nD) (arg0 : Memref sig .tc .vmem S64x4 .f32) (harg0 : arg0.IsWhole) (arg1 : Memref sig .tc .vmem S4x512 .f32) (harg1 : arg1.IsWhole) (arg2 : Memref sig .tc .vmem S64x1 .i32) (harg2 : arg2.IsWhole) (arg3 : Memref sig .tc .vmem S1x512 .i32) (harg3 : arg3.IsWhole) (arg4 : Memref sig .tc .vmem S512x1 .i32) (harg4 : arg4.IsWhole) (arg5 : Memref sig .tc .vmem S64x64 .i32) (harg5 : arg5.IsWhole) (arg6 : Memref sig .tc .vmem S512x512 .i32) (harg6 : arg6.IsWhole) (arg7 : Memref sig .tc .vmem S1x256 .i32) (harg7 : arg7.IsWhole) (arg8 : Memref sig .tc .vmem S1x256 .f32) (harg8 : arg8.IsWhole) (arg9 : Memref sig .tc .vmem S1x256 .i32) (harg9 : arg9.IsWhole) (arg10 : Memref sig .tc .vmem S1x768 .i32) (harg10 : arg10.IsWhole) (arg11 : Memref sig .tc .vmem S512x512 .i32) (harg11 : arg11.IsWhole)
    (x0 : Vec F S64x4 .f32) (x1 : Vec F S4x512 .f32) (x2 : Vec F S64x1 .i32) (x3 : Vec F S1x512 .i32) (x4 : Vec F S512x1 .i32) (x5 : Vec F S64x64 .i32) (x6 : Vec F S512x512 .i32) (y : S1x256.Idx) :
    ∃ pc ∈ (kernelRun c arg0 harg0 arg1 harg1 arg2 harg2 arg3 harg3 arg4 harg4 arg5 harg5 arg6 harg6 arg7 harg7 arg8 harg8 arg9 harg9 arg10 harg10 arg11 harg11 x0 x1 x2 x3 x4 x5 x6).2.2.1, y ∈ pc.1.set :=
  View.cover_of_tiledL (kernelRun c arg0 harg0 arg1 harg1 arg2 harg2 arg3 harg3 arg4 harg4 arg5 harg5 arg6 harg6 arg7 harg7 arg8 harg8 arg9 harg9 arg10 harg10 arg11 harg11 x0 x1 x2 x3 x4 x5 x6).2.2.1 S1x256.size (by sl_kernel_rfl) y

/-- What the run leaves in this output. -/
def out9 (c : Dev nD) (arg0 : Memref sig .tc .vmem S64x4 .f32) (harg0 : arg0.IsWhole) (arg1 : Memref sig .tc .vmem S4x512 .f32) (harg1 : arg1.IsWhole) (arg2 : Memref sig .tc .vmem S64x1 .i32) (harg2 : arg2.IsWhole) (arg3 : Memref sig .tc .vmem S1x512 .i32) (harg3 : arg3.IsWhole) (arg4 : Memref sig .tc .vmem S512x1 .i32) (harg4 : arg4.IsWhole) (arg5 : Memref sig .tc .vmem S64x64 .i32) (harg5 : arg5.IsWhole) (arg6 : Memref sig .tc .vmem S512x512 .i32) (harg6 : arg6.IsWhole) (arg7 : Memref sig .tc .vmem S1x256 .i32) (harg7 : arg7.IsWhole) (arg8 : Memref sig .tc .vmem S1x256 .f32) (harg8 : arg8.IsWhole) (arg9 : Memref sig .tc .vmem S1x256 .i32) (harg9 : arg9.IsWhole) (arg10 : Memref sig .tc .vmem S1x768 .i32) (harg10 : arg10.IsWhole) (arg11 : Memref sig .tc .vmem S512x512 .i32) (harg11 : arg11.IsWhole)
    (x0 : Vec F S64x4 .f32) (x1 : Vec F S4x512 .f32) (x2 : Vec F S64x1 .i32) (x3 : Vec F S1x512 .i32) (x4 : Vec F S512x1 .i32) (x5 : Vec F S64x64 .i32) (x6 : Vec F S512x512 .i32) : Vec F S1x256 .i32 :=
  VO0_9.read (Elt F) (VO0_9.writes (Elt F) VO0_9.junk (kernelRun c arg0 harg0 arg1 harg1 arg2 harg2 arg3 harg3 arg4 harg4 arg5 harg5 arg6 harg6 arg7 harg7 arg8 harg8 arg9 harg9 arg10 harg10 arg11 harg11 x0 x1 x2 x3 x4 x5 x6).2.2.1)

/-- The pieces of this output cover its block. -/
theorem cover10 (c : Dev nD) (arg0 : Memref sig .tc .vmem S64x4 .f32) (harg0 : arg0.IsWhole) (arg1 : Memref sig .tc .vmem S4x512 .f32) (harg1 : arg1.IsWhole) (arg2 : Memref sig .tc .vmem S64x1 .i32) (harg2 : arg2.IsWhole) (arg3 : Memref sig .tc .vmem S1x512 .i32) (harg3 : arg3.IsWhole) (arg4 : Memref sig .tc .vmem S512x1 .i32) (harg4 : arg4.IsWhole) (arg5 : Memref sig .tc .vmem S64x64 .i32) (harg5 : arg5.IsWhole) (arg6 : Memref sig .tc .vmem S512x512 .i32) (harg6 : arg6.IsWhole) (arg7 : Memref sig .tc .vmem S1x256 .i32) (harg7 : arg7.IsWhole) (arg8 : Memref sig .tc .vmem S1x256 .f32) (harg8 : arg8.IsWhole) (arg9 : Memref sig .tc .vmem S1x256 .i32) (harg9 : arg9.IsWhole) (arg10 : Memref sig .tc .vmem S1x768 .i32) (harg10 : arg10.IsWhole) (arg11 : Memref sig .tc .vmem S512x512 .i32) (harg11 : arg11.IsWhole)
    (x0 : Vec F S64x4 .f32) (x1 : Vec F S4x512 .f32) (x2 : Vec F S64x1 .i32) (x3 : Vec F S1x512 .i32) (x4 : Vec F S512x1 .i32) (x5 : Vec F S64x64 .i32) (x6 : Vec F S512x512 .i32) (y : S1x768.Idx) :
    ∃ pc ∈ (kernelRun c arg0 harg0 arg1 harg1 arg2 harg2 arg3 harg3 arg4 harg4 arg5 harg5 arg6 harg6 arg7 harg7 arg8 harg8 arg9 harg9 arg10 harg10 arg11 harg11 x0 x1 x2 x3 x4 x5 x6).2.2.2.1, y ∈ pc.1.set :=
  View.cover_of_tiledL (kernelRun c arg0 harg0 arg1 harg1 arg2 harg2 arg3 harg3 arg4 harg4 arg5 harg5 arg6 harg6 arg7 harg7 arg8 harg8 arg9 harg9 arg10 harg10 arg11 harg11 x0 x1 x2 x3 x4 x5 x6).2.2.2.1 S1x768.size (by sl_kernel_rfl) y

/-- What the run leaves in this output. -/
def out10 (c : Dev nD) (arg0 : Memref sig .tc .vmem S64x4 .f32) (harg0 : arg0.IsWhole) (arg1 : Memref sig .tc .vmem S4x512 .f32) (harg1 : arg1.IsWhole) (arg2 : Memref sig .tc .vmem S64x1 .i32) (harg2 : arg2.IsWhole) (arg3 : Memref sig .tc .vmem S1x512 .i32) (harg3 : arg3.IsWhole) (arg4 : Memref sig .tc .vmem S512x1 .i32) (harg4 : arg4.IsWhole) (arg5 : Memref sig .tc .vmem S64x64 .i32) (harg5 : arg5.IsWhole) (arg6 : Memref sig .tc .vmem S512x512 .i32) (harg6 : arg6.IsWhole) (arg7 : Memref sig .tc .vmem S1x256 .i32) (harg7 : arg7.IsWhole) (arg8 : Memref sig .tc .vmem S1x256 .f32) (harg8 : arg8.IsWhole) (arg9 : Memref sig .tc .vmem S1x256 .i32) (harg9 : arg9.IsWhole) (arg10 : Memref sig .tc .vmem S1x768 .i32) (harg10 : arg10.IsWhole) (arg11 : Memref sig .tc .vmem S512x512 .i32) (harg11 : arg11.IsWhole)
    (x0 : Vec F S64x4 .f32) (x1 : Vec F S4x512 .f32) (x2 : Vec F S64x1 .i32) (x3 : Vec F S1x512 .i32) (x4 : Vec F S512x1 .i32) (x5 : Vec F S64x64 .i32) (x6 : Vec F S512x512 .i32) : Vec F S1x768 .i32 :=
  VO0_10.read (Elt F) (VO0_10.writes (Elt F) VO0_10.junk (kernelRun c arg0 harg0 arg1 harg1 arg2 harg2 arg3 harg3 arg4 harg4 arg5 harg5 arg6 harg6 arg7 harg7 arg8 harg8 arg9 harg9 arg10 harg10 arg11 harg11 x0 x1 x2 x3 x4 x5 x6).2.2.2.1)

/-- The pieces of this output cover its block. -/
theorem cover11 (c : Dev nD) (arg0 : Memref sig .tc .vmem S64x4 .f32) (harg0 : arg0.IsWhole) (arg1 : Memref sig .tc .vmem S4x512 .f32) (harg1 : arg1.IsWhole) (arg2 : Memref sig .tc .vmem S64x1 .i32) (harg2 : arg2.IsWhole) (arg3 : Memref sig .tc .vmem S1x512 .i32) (harg3 : arg3.IsWhole) (arg4 : Memref sig .tc .vmem S512x1 .i32) (harg4 : arg4.IsWhole) (arg5 : Memref sig .tc .vmem S64x64 .i32) (harg5 : arg5.IsWhole) (arg6 : Memref sig .tc .vmem S512x512 .i32) (harg6 : arg6.IsWhole) (arg7 : Memref sig .tc .vmem S1x256 .i32) (harg7 : arg7.IsWhole) (arg8 : Memref sig .tc .vmem S1x256 .f32) (harg8 : arg8.IsWhole) (arg9 : Memref sig .tc .vmem S1x256 .i32) (harg9 : arg9.IsWhole) (arg10 : Memref sig .tc .vmem S1x768 .i32) (harg10 : arg10.IsWhole) (arg11 : Memref sig .tc .vmem S512x512 .i32) (harg11 : arg11.IsWhole)
    (x0 : Vec F S64x4 .f32) (x1 : Vec F S4x512 .f32) (x2 : Vec F S64x1 .i32) (x3 : Vec F S1x512 .i32) (x4 : Vec F S512x1 .i32) (x5 : Vec F S64x64 .i32) (x6 : Vec F S512x512 .i32) (y : S512x512.Idx) :
    ∃ pc ∈ (kernelRun c arg0 harg0 arg1 harg1 arg2 harg2 arg3 harg3 arg4 harg4 arg5 harg5 arg6 harg6 arg7 harg7 arg8 harg8 arg9 harg9 arg10 harg10 arg11 harg11 x0 x1 x2 x3 x4 x5 x6).2.2.2.2.1, y ∈ pc.1.set :=
  View.cover_of_tiledL (kernelRun c arg0 harg0 arg1 harg1 arg2 harg2 arg3 harg3 arg4 harg4 arg5 harg5 arg6 harg6 arg7 harg7 arg8 harg8 arg9 harg9 arg10 harg10 arg11 harg11 x0 x1 x2 x3 x4 x5 x6).2.2.2.2.1 S512x512.size (by sl_kernel_rfl) y

/-- What the run leaves in this output. -/
def out11 (c : Dev nD) (arg0 : Memref sig .tc .vmem S64x4 .f32) (harg0 : arg0.IsWhole) (arg1 : Memref sig .tc .vmem S4x512 .f32) (harg1 : arg1.IsWhole) (arg2 : Memref sig .tc .vmem S64x1 .i32) (harg2 : arg2.IsWhole) (arg3 : Memref sig .tc .vmem S1x512 .i32) (harg3 : arg3.IsWhole) (arg4 : Memref sig .tc .vmem S512x1 .i32) (harg4 : arg4.IsWhole) (arg5 : Memref sig .tc .vmem S64x64 .i32) (harg5 : arg5.IsWhole) (arg6 : Memref sig .tc .vmem S512x512 .i32) (harg6 : arg6.IsWhole) (arg7 : Memref sig .tc .vmem S1x256 .i32) (harg7 : arg7.IsWhole) (arg8 : Memref sig .tc .vmem S1x256 .f32) (harg8 : arg8.IsWhole) (arg9 : Memref sig .tc .vmem S1x256 .i32) (harg9 : arg9.IsWhole) (arg10 : Memref sig .tc .vmem S1x768 .i32) (harg10 : arg10.IsWhole) (arg11 : Memref sig .tc .vmem S512x512 .i32) (harg11 : arg11.IsWhole)
    (x0 : Vec F S64x4 .f32) (x1 : Vec F S4x512 .f32) (x2 : Vec F S64x1 .i32) (x3 : Vec F S1x512 .i32) (x4 : Vec F S512x1 .i32) (x5 : Vec F S64x64 .i32) (x6 : Vec F S512x512 .i32) : Vec F S512x512 .i32 :=
  VO0_11.read (Elt F) (VO0_11.writes (Elt F) VO0_11.junk (kernelRun c arg0 harg0 arg1 harg1 arg2 harg2 arg3 harg3 arg4 harg4 arg5 harg5 arg6 harg6 arg7 harg7 arg8 harg8 arg9 harg9 arg10 harg10 arg11 harg11 x0 x1 x2 x3 x4 x5 x6).2.2.2.2.1)

/-- What the run leaves in this output. -/
def outsAt0 (c : Dev nD) (t : Fin cfg0.N) : Vec F S1x256 .i32 × Vec F S1x256 .f32 × Vec F S1x256 .i32 × Vec F S1x768 .i32 × Vec F S512x512 .i32 :=
  (out7 c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (iblk m c 0 t) (iblk m c 1 t) (iblk m c 2 t) (iblk m c 3 t) (iblk m c 4 t) (iblk m c 5 t) (iblk m c 6 t), out8 c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (iblk m c 0 t) (iblk m c 1 t) (iblk m c 2 t) (iblk m c 3 t) (iblk m c 4 t) (iblk m c 5 t) (iblk m c 6 t), out9 c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (iblk m c 0 t) (iblk m c 1 t) (iblk m c 2 t) (iblk m c 3 t) (iblk m c 4 t) (iblk m c 5 t) (iblk m c 6 t), out10 c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (iblk m c 0 t) (iblk m c 1 t) (iblk m c 2 t) (iblk m c 3 t) (iblk m c 4 t) (iblk m c 5 t) (iblk m c 6 t), out11 c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (iblk m c 0 t) (iblk m c 1 t) (iblk m c 2 t) (iblk m c 3 t) (iblk m c 4 t) (iblk m c 5 t) (iblk m c 6 t))

/-- The proof data of the one pipeline: inputs at their blocks, outputs at what the run leaves. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => (outsAt0 m c t).1
    | ⟨8, _⟩ => (outsAt0 m c t).2.1
    | ⟨9, _⟩ => (outsAt0 m c t).2.2.1
    | ⟨10, _⟩ => (outsAt0 m c t).2.2.2.1
    | ⟨11, _⟩ => (outsAt0 m c t).2.2.2.2
  Φ _ := Pipeline.ΦA spec0 c
  q _ := fullShare
  owed _ := 0

/-- The arrays are as the region finds them. -/
theorem A_eq (c : Dev nD) (w : Fin cfg0.W) : (dats m 0 c).A w = V m c (Pipeline.arrRef spec0 w) := by
  dsimp only [dats]

/-- What the body leaves in this window. -/
theorem after0_0 (c : Dev nD) (t : Fin cfg0.N) : (dats m 0 c).after 0 t = iblk m c 0 t := by dsimp only [dats]
/-- What the body leaves in this window. -/
theorem after0_1 (c : Dev nD) (t : Fin cfg0.N) : (dats m 0 c).after 1 t = iblk m c 1 t := by dsimp only [dats]
/-- What the body leaves in this window. -/
theorem after0_2 (c : Dev nD) (t : Fin cfg0.N) : (dats m 0 c).after 2 t = iblk m c 2 t := by dsimp only [dats]
/-- What the body leaves in this window. -/
theorem after0_3 (c : Dev nD) (t : Fin cfg0.N) : (dats m 0 c).after 3 t = iblk m c 3 t := by dsimp only [dats]
/-- What the body leaves in this window. -/
theorem after0_4 (c : Dev nD) (t : Fin cfg0.N) : (dats m 0 c).after 4 t = iblk m c 4 t := by dsimp only [dats]
/-- What the body leaves in this window. -/
theorem after0_5 (c : Dev nD) (t : Fin cfg0.N) : (dats m 0 c).after 5 t = iblk m c 5 t := by dsimp only [dats]
/-- What the body leaves in this window. -/
theorem after0_6 (c : Dev nD) (t : Fin cfg0.N) : (dats m 0 c).after 6 t = iblk m c 6 t := by dsimp only [dats]
/-- What the body leaves in this window. -/
theorem after0_7 (c : Dev nD) (t : Fin cfg0.N) : (dats m 0 c).after 7 t = (outsAt0 m c t).1 := by dsimp only [dats]
/-- What the body leaves in this window. -/
theorem after0_8 (c : Dev nD) (t : Fin cfg0.N) : (dats m 0 c).after 8 t = (outsAt0 m c t).2.1 := by dsimp only [dats]
/-- What the body leaves in this window. -/
theorem after0_9 (c : Dev nD) (t : Fin cfg0.N) : (dats m 0 c).after 9 t = (outsAt0 m c t).2.2.1 := by dsimp only [dats]
/-- What the body leaves in this window. -/
theorem after0_10 (c : Dev nD) (t : Fin cfg0.N) : (dats m 0 c).after 10 t = (outsAt0 m c t).2.2.2.1 := by dsimp only [dats]
/-- What the body leaves in this window. -/
theorem after0_11 (c : Dev nD) (t : Fin cfg0.N) : (dats m 0 c).after 11 t = (outsAt0 m c t).2.2.2.2 := by dsimp only [dats]

/-- An input's staging buffer holds its block. -/
theorem before0_0 (c : Dev nD) (t : Fin cfg0.N) (d) : (dats m 0 c).before 0 t d = iblk m c 0 t :=
  before0_0_of m (dats m 0 c) (A_eq m c 0) (after0_0 m c) t d
/-- An input's staging buffer holds its block. -/
theorem before0_1 (c : Dev nD) (t : Fin cfg0.N) (d) : (dats m 0 c).before 1 t d = iblk m c 1 t :=
  before0_1_of m (dats m 0 c) (A_eq m c 1) (after0_1 m c) t d
/-- An input's staging buffer holds its block. -/
theorem before0_2 (c : Dev nD) (t : Fin cfg0.N) (d) : (dats m 0 c).before 2 t d = iblk m c 2 t :=
  before0_2_of m (dats m 0 c) (A_eq m c 2) (after0_2 m c) t d
/-- An input's staging buffer holds its block. -/
theorem before0_3 (c : Dev nD) (t : Fin cfg0.N) (d) : (dats m 0 c).before 3 t d = iblk m c 3 t :=
  before0_3_of m (dats m 0 c) (A_eq m c 3) (after0_3 m c) t d
/-- An input's staging buffer holds its block. -/
theorem before0_4 (c : Dev nD) (t : Fin cfg0.N) (d) : (dats m 0 c).before 4 t d = iblk m c 4 t :=
  before0_4_of m (dats m 0 c) (A_eq m c 4) (after0_4 m c) t d
/-- An input's staging buffer holds its block. -/
theorem before0_5 (c : Dev nD) (t : Fin cfg0.N) (d) : (dats m 0 c).before 5 t d = iblk m c 5 t :=
  before0_5_of m (dats m 0 c) (A_eq m c 5) (after0_5 m c) t d
/-- An input's staging buffer holds its block. -/
theorem before0_6 (c : Dev nD) (t : Fin cfg0.N) (d) : (dats m 0 c).before 6 t d = iblk m c 6 t :=
  before0_6_of m (dats m 0 c) (A_eq m c 6) (after0_6 m c) t d

/-- What the body is called with. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d)))

/-- What the body returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t))

set_option maxHeartbeats 1200000 in
/-- The body keeps its contract at every point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11]
  unfold outsAt0
  unfold out7 out8 out9 out10 out11; (try dsimp only)
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply ((kernelRun c _ _ _ _ _ _ _ _ _ _ _ _ _ _ _ _ _ _ _ _ _ _ _ _ (iblk m c 0 t) (iblk m c 1 t) (iblk m c 2 t) (iblk m c 3 t) (iblk m c 4 t) (iblk m c 5 t) (iblk m c 6 t)).2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  isplitl [H10]; · iexists _; iexact H10
  isplitl [H11]; · iexists _; iexact H11
  iintro ⟨H0, H1, H2, H3, H4, H5, H6, ⟨%e7, H7⟩, ⟨%e8, H8⟩, ⟨%e9, H9⟩, ⟨%e10, H10⟩, ⟨%e11, H11⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]
  · unfold owns; iexists _; isplitr
    swap; · iexact H7
    ipureintro; exact View.read_writes_of_cover _ _ _ _ _ (cover7 c _ _ _ _ _ _ _ _ _ _ _ _ _ _ _ _ _ _ _ _ _ _ _ _ _ _ _ _ _ _ _)
  isplitl [H8]
  · unfold owns; iexists _; isplitr
    swap; · iexact H8
    ipureintro; exact View.read_writes_of_cover _ _ _ _ _ (cover8 c _ _ _ _ _ _ _ _ _ _ _ _ _ _ _ _ _ _ _ _ _ _ _ _ _ _ _ _ _ _ _)
  isplitl [H9]
  · unfold owns; iexists _; isplitr
    swap; · iexact H9
    ipureintro; exact View.read_writes_of_cover _ _ _ _ _ (cover9 c _ _ _ _ _ _ _ _ _ _ _ _ _ _ _ _ _ _ _ _ _ _ _ _ _ _ _ _ _ _ _)
  isplitl [H10]
  · unfold owns; iexists _; isplitr
    swap; · iexact H10
    ipureintro; exact View.read_writes_of_cover _ _ _ _ _ (cover10 c _ _ _ _ _ _ _ _ _ _ _ _ _ _ _ _ _ _ _ _ _ _ _ _ _ _ _ _ _ _ _)
  unfold owns; iexists _; isplitr
  swap; · iexact H11
  ipureintro; exact View.read_writes_of_cover _ _ _ _ _ (cover11 c _ _ _ _ _ _ _ _ _ _ _ _ _ _ _ _ _ _ _ _ _ _ _ _ _ _ _ _ _ _ _)

/-- The body as the pipeline calls it. -/
theorem defs₀_row (t : Fin cfg0.N) :
    defs₀ (F := F) .tc cfg0.body (cfg0.bodyArgs t (cfg0.slots t)) = bodyAt0 t := by
  unfold defs₀; rw [Defs.onTc_tc]

/-- The body obligation at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
set_option maxHeartbeats 800000 in
/-- The whole launch: every final state has the arrays at the computed contents and all counters at zero. -/
theorem run_main_quiescent : θ_run defs (onTc (τ := τ) (main (F := F))) (s₀ m ρ) (fun r => (Pipeline.FramePost cfgs (dats m) 0 (Pipeline.afterTail₀ cfgs (dats m) 0 (V0 m) [hostOps1, hostOps1_1, hostOps1_2, hostOps1_3, hostOps1_4, hostOps1_5, hostOps1_6, hostOps1_7, hostOps1_8])) r ∧ r.2.sem = fun _ => 0) :=
  Pipeline.θ_run_frame_around (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1, hostOps1_1, hostOps1_2, hostOps1_3, hostOps1_4, hostOps1_5, hostOps1_6, hostOps1_7, hostOps1_8]) (hsub := sfx_sub) (hfresh := sfx_fresh) (hkeep := sfx_keeps)
    (hmain := hmain m Variants.none) (hA := A_eq m) (hΦ := fun _ _ => rfl)

/-- The whole launch, without the counters. -/
theorem run_main : θ_run defs (onTc (τ := τ) (main (F := F))) (s₀ m ρ) (Pipeline.FramePost cfgs (dats m) 0 (Pipeline.afterTail₀ cfgs (dats m) 0 (V0 m) [hostOps1, hostOps1_1, hostOps1_2, hostOps1_3, hostOps1_4, hostOps1_5, hostOps1_6, hostOps1_7, hostOps1_8])) :=
  (θ_run defs _ _).mono (fun _ h => h.1) (run_main_quiescent m ρ)

/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

/-- The frame statement: arguments unchanged, counters zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ) ((θ_run defs _ _).mono (fun _ h => h.2) (run_main_quiescent m ρ))

end Cert.KernelIdeal.Body

end
-- ==== Proof.ReferenceFrame.lean ====
/- The reference's frame: its arguments end unchanged and its counters at zero. -/
module

public import proofs.«01_k».proof.Proof.Gen.ReferenceIdeal.Run
public import Idealize.ShloMosaic.Lib.Quiescent
public import Idealize.ShloMosaic.PureOps.Ideal

@[expose] public section

noncomputable section

namespace Cert.ReferenceIdeal.Read

open Cert.ReferenceIdeal
open Idealize.ShloMosaic Idealize.ShloMosaic.TcCoe

/-- The program has no counters, so every run ends with them at zero. -/
theorem no_counters (s : MemSt nD τ sig (Elt Ideal)) : s.sem = fun _ => 0 :=
  sem_eq_zero_of_no_sems (by decide) s

end Cert.ReferenceIdeal.Read

end
-- ==== Proof.KernelNames.lean ====
/- The arrays the kernel body computes, each under a name, as functions of the seven input blocks; and the body's five
   outputs as the last of them. -/
module

public import proofs.«01_k».proof.Proof.KernelIdealFrame
public import Idealize.ShloMosaic.PureOps.Ideal
public import Idealize.ShloMosaic.Lib.Pointwise

@[expose] public section

set_option maxRecDepth 16384

noncomputable section

namespace Cert.KernelIdeal.Body

open Cert.KernelIdeal.Gen
open Idealize.ShloMosaic Idealize.ShloMosaic.TcCoe Idealize.SL.Sem

/-- The contents of the seven input blocks. -/
structure Ins where
  x0 : Vec Ideal S64x4 .f32
  x1 : Vec Ideal S4x512 .f32
  x2 : Vec Ideal S64x1 .i32
  x3 : Vec Ideal S1x512 .i32
  x4 : Vec Ideal S512x1 .i32
  x5 : Vec Ideal S64x64 .i32
  x6 : Vec Ideal S512x512 .i32

/-- The overlap ratios of the target and proposal boxes. -/
def nIou (X : Ins) : FVec Ideal S64x512 .f32 :=
  k0_pay46 (k0_pay41 X.x0) (k0_pay42 X.x1) (k0_pay43 X.x0 X.x1) (k0_pay44 X.x0 X.x1) (k0_pay45 X.x0 X.x1)

/-- The match matrix. -/
def nM (X : Ins) : FVec Ideal S64x512 .f32 :=
  k0_pay47 (F := Ideal) (k0_pay30 (F := Ideal) X.x2) (k0_pay31 (F := Ideal) X.x3) (k0_pay41 X.x0) (k0_pay42 X.x1) (k0_pay43 X.x0 X.x1) (k0_pay44 X.x0 X.x1) (k0_pay45 X.x0 X.x1)

/-- The relation labels as numbers. -/
def nRel (X : Ins) : FVec Ideal S64x64 .f32 :=
  k0_pay32 X.x5

/-- The indicator of a relation. -/
def nRp (X : Ins) : FVec Ideal S64x64 .f32 :=
  k0_pay48 (nRel X)

/-- The running maximum of the labels, first stretch. -/
def nLab9 (X : Ins) : FVec Ideal S64x512 .f32 :=
  k0_pay49 (F := Ideal) (k0_pay30 (F := Ideal) X.x2) (k0_pay31 (F := Ideal) X.x3) (nRel X) (k0_pay41 X.x0) (k0_pay42 X.x1) (k0_pay43 X.x0 X.x1) (k0_pay44 X.x0 X.x1) (k0_pay45 X.x0 X.x1)

/-- The running maximum of the overlaps, first stretch. -/
def nIn9 (X : Ins) : FVec Ideal S64x512 .f32 :=
  k0_pay50 (nRel X) (k0_pay41 X.x0) (k0_pay42 X.x1) (k0_pay43 X.x0 X.x1) (k0_pay44 X.x0 X.x1) (k0_pay45 X.x0 X.x1)

/-- The next label term after the first stretch. -/
def nTm9 (X : Ins) : FVec Ideal S64x512 .f32 :=
  k0_pay51 (F := Ideal) (k0_pay30 (F := Ideal) X.x2) (k0_pay31 (F := Ideal) X.x3) (nRel X) (k0_pay41 X.x0) (k0_pay42 X.x1) (k0_pay43 X.x0 X.x1) (k0_pay44 X.x0 X.x1) (k0_pay45 X.x0 X.x1)

/-- The running maximum of the labels, a further stretch. -/
def nLab10 (X : Ins) : FVec Ideal S64x512 .f32 :=
  k0_pay52 (nRel X) (nM X) (nLab9 X) (nTm9 X)

/-- The running maximum of the overlaps, a further stretch. -/
def nIn10 (X : Ins) : FVec Ideal S64x512 .f32 :=
  k0_pay53 (nIou X) (nRp X) (nIn9 X)

/-- The next label term after the stretch. -/
def nTm10 (X : Ins) : FVec Ideal S64x512 .f32 :=
  k0_pay54 (nRel X) (nM X)

/-- The running maximum of the labels, a further stretch. -/
def nLab11 (X : Ins) : FVec Ideal S64x512 .f32 :=
  k0_pay55 (nRel X) (nM X) (nLab10 X) (nTm10 X)

/-- The running maximum of the overlaps, a further stretch. -/
def nIn11 (X : Ins) : FVec Ideal S64x512 .f32 :=
  k0_pay56 (nIou X) (nRp X) (nIn10 X)

/-- The next label term after the stretch. -/
def nTm11 (X : Ins) : FVec Ideal S64x512 .f32 :=
  k0_pay57 (nRel X) (nM X)

/-- The running maximum of the labels, a further stretch. -/
def nLab12 (X : Ins) : FVec Ideal S64x512 .f32 :=
  k0_pay58 (nRel X) (nM X) (nLab11 X) (nTm11 X)

/-- The running maximum of the overlaps, a further stretch. -/
def nIn12 (X : Ins) : FVec Ideal S64x512 .f32 :=
  k0_pay59 (nIou X) (nRp X) (nIn11 X)

/-- The next label term after the stretch. -/
def nTm12 (X : Ins) : FVec Ideal S64x512 .f32 :=
  k0_pay60 (nRel X) (nM X)

/-- The running maximum of the labels, a further stretch. -/
def nLab13 (X : Ins) : FVec Ideal S64x512 .f32 :=
  k0_pay61 (nRel X) (nM X) (nLab12 X) (nTm12 X)

/-- The running maximum of the overlaps, a further stretch. -/
def nIn13 (X : Ins) : FVec Ideal S64x512 .f32 :=
  k0_pay62 (nIou X) (nRp X) (nIn12 X)

/-- The next label term after the stretch. -/
def nTm13 (X : Ins) : FVec Ideal S64x512 .f32 :=
  k0_pay63 (nRel X) (nM X)

/-- The running maximum of the labels, a further stretch. -/
def nLab14 (X : Ins) : FVec Ideal S64x512 .f32 :=
  k0_pay64 (nRel X) (nM X) (nLab13 X) (nTm13 X)

/-- The running maximum of the overlaps, a further stretch. -/
def nIn14 (X : Ins) : FVec Ideal S64x512 .f32 :=
  k0_pay65 (nIou X) (nRp X) (nIn13 X)

/-- The next label term after the stretch. -/
def nTm14 (X : Ins) : FVec Ideal S64x512 .f32 :=
  k0_pay66 (nRel X) (nM X)

/-- The running maximum of the labels, a further stretch. -/
def nLab15 (X : Ins) : FVec Ideal S64x512 .f32 :=
  k0_pay67 (nRel X) (nM X) (nLab14 X) (nTm14 X)

/-- The running maximum of the overlaps, a further stretch. -/
def nIn15 (X : Ins) : FVec Ideal S64x512 .f32 :=
  k0_pay68 (nIou X) (nRp X) (nIn14 X)

/-- The next label term after the stretch. -/
def nTm15 (X : Ins) : FVec Ideal S64x512 .f32 :=
  k0_pay69 (nRel X) (nM X)

/-- The running maximum of the labels, a further stretch. -/
def nLab16 (X : Ins) : FVec Ideal S64x512 .f32 :=
  k0_pay70 (nRel X) (nM X) (nLab15 X) (nTm15 X)

/-- The running maximum of the overlaps, a further stretch. -/
def nIn16 (X : Ins) : FVec Ideal S64x512 .f32 :=
  k0_pay71 (nIou X) (nRp X) (nIn15 X)

/-- The next label term after the stretch. -/
def nTm16 (X : Ins) : FVec Ideal S64x512 .f32 :=
  k0_pay72 (nRel X) (nM X)

/-- The running maximum of the labels, a further stretch. -/
def nLab17 (X : Ins) : FVec Ideal S64x512 .f32 :=
  k0_pay73 (nRel X) (nM X) (nLab16 X) (nTm16 X)

/-- The running maximum of the overlaps, a further stretch. -/
def nIn17 (X : Ins) : FVec Ideal S64x512 .f32 :=
  k0_pay74 (nIou X) (nRp X) (nIn16 X)

/-- The next label term after the stretch. -/
def nTm17 (X : Ins) : FVec Ideal S64x512 .f32 :=
  k0_pay75 (nRel X) (nM X)

/-- The running maximum of the labels, a further stretch. -/
def nLab18 (X : Ins) : FVec Ideal S64x512 .f32 :=
  k0_pay76 (nRel X) (nM X) (nLab17 X) (nTm17 X)

/-- The running maximum of the overlaps, a further stretch. -/
def nIn18 (X : Ins) : FVec Ideal S64x512 .f32 :=
  k0_pay77 (nIou X) (nRp X) (nIn17 X)

/-- The next label term after the stretch. -/
def nTm18 (X : Ins) : FVec Ideal S64x512 .f32 :=
  k0_pay78 (nRel X) (nM X)

/-- The running maximum of the labels, a further stretch. -/
def nLab19 (X : Ins) : FVec Ideal S64x512 .f32 :=
  k0_pay79 (nRel X) (nM X) (nLab18 X) (nTm18 X)

/-- The running maximum of the overlaps, a further stretch. -/
def nIn19 (X : Ins) : FVec Ideal S64x512 .f32 :=
  k0_pay80 (nIou X) (nRp X) (nIn18 X)

/-- The next label term after the stretch. -/
def nTm19 (X : Ins) : FVec Ideal S64x512 .f32 :=
  k0_pay81 (nRel X) (nM X)

/-- The running maximum of the labels, a further stretch. -/
def nLab20 (X : Ins) : FVec Ideal S64x512 .f32 :=
  k0_pay82 (nRel X) (nM X) (nLab19 X) (nTm19 X)

/-- The running maximum of the overlaps, a further stretch. -/
def nIn20 (X : Ins) : FVec Ideal S64x512 .f32 :=
  k0_pay83 (nIou X) (nRp X) (nIn19 X)

/-- The next label term after the stretch. -/
def nTm20 (X : Ins) : FVec Ideal S64x512 .f32 :=
  k0_pay84 (nRel X) (nM X)

/-- The running maximum of the labels, a further stretch. -/
def nLab21 (X : Ins) : FVec Ideal S64x512 .f32 :=
  k0_pay85 (nRel X) (nM X) (nLab20 X) (nTm20 X)

/-- The running maximum of the overlaps, a further stretch. -/
def nIn21 (X : Ins) : FVec Ideal S64x512 .f32 :=
  k0_pay86 (nIou X) (nRp X) (nIn20 X)

/-- The next label term after the stretch. -/
def nTm21 (X : Ins) : FVec Ideal S64x512 .f32 :=
  k0_pay87 (nRel X) (nM X)

/-- The greatest label over the targets, per head and tail proposal. -/
def nLab (X : Ins) : FVec Ideal S64x512 .f32 :=
  k0_pay88 (nRel X) (nM X) (nLab21 X) (nTm21 X)

/-- The greatest overlap over the related targets. -/
def nIn (X : Ins) : FVec Ideal S64x512 .f32 :=
  k0_pay89 (nIou X) (nRp X) (nIn21 X)

/-- The match matrix, narrowed. -/
def nMb (X : Ins) : FVec Ideal S64x512 .bf16 :=
  k0_pay90 (nM X)

/-- The foreground pairs. -/
def nFg (X : Ins) : IVec S512x512 1 :=
  k0_pay93 (F := Ideal) k0_pay28 (nM X) (nRp X)

/-- The overlap ratios, transposed. -/
def nIouT (X : Ins) : FVec Ideal S512x64 .f32 :=
  k0_pay95 (nIou X)

/-- The foreground pairs as numbers. -/
def nFgf (X : Ins) : FVec Ideal S512x512 .f32 :=
  k0_pay96 k0_pay28 (nM X) (nRp X)

/-- The background pairs. -/
def nBg (X : Ins) : IVec S512x512 1 :=
  k0_pay99 (k0_pay97 (F := Ideal) k0_pay28 (k0_pay31 (F := Ideal) X.x3) X.x4) (k0_pay98 (F := Ideal) k0_pay28 (nM X) (nRp X))

/-- The row numbers. -/
def nI0 (X : Ins) : IVec S512x512 32 :=
  iota .tc S512x512 32 [0] iota_S512x512_d0_w32

/-- The column numbers. -/
def nI1 (X : Ins) : IVec S512x512 32 :=
  iota .tc S512x512 32 [1] iota_S512x512_d1_w32

/-- The selection of the foreground places. -/
def nSel (X : Ins) : FVec Ideal S512x512 .f32 × FVec Ideal S512x512 .f32 × Ideal .f32 :=
  fgSel (nI0 X) (nI1 X) (nIn X) (nFg X) (nIouT X) (nFgf X)

/-- The pairs picked for the foreground places. -/
def nPick (X : Ins) : FVec Ideal S512x512 .bf16 :=
  k0_pay105 (k0_pay26 (F := Ideal)) (k0_pay27 (F := Ideal)) (nSel X).1 (nSel X).2.1 (nSel X).2.2

/-- The row of each foreground place. -/
def nRow (X : Ins) : FVec Ideal S256x1 .f32 :=
  k0_pay108 (k0_pay26 (F := Ideal)) (k0_pay27 (F := Ideal)) (nSel X).1 (nSel X).2.1 (nSel X).2.2

/-- The row of each foreground place, one-hot. -/
def nOneR (X : Ins) : FVec Ideal S256x512 .f32 :=
  k0_pay109 (k0_pay26 (F := Ideal)) (k0_pay27 (F := Ideal)) (nSel X).1 (nSel X).2.1 (nSel X).2.2

/-- The terms of the count of picks in earlier rows. -/
def nCe (X : Ins) : FVec Ideal S256x512 .f32 :=
  k0_pay110 (k0_pay26 (F := Ideal)) (k0_pay27 (F := Ideal)) (nSel X).1 (nSel X).2.1 (nSel X).2.2

/-- The pair of each foreground place. -/
def nJ (X : Ins) : FVec Ideal S256x1 .f32 :=
  k0_pay113 (k0_pay26 (F := Ideal)) (nPick X) (k0_pay107 (F := Ideal)) (nRow X) (nOneR X) (nCe X)

/-- The score of each foreground place. -/
def nVal (X : Ins) : FVec Ideal S256x1 .f32 :=
  k0_pay114 (k0_pay26 (F := Ideal)) (nIn X) (nIouT X) (nFgf X) (nPick X) (k0_pay107 (F := Ideal)) (iota .tc S256x512 32 [1] iota_S256x512_d1_w32) (nOneR X) (nCe X)

/-- The label of each foreground place. -/
def nLm (X : Ins) : FVec Ideal S256x1 .f32 :=
  k0_pay115 (k0_pay26 (F := Ideal)) (nLab X) (nMb X) (nPick X) (k0_pay107 (F := Ideal)) (iota .tc S256x512 32 [1] iota_S256x512_d1_w32) (nOneR X) (nCe X)

/-- The scores in order: the second output. -/
def o8 (X : Ins) : FVec Ideal S1x256 .f32 :=
  k0_pay117 (nVal X)

/-- The pairs in order: the first output. -/
def o7 (X : Ins) : IVec S1x256 32 :=
  k0_pay118 (F := Ideal) (nJ X) (nVal X)

/-- The labels in order: the third output. -/
def o9 (X : Ins) : IVec S1x256 32 :=
  k0_pay120 (F := Ideal) (k0_pay116 (nVal X)) (k0_pay119 (nVal X) (nLm X))

/-- One step of the bisection for the 768th smallest key. -/
def bgStep (X : Ins) (p : BitVec 32 × BitVec 32) : BitVec 32 × BitVec 32 :=
  let v1128 : BitVec 32 := Scalar.subi p.2 p.1
  let v1129 : BitVec 32 := Scalar.divsi v1128 2#32
  let v1130 : BitVec 1 := Scalar.cmpi .sgt v1128 0#32
  let v1131 : BitVec 32 := Scalar.extui v1130
  let v1132 : BitVec 1 := Scalar.cmpi .slt v1128 0#32
  let v1133 : BitVec 32 := Scalar.extui v1132
  let v1134 : BitVec 32 := Scalar.subi v1131 v1133
  let v1135 : BitVec 1 := Scalar.cmpi .sgt 2#32 0#32
  let v1136 : BitVec 32 := Scalar.extui v1135
  let v1137 : BitVec 1 := Scalar.cmpi .slt 2#32 0#32
  let v1138 : BitVec 32 := Scalar.extui v1137
  let v1139 : BitVec 32 := Scalar.subi v1136 v1138
  let v1140 : BitVec 1 := Scalar.cmpi .ne v1134 v1139
  let v1141 : BitVec 32 := Scalar.remsi v1128 2#32
  let v1142 : BitVec 1 := Scalar.cmpi .ne v1141 0#32
  let v1143 : BitVec 1 := Scalar.andi v1140 v1142
  let v1144 : BitVec 32 := Scalar.subi v1129 1#32
  let v1145 : BitVec 32 := Scalar.select v1143 v1144 v1129
  let v1146 : BitVec 32 := Scalar.addi p.1 v1145
  let v1153 : BitVec 32 := extractAt ![0, 0, 0] (k0_pay122 (F := Ideal) (nI0 X) (nI1 X) (nBg X) X.x6 p.1 p.2) inpos_S1x1x1_p0_0_0
  let v1154 : BitVec 1 := Scalar.cmpi .sge v1153 768#32
  (Scalar.select v1154 p.1 v1146, Scalar.select v1154 v1146 p.2)

/-- The 768th smallest key. -/
def nCut (X : Ins) : BitVec 32 :=
  (Scf.fold (n := k0_t3_loop.trips) (fun _ p => bgStep X p) (4294967295#32, 1048576#32)).2

/-- The keys of the pairs. -/
def nKey (X : Ins) : IVec S512x512 32 :=
  k0_pay121 (F := Ideal) (nI0 X) (nI1 X) (nBg X) X.x6

/-- The pairs picked for the background places. -/
def nPickB (X : Ins) : FVec Ideal S512x512 .bf16 :=
  k0_pay123 (nI0 X) (nI1 X) (nBg X) X.x6 (nCut X)

/-- The number of picks in earlier rows. -/
def nExB (X : Ins) : FVec Ideal S1x512 .f32 :=
  k0_pay125 (nI0 X) (nI1 X) (k0_pay26 (F := Ideal)) (nBg X) (k0_pay100 (F := Ideal)) X.x6 (nCut X)

/-- The row of each background place. -/
def nRowB (X : Ins) : FVec Ideal S768x1 .f32 :=
  k0_pay127 (nI0 X) (nI1 X) (k0_pay26 (F := Ideal)) (nBg X) X.x6 (nCut X)

/-- The row of each background place, one-hot. -/
def nOneB (X : Ins) : FVec Ideal S768x512 .f32 :=
  k0_pay128 (nI0 X) (nI1 X) (k0_pay26 (F := Ideal)) (nBg X) X.x6 (nCut X)

/-- The pair of each background place. -/
def nJB (X : Ins) : FVec Ideal S768x1 .f32 :=
  k0_pay130 (k0_pay26 (F := Ideal)) (nPickB X) (nExB X) (k0_pay126 (F := Ideal)) (nRowB X) (nOneB X)

/-- The terms of the key of each background place. -/
def nKB (X : Ins) : FVec Ideal S768x512 .f32 :=
  k0_pay131 (k0_pay26 (F := Ideal)) (nKey X) (nPickB X) (nExB X) (k0_pay126 (F := Ideal)) (iota .tc S768x512 32 [1] iota_S768x512_d1_w32) (nOneB X)

/-- The background pairs in order: the fourth output. -/
def o10 (X : Ins) : IVec S1x768 32 :=
  k0_pay1 (F := Ideal) (nJB X) (nKB X)

/-- The symmetric relation matrix: the fifth output. -/
def o11 (X : Ins) : IVec S512x512 32 :=
  k0_pay94 (F := Ideal) (nM X) (nRp X)

/-- The offsets of a whole block. -/
theorem hz : (![0, 0] : Fin 2 → Nat) = fun _ => 0 := funext fun a => by fin_cases a <;> rfl

/-- A load of a whole block of its contents reads them. -/
theorem ld_whole {S : Shape} {e : EltTy} {sp : Space} {k : Kind} (a : Memref sig k sp S e) (ha : a.IsWhole) {off : Fin S.rank → Nat} (h : off = fun _ => 0)
    (inb : ∀ a, off a + S.size a ≤ S.size a) (x : S.Idx → Elt Ideal e) :
    View.readAt (Elt Ideal) a.view (Rect.unit off S.size inb).toLoadRect (ha.unread x) = x := by
  rw [View.readAt_eq_ld, ha.read_unread, View.ld_unit_zero h]

/-- A whole block is in bounds. -/
theorem inb_S1x256 : ∀ a, (![0, 0] : Fin 2 → Nat) a + S1x256.size a ≤ S1x256.size a := by decide

/-- A whole block is in bounds. -/
theorem inb_S1x512 : ∀ a, (![0, 0] : Fin 2 → Nat) a + S1x512.size a ≤ S1x512.size a := by decide

/-- A whole block is in bounds. -/
theorem inb_S1x768 : ∀ a, (![0, 0] : Fin 2 → Nat) a + S1x768.size a ≤ S1x768.size a := by decide

/-- A whole block is in bounds. -/
theorem inb_S4x512 : ∀ a, (![0, 0] : Fin 2 → Nat) a + S4x512.size a ≤ S4x512.size a := by decide

/-- A whole block is in bounds. -/
theorem inb_S512x1 : ∀ a, (![0, 0] : Fin 2 → Nat) a + S512x1.size a ≤ S512x1.size a := by decide

/-- A whole block is in bounds. -/
theorem inb_S512x512 : ∀ a, (![0, 0] : Fin 2 → Nat) a + S512x512.size a ≤ S512x512.size a := by decide

/-- A whole block is in bounds. -/
theorem inb_S64x1 : ∀ a, (![0, 0] : Fin 2 → Nat) a + S64x1.size a ≤ S64x1.size a := by decide

/-- A whole block is in bounds. -/
theorem inb_S64x4 : ∀ a, (![0, 0] : Fin 2 → Nat) a + S64x4.size a ≤ S64x4.size a := by decide

/-- A whole block is in bounds. -/
theorem inb_S64x64 : ∀ a, (![0, 0] : Fin 2 → Nat) a + S64x64.size a ≤ S64x64.size a := by decide

/-- The input blocks as the body's loads read them. -/
def loaded (arg0 : Memref sig .tc .vmem S64x4 .f32) (harg0 : arg0.IsWhole) (arg1 : Memref sig .tc .vmem S4x512 .f32) (harg1 : arg1.IsWhole) (arg2 : Memref sig .tc .vmem S64x1 .i32) (harg2 : arg2.IsWhole) (arg3 : Memref sig .tc .vmem S1x512 .i32) (harg3 : arg3.IsWhole) (arg4 : Memref sig .tc .vmem S512x1 .i32) (harg4 : arg4.IsWhole) (arg5 : Memref sig .tc .vmem S64x64 .i32) (harg5 : arg5.IsWhole) (arg6 : Memref sig .tc .vmem S512x512 .i32) (harg6 : arg6.IsWhole) (arg7 : Memref sig .tc .vmem S1x256 .i32) (harg7 : arg7.IsWhole) (arg8 : Memref sig .tc .vmem S1x256 .f32) (harg8 : arg8.IsWhole) (arg9 : Memref sig .tc .vmem S1x256 .i32) (harg9 : arg9.IsWhole) (arg10 : Memref sig .tc .vmem S1x768 .i32) (harg10 : arg10.IsWhole) (arg11 : Memref sig .tc .vmem S512x512 .i32) (harg11 : arg11.IsWhole) (X : Ins) : Ins :=
  ⟨View.readAt (Elt Ideal) arg0.view (Rect.unit (s := S64x4) ![0, 0] S64x4.size inb_S64x4).toLoadRect (harg0.unread X.x0), View.readAt (Elt Ideal) arg1.view (Rect.unit (s := S4x512) ![0, 0] S4x512.size inb_S4x512).toLoadRect (harg1.unread X.x1), View.readAt (Elt Ideal) arg2.view (Rect.unit (s := S64x1) ![0, 0] S64x1.size inb_S64x1).toLoadRect (harg2.unread X.x2), View.readAt (Elt Ideal) arg3.view (Rect.unit (s := S1x512) ![0, 0] S1x512.size inb_S1x512).toLoadRect (harg3.unread X.x3), View.readAt (Elt Ideal) arg4.view (Rect.unit (s := S512x1) ![0, 0] S512x1.size inb_S512x1).toLoadRect (harg4.unread X.x4), View.readAt (Elt Ideal) arg5.view (Rect.unit (s := S64x64) ![0, 0] S64x64.size inb_S64x64).toLoadRect (harg5.unread X.x5), View.readAt (Elt Ideal) arg6.view (Rect.unit (s := S512x512) ![0, 0] S512x512.size inb_S512x512).toLoadRect (harg6.unread X.x6)⟩

/-- They are the blocks. -/
theorem loaded_eq (arg0 : Memref sig .tc .vmem S64x4 .f32) (harg0 : arg0.IsWhole) (arg1 : Memref sig .tc .vmem S4x512 .f32) (harg1 : arg1.IsWhole) (arg2 : Memref sig .tc .vmem S64x1 .i32) (harg2 : arg2.IsWhole) (arg3 : Memref sig .tc .vmem S1x512 .i32) (harg3 : arg3.IsWhole) (arg4 : Memref sig .tc .vmem S512x1 .i32) (harg4 : arg4.IsWhole) (arg5 : Memref sig .tc .vmem S64x64 .i32) (harg5 : arg5.IsWhole) (arg6 : Memref sig .tc .vmem S512x512 .i32) (harg6 : arg6.IsWhole) (arg7 : Memref sig .tc .vmem S1x256 .i32) (harg7 : arg7.IsWhole) (arg8 : Memref sig .tc .vmem S1x256 .f32) (harg8 : arg8.IsWhole) (arg9 : Memref sig .tc .vmem S1x256 .i32) (harg9 : arg9.IsWhole) (arg10 : Memref sig .tc .vmem S1x768 .i32) (harg10 : arg10.IsWhole) (arg11 : Memref sig .tc .vmem S512x512 .i32) (harg11 : arg11.IsWhole) (X : Ins) : loaded arg0 harg0 arg1 harg1 arg2 harg2 arg3 harg3 arg4 harg4 arg5 harg5 arg6 harg6 arg7 harg7 arg8 harg8 arg9 harg9 arg10 harg10 arg11 harg11 X = X := by
  show Ins.mk _ _ _ _ _ _ _ = _
  rw [ld_whole (S := S64x4) arg0 harg0 hz, ld_whole (S := S4x512) arg1 harg1 hz, ld_whole (S := S64x1) arg2 harg2 hz, ld_whole (S := S1x512) arg3 harg3 hz, ld_whole (S := S512x1) arg4 harg4 hz, ld_whole (S := S64x64) arg5 harg5 hz, ld_whole (S := S512x512) arg6 harg6 hz]

set_option maxHeartbeats 4000000 in
/-- What the body leaves in this output. -/
theorem out11_eq (c : Dev nD) (arg0 : Memref sig .tc .vmem S64x4 .f32) (harg0 : arg0.IsWhole) (arg1 : Memref sig .tc .vmem S4x512 .f32) (harg1 : arg1.IsWhole) (arg2 : Memref sig .tc .vmem S64x1 .i32) (harg2 : arg2.IsWhole) (arg3 : Memref sig .tc .vmem S1x512 .i32) (harg3 : arg3.IsWhole) (arg4 : Memref sig .tc .vmem S512x1 .i32) (harg4 : arg4.IsWhole) (arg5 : Memref sig .tc .vmem S64x64 .i32) (harg5 : arg5.IsWhole) (arg6 : Memref sig .tc .vmem S512x512 .i32) (harg6 : arg6.IsWhole) (arg7 : Memref sig .tc .vmem S1x256 .i32) (harg7 : arg7.IsWhole) (arg8 : Memref sig .tc .vmem S1x256 .f32) (harg8 : arg8.IsWhole) (arg9 : Memref sig .tc .vmem S1x256 .i32) (harg9 : arg9.IsWhole) (arg10 : Memref sig .tc .vmem S1x768 .i32) (harg10 : arg10.IsWhole) (arg11 : Memref sig .tc .vmem S512x512 .i32) (harg11 : arg11.IsWhole) (X : Ins) :
    out11 (F := Ideal) c arg0 harg0 arg1 harg1 arg2 harg2 arg3 harg3 arg4 harg4 arg5 harg5 arg6 harg6 arg7 harg7 arg8 harg8 arg9 harg9 arg10 harg10 arg11 harg11 X.x0 X.x1 X.x2 X.x3 X.x4 X.x5 X.x6 = o11 X := by
  have h : out11 (F := Ideal) c arg0 harg0 arg1 harg1 arg2 harg2 arg3 harg3 arg4 harg4 arg5 harg5 arg6 harg6 arg7 harg7 arg8 harg8 arg9 harg9 arg10 harg10 arg11 harg11 X.x0 X.x1 X.x2 X.x3 X.x4 X.x5 X.x6
      = View.canon (Val := Elt Ideal) [⟨Rect.unit (s := S512x512) ![0, 0] S512x512.size inb_S512x512, o11 (loaded arg0 harg0 arg1 harg1 arg2 harg2 arg3 harg3 arg4 harg4 arg5 harg5 arg6 harg6 arg7 harg7 arg8 harg8 arg9 harg9 arg10 harg10 arg11 harg11 X)⟩] := by
    refine (View.read_writes_junk_eq_canon _ _).trans ?_
    exact congrArg (View.canon (Val := Elt Ideal)) rfl
  rw [h, View.canon_unit_zero (S := S512x512) hz, loaded_eq]

end Cert.KernelIdeal.Body

end
-- ==== Proof.KernelOut7.lean ====
/- What the body leaves in one of its outputs, by name. -/
module

public import proofs.«01_k».proof.Proof.KernelNames
public import Idealize.ShloMosaic.PureOps.Ideal
public import Idealize.ShloMosaic.Lib.Pointwise

@[expose] public section

set_option maxRecDepth 16384

noncomputable section

namespace Cert.KernelIdeal.Body

open Cert.KernelIdeal.Gen
open Idealize.ShloMosaic Idealize.ShloMosaic.TcCoe Idealize.SL.Sem

attribute [local irreducible] fgSel

set_option maxHeartbeats 0 in
/-- What the body leaves in this output. -/
theorem out7_eq (c : Dev nD) (arg0 : Memref sig .tc .vmem S64x4 .f32) (harg0 : arg0.IsWhole) (arg1 : Memref sig .tc .vmem S4x512 .f32) (harg1 : arg1.IsWhole) (arg2 : Memref sig .tc .vmem S64x1 .i32) (harg2 : arg2.IsWhole) (arg3 : Memref sig .tc .vmem S1x512 .i32) (harg3 : arg3.IsWhole) (arg4 : Memref sig .tc .vmem S512x1 .i32) (harg4 : arg4.IsWhole) (arg5 : Memref sig .tc .vmem S64x64 .i32) (harg5 : arg5.IsWhole) (arg6 : Memref sig .tc .vmem S512x512 .i32) (harg6 : arg6.IsWhole) (arg7 : Memref sig .tc .vmem S1x256 .i32) (harg7 : arg7.IsWhole) (arg8 : Memref sig .tc .vmem S1x256 .f32) (harg8 : arg8.IsWhole) (arg9 : Memref sig .tc .vmem S1x256 .i32) (harg9 : arg9.IsWhole) (arg10 : Memref sig .tc .vmem S1x768 .i32) (harg10 : arg10.IsWhole) (arg11 : Memref sig .tc .vmem S512x512 .i32) (harg11 : arg11.IsWhole) (X : Ins) :
    out7 (F := Ideal) c arg0 harg0 arg1 harg1 arg2 harg2 arg3 harg3 arg4 harg4 arg5 harg5 arg6 harg6 arg7 harg7 arg8 harg8 arg9 harg9 arg10 harg10 arg11 harg11 X.x0 X.x1 X.x2 X.x3 X.x4 X.x5 X.x6 = o7 X := by
  have h : out7 (F := Ideal) c arg0 harg0 arg1 harg1 arg2 harg2 arg3 harg3 arg4 harg4 arg5 harg5 arg6 harg6 arg7 harg7 arg8 harg8 arg9 harg9 arg10 harg10 arg11 harg11 X.x0 X.x1 X.x2 X.x3 X.x4 X.x5 X.x6
      = View.canon (Val := Elt Ideal) [⟨Rect.unit (s := S1x256) ![0, 0] S1x256.size inb_S1x256, o7 (loaded arg0 harg0 arg1 harg1 arg2 harg2 arg3 harg3 arg4 harg4 arg5 harg5 arg6 harg6 arg7 harg7 arg8 harg8 arg9 harg9 arg10 harg10 arg11 harg11 X)⟩] := by
    refine (View.read_writes_junk_eq_canon _ _).trans ?_
    exact congrArg (View.canon (Val := Elt Ideal)) rfl
  rw [h, View.canon_unit_zero (S := S1x256) hz, loaded_eq]

end Cert.KernelIdeal.Body

end
-- ==== Proof.KernelOut8.lean ====
/- What the body leaves in one of its outputs, by name. -/
module

public import proofs.«01_k».proof.Proof.KernelNames
public import Idealize.ShloMosaic.PureOps.Ideal
public import Idealize.ShloMosaic.Lib.Pointwise

@[expose] public section

set_option maxRecDepth 16384

noncomputable section

namespace Cert.KernelIdeal.Body

open Cert.KernelIdeal.Gen
open Idealize.ShloMosaic Idealize.ShloMosaic.TcCoe Idealize.SL.Sem

attribute [local irreducible] fgSel

set_option maxHeartbeats 0 in
/-- What the body leaves in this output. -/
theorem out8_eq (c : Dev nD) (arg0 : Memref sig .tc .vmem S64x4 .f32) (harg0 : arg0.IsWhole) (arg1 : Memref sig .tc .vmem S4x512 .f32) (harg1 : arg1.IsWhole) (arg2 : Memref sig .tc .vmem S64x1 .i32) (harg2 : arg2.IsWhole) (arg3 : Memref sig .tc .vmem S1x512 .i32) (harg3 : arg3.IsWhole) (arg4 : Memref sig .tc .vmem S512x1 .i32) (harg4 : arg4.IsWhole) (arg5 : Memref sig .tc .vmem S64x64 .i32) (harg5 : arg5.IsWhole) (arg6 : Memref sig .tc .vmem S512x512 .i32) (harg6 : arg6.IsWhole) (arg7 : Memref sig .tc .vmem S1x256 .i32) (harg7 : arg7.IsWhole) (arg8 : Memref sig .tc .vmem S1x256 .f32) (harg8 : arg8.IsWhole) (arg9 : Memref sig .tc .vmem S1x256 .i32) (harg9 : arg9.IsWhole) (arg10 : Memref sig .tc .vmem S1x768 .i32) (harg10 : arg10.IsWhole) (arg11 : Memref sig .tc .vmem S512x512 .i32) (harg11 : arg11.IsWhole) (X : Ins) :
    out8 (F := Ideal) c arg0 harg0 arg1 harg1 arg2 harg2 arg3 harg3 arg4 harg4 arg5 harg5 arg6 harg6 arg7 harg7 arg8 harg8 arg9 harg9 arg10 harg10 arg11 harg11 X.x0 X.x1 X.x2 X.x3 X.x4 X.x5 X.x6 = o8 X := by
  have h : out8 (F := Ideal) c arg0 harg0 arg1 harg1 arg2 harg2 arg3 harg3 arg4 harg4 arg5 harg5 arg6 harg6 arg7 harg7 arg8 harg8 arg9 harg9 arg10 harg10 arg11 harg11 X.x0 X.x1 X.x2 X.x3 X.x4 X.x5 X.x6
      = View.canon (Val := Elt Ideal) [⟨Rect.unit (s := S1x256) ![0, 0] S1x256.size inb_S1x256, o8 (loaded arg0 harg0 arg1 harg1 arg2 harg2 arg3 harg3 arg4 harg4 arg5 harg5 arg6 harg6 arg7 harg7 arg8 harg8 arg9 harg9 arg10 harg10 arg11 harg11 X)⟩] := by
    refine (View.read_writes_junk_eq_canon _ _).trans ?_
    exact congrArg (View.canon (Val := Elt Ideal)) rfl
  rw [h, View.canon_unit_zero (S := S1x256) hz, loaded_eq]

end Cert.KernelIdeal.Body

end
-- ==== Proof.KernelOut9.lean ====
/- What the body leaves in one of its outputs, by name. -/
module

public import proofs.«01_k».proof.Proof.KernelNames
public import Idealize.ShloMosaic.PureOps.Ideal
public import Idealize.ShloMosaic.Lib.Pointwise

@[expose] public section

set_option maxRecDepth 16384

noncomputable section

namespace Cert.KernelIdeal.Body

open Cert.KernelIdeal.Gen
open Idealize.ShloMosaic Idealize.ShloMosaic.TcCoe Idealize.SL.Sem

attribute [local irreducible] fgSel

set_option maxHeartbeats 0 in
/-- What the body leaves in this output. -/
theorem out9_eq (c : Dev nD) (arg0 : Memref sig .tc .vmem S64x4 .f32) (harg0 : arg0.IsWhole) (arg1 : Memref sig .tc .vmem S4x512 .f32) (harg1 : arg1.IsWhole) (arg2 : Memref sig .tc .vmem S64x1 .i32) (harg2 : arg2.IsWhole) (arg3 : Memref sig .tc .vmem S1x512 .i32) (harg3 : arg3.IsWhole) (arg4 : Memref sig .tc .vmem S512x1 .i32) (harg4 : arg4.IsWhole) (arg5 : Memref sig .tc .vmem S64x64 .i32) (harg5 : arg5.IsWhole) (arg6 : Memref sig .tc .vmem S512x512 .i32) (harg6 : arg6.IsWhole) (arg7 : Memref sig .tc .vmem S1x256 .i32) (harg7 : arg7.IsWhole) (arg8 : Memref sig .tc .vmem S1x256 .f32) (harg8 : arg8.IsWhole) (arg9 : Memref sig .tc .vmem S1x256 .i32) (harg9 : arg9.IsWhole) (arg10 : Memref sig .tc .vmem S1x768 .i32) (harg10 : arg10.IsWhole) (arg11 : Memref sig .tc .vmem S512x512 .i32) (harg11 : arg11.IsWhole) (X : Ins) :
    out9 (F := Ideal) c arg0 harg0 arg1 harg1 arg2 harg2 arg3 harg3 arg4 harg4 arg5 harg5 arg6 harg6 arg7 harg7 arg8 harg8 arg9 harg9 arg10 harg10 arg11 harg11 X.x0 X.x1 X.x2 X.x3 X.x4 X.x5 X.x6 = o9 X := by
  have h : out9 (F := Ideal) c arg0 harg0 arg1 harg1 arg2 harg2 arg3 harg3 arg4 harg4 arg5 harg5 arg6 harg6 arg7 harg7 arg8 harg8 arg9 harg9 arg10 harg10 arg11 harg11 X.x0 X.x1 X.x2 X.x3 X.x4 X.x5 X.x6
      = View.canon (Val := Elt Ideal) [⟨Rect.unit (s := S1x256) ![0, 0] S1x256.size inb_S1x256, o9 (loaded arg0 harg0 arg1 harg1 arg2 harg2 arg3 harg3 arg4 harg4 arg5 harg5 arg6 harg6 arg7 harg7 arg8 harg8 arg9 harg9 arg10 harg10 arg11 harg11 X)⟩] := by
    refine (View.read_writes_junk_eq_canon _ _).trans ?_
    exact congrArg (View.canon (Val := Elt Ideal)) rfl
  rw [h, View.canon_unit_zero (S := S1x256) hz, loaded_eq]

end Cert.KernelIdeal.Body

end
-- ==== Proof.KernelOut10.lean ====
/- What the body leaves in one of its outputs, by name. -/
module

public import proofs.«01_k».proof.Proof.KernelNames
public import Idealize.ShloMosaic.PureOps.Ideal
public import Idealize.ShloMosaic.Lib.Pointwise

@[expose] public section

set_option maxRecDepth 16384

noncomputable section

namespace Cert.KernelIdeal.Body

open Cert.KernelIdeal.Gen
open Idealize.ShloMosaic Idealize.ShloMosaic.TcCoe Idealize.SL.Sem

attribute [local irreducible] fgSel

set_option maxHeartbeats 4000000 in
/-- What the body leaves in this output. -/
theorem out10_eq (c : Dev nD) (arg0 : Memref sig .tc .vmem S64x4 .f32) (harg0 : arg0.IsWhole) (arg1 : Memref sig .tc .vmem S4x512 .f32) (harg1 : arg1.IsWhole) (arg2 : Memref sig .tc .vmem S64x1 .i32) (harg2 : arg2.IsWhole) (arg3 : Memref sig .tc .vmem S1x512 .i32) (harg3 : arg3.IsWhole) (arg4 : Memref sig .tc .vmem S512x1 .i32) (harg4 : arg4.IsWhole) (arg5 : Memref sig .tc .vmem S64x64 .i32) (harg5 : arg5.IsWhole) (arg6 : Memref sig .tc .vmem S512x512 .i32) (harg6 : arg6.IsWhole) (arg7 : Memref sig .tc .vmem S1x256 .i32) (harg7 : arg7.IsWhole) (arg8 : Memref sig .tc .vmem S1x256 .f32) (harg8 : arg8.IsWhole) (arg9 : Memref sig .tc .vmem S1x256 .i32) (harg9 : arg9.IsWhole) (arg10 : Memref sig .tc .vmem S1x768 .i32) (harg10 : arg10.IsWhole) (arg11 : Memref sig .tc .vmem S512x512 .i32) (harg11 : arg11.IsWhole) (X : Ins) :
    out10 (F := Ideal) c arg0 harg0 arg1 harg1 arg2 harg2 arg3 harg3 arg4 harg4 arg5 harg5 arg6 harg6 arg7 harg7 arg8 harg8 arg9 harg9 arg10 harg10 arg11 harg11 X.x0 X.x1 X.x2 X.x3 X.x4 X.x5 X.x6 = o10 X := by
  have h : out10 (F := Ideal) c arg0 harg0 arg1 harg1 arg2 harg2 arg3 harg3 arg4 harg4 arg5 harg5 arg6 harg6 arg7 harg7 arg8 harg8 arg9 harg9 arg10 harg10 arg11 harg11 X.x0 X.x1 X.x2 X.x3 X.x4 X.x5 X.x6
      = View.canon (Val := Elt Ideal) [⟨Rect.unit (s := S1x768) ![0, 0] S1x768.size inb_S1x768, o10 (loaded arg0 harg0 arg1 harg1 arg2 harg2 arg3 harg3 arg4 harg4 arg5 harg5 arg6 harg6 arg7 harg7 arg8 harg8 arg9 harg9 arg10 harg10 arg11 harg11 X)⟩] := by
    refine (View.read_writes_junk_eq_canon _ _).trans ?_
    exact congrArg (View.canon (Val := Elt Ideal)) rfl
  rw [h, View.canon_unit_zero (S := S1x768) hz, loaded_eq]

end Cert.KernelIdeal.Body

end
-- ==== Proof.KernelRun.lean ====
/- The arrays after the launch: each of the kernel's result arrays is one of the named arrays of the arrays the launch is
   entered with. -/
module

public import proofs.«01_k».proof.Proof.KernelNames
public import proofs.«01_k».proof.Proof.KernelOut7
public import proofs.«01_k».proof.Proof.KernelOut8
public import proofs.«01_k».proof.Proof.KernelOut9
public import proofs.«01_k».proof.Proof.KernelOut10

@[expose] public section

set_option maxRecDepth 16384

noncomputable section

namespace Cert.KernelIdeal.Body

open Cert.KernelIdeal.Gen
open Idealize.ShloMosaic Idealize.ShloMosaic.TcCoe Idealize.SL.Sem

variable (m : (ℓ : Loc nD τ sig) → Buf (Elt Ideal) ℓ) (ρ : Dev nD → PrngReg)

attribute [local irreducible] StableHlo.after

/-- The input arrays as the launch is entered with them. -/
def insV (c : Dev nD) : Ins :=
  ⟨V m c main_arg2, V m c main_v0, V m c main_v1, V m c main_v2, V m c main_v3, V m c main_arg4, V m c main_v15⟩

/-- The block of the one grid point starts at the array's origin. -/
theorem idx_zero0 : ∀ t : Fin cfg0.N, win0_0.index t (0 : Fin 2) = 0 ∧ win0_0.index t (1 : Fin 2) = 0 :=
  (by decide +kernel : ∀ t : Fin grid0.N, _)

/-- So a place of the block is the same place of the array. -/
theorem emb0 (t : Fin cfg0.N) (j : S64x4.Idx) : ((cfg0.win 0).blk t).view.emb j = j := by
  obtain ⟨e0, e1⟩ := idx_zero0 t
  funext a; apply Fin.ext
  match a with
  | ⟨0, _⟩ => show win0_0.index t (0 : Fin 2) * 64 + 1 * (j 0).val = (j 0).val; omega
  | ⟨1, _⟩ => show win0_0.index t (1 : Fin 2) * 4 + 1 * (j 1).val = (j 1).val; omega

/-- The block of the one grid point starts at the array's origin. -/
theorem idx_zero1 : ∀ t : Fin cfg0.N, win0_1.index t (0 : Fin 2) = 0 ∧ win0_1.index t (1 : Fin 2) = 0 :=
  (by decide +kernel : ∀ t : Fin grid0.N, _)

/-- So a place of the block is the same place of the array. -/
theorem emb1 (t : Fin cfg0.N) (j : S4x512.Idx) : ((cfg0.win 1).blk t).view.emb j = j := by
  obtain ⟨e0, e1⟩ := idx_zero1 t
  funext a; apply Fin.ext
  match a with
  | ⟨0, _⟩ => show win0_1.index t (0 : Fin 2) * 4 + 1 * (j 0).val = (j 0).val; omega
  | ⟨1, _⟩ => show win0_1.index t (1 : Fin 2) * 512 + 1 * (j 1).val = (j 1).val; omega

/-- The block of the one grid point starts at the array's origin. -/
theorem idx_zero2 : ∀ t : Fin cfg0.N, win0_2.index t (0 : Fin 2) = 0 ∧ win0_2.index t (1 : Fin 2) = 0 :=
  (by decide +kernel : ∀ t : Fin grid0.N, _)

/-- So a place of the block is the same place of the array. -/
theorem emb2 (t : Fin cfg0.N) (j : S64x1.Idx) : ((cfg0.win 2).blk t).view.emb j = j := by
  obtain ⟨e0, e1⟩ := idx_zero2 t
  funext a; apply Fin.ext
  match a with
  | ⟨0, _⟩ => show win0_2.index t (0 : Fin 2) * 64 + 1 * (j 0).val = (j 0).val; omega
  | ⟨1, _⟩ => show win0_2.index t (1 : Fin 2) * 1 + 1 * (j 1).val = (j 1).val; omega

/-- The block of the one grid point starts at the array's origin. -/
theorem idx_zero3 : ∀ t : Fin cfg0.N, win0_3.index t (0 : Fin 2) = 0 ∧ win0_3.index t (1 : Fin 2) = 0 :=
  (by decide +kernel : ∀ t : Fin grid0.N, _)

/-- So a place of the block is the same place of the array. -/
theorem emb3 (t : Fin cfg0.N) (j : S1x512.Idx) : ((cfg0.win 3).blk t).view.emb j = j := by
  obtain ⟨e0, e1⟩ := idx_zero3 t
  funext a; apply Fin.ext
  match a with
  | ⟨0, _⟩ => show win0_3.index t (0 : Fin 2) * 1 + 1 * (j 0).val = (j 0).val; omega
  | ⟨1, _⟩ => show win0_3.index t (1 : Fin 2) * 512 + 1 * (j 1).val = (j 1).val; omega

/-- The block of the one grid point starts at the array's origin. -/
theorem idx_zero4 : ∀ t : Fin cfg0.N, win0_4.index t (0 : Fin 2) = 0 ∧ win0_4.index t (1 : Fin 2) = 0 :=
  (by decide +kernel : ∀ t : Fin grid0.N, _)

/-- So a place of the block is the same place of the array. -/
theorem emb4 (t : Fin cfg0.N) (j : S512x1.Idx) : ((cfg0.win 4).blk t).view.emb j = j := by
  obtain ⟨e0, e1⟩ := idx_zero4 t
  funext a; apply Fin.ext
  match a with
  | ⟨0, _⟩ => show win0_4.index t (0 : Fin 2) * 512 + 1 * (j 0).val = (j 0).val; omega
  | ⟨1, _⟩ => show win0_4.index t (1 : Fin 2) * 1 + 1 * (j 1).val = (j 1).val; omega

/-- The block of the one grid point starts at the array's origin. -/
theorem idx_zero5 : ∀ t : Fin cfg0.N, win0_5.index t (0 : Fin 2) = 0 ∧ win0_5.index t (1 : Fin 2) = 0 :=
  (by decide +kernel : ∀ t : Fin grid0.N, _)

/-- So a place of the block is the same place of the array. -/
theorem emb5 (t : Fin cfg0.N) (j : S64x64.Idx) : ((cfg0.win 5).blk t).view.emb j = j := by
  obtain ⟨e0, e1⟩ := idx_zero5 t
  funext a; apply Fin.ext
  match a with
  | ⟨0, _⟩ => show win0_5.index t (0 : Fin 2) * 64 + 1 * (j 0).val = (j 0).val; omega
  | ⟨1, _⟩ => show win0_5.index t (1 : Fin 2) * 64 + 1 * (j 1).val = (j 1).val; omega

/-- The block of the one grid point starts at the array's origin. -/
theorem idx_zero6 : ∀ t : Fin cfg0.N, win0_6.index t (0 : Fin 2) = 0 ∧ win0_6.index t (1 : Fin 2) = 0 :=
  (by decide +kernel : ∀ t : Fin grid0.N, _)

/-- So a place of the block is the same place of the array. -/
theorem emb6 (t : Fin cfg0.N) (j : S512x512.Idx) : ((cfg0.win 6).blk t).view.emb j = j := by
  obtain ⟨e0, e1⟩ := idx_zero6 t
  funext a; apply Fin.ext
  match a with
  | ⟨0, _⟩ => show win0_6.index t (0 : Fin 2) * 512 + 1 * (j 0).val = (j 0).val; omega
  | ⟨1, _⟩ => show win0_6.index t (1 : Fin 2) * 512 + 1 * (j 1).val = (j 1).val; omega

/-- The block of the one grid point starts at the array's origin. -/
theorem idx_zero7 : ∀ t : Fin cfg0.N, win0_7.index t (0 : Fin 2) = 0 ∧ win0_7.index t (1 : Fin 2) = 0 :=
  (by decide +kernel : ∀ t : Fin grid0.N, _)

/-- So a place of the block is the same place of the array. -/
theorem emb7 (t : Fin cfg0.N) (j : S1x256.Idx) : ((cfg0.win 7).blk t).view.emb j = j := by
  obtain ⟨e0, e1⟩ := idx_zero7 t
  funext a; apply Fin.ext
  match a with
  | ⟨0, _⟩ => show win0_7.index t (0 : Fin 2) * 1 + 1 * (j 0).val = (j 0).val; omega
  | ⟨1, _⟩ => show win0_7.index t (1 : Fin 2) * 256 + 1 * (j 1).val = (j 1).val; omega

/-- The block of the one grid point starts at the array's origin. -/
theorem idx_zero8 : ∀ t : Fin cfg0.N, win0_8.index t (0 : Fin 2) = 0 ∧ win0_8.index t (1 : Fin 2) = 0 :=
  (by decide +kernel : ∀ t : Fin grid0.N, _)

/-- So a place of the block is the same place of the array. -/
theorem emb8 (t : Fin cfg0.N) (j : S1x256.Idx) : ((cfg0.win 8).blk t).view.emb j = j := by
  obtain ⟨e0, e1⟩ := idx_zero8 t
  funext a; apply Fin.ext
  match a with
  | ⟨0, _⟩ => show win0_8.index t (0 : Fin 2) * 1 + 1 * (j 0).val = (j 0).val; omega
  | ⟨1, _⟩ => show win0_8.index t (1 : Fin 2) * 256 + 1 * (j 1).val = (j 1).val; omega

/-- The block of the one grid point starts at the array's origin. -/
theorem idx_zero9 : ∀ t : Fin cfg0.N, win0_9.index t (0 : Fin 2) = 0 ∧ win0_9.index t (1 : Fin 2) = 0 :=
  (by decide +kernel : ∀ t : Fin grid0.N, _)

/-- So a place of the block is the same place of the array. -/
theorem emb9 (t : Fin cfg0.N) (j : S1x256.Idx) : ((cfg0.win 9).blk t).view.emb j = j := by
  obtain ⟨e0, e1⟩ := idx_zero9 t
  funext a; apply Fin.ext
  match a with
  | ⟨0, _⟩ => show win0_9.index t (0 : Fin 2) * 1 + 1 * (j 0).val = (j 0).val; omega
  | ⟨1, _⟩ => show win0_9.index t (1 : Fin 2) * 256 + 1 * (j 1).val = (j 1).val; omega

/-- The block of the one grid point starts at the array's origin. -/
theorem idx_zero10 : ∀ t : Fin cfg0.N, win0_10.index t (0 : Fin 2) = 0 ∧ win0_10.index t (1 : Fin 2) = 0 :=
  (by decide +kernel : ∀ t : Fin grid0.N, _)

/-- So a place of the block is the same place of the array. -/
theorem emb10 (t : Fin cfg0.N) (j : S1x768.Idx) : ((cfg0.win 10).blk t).view.emb j = j := by
  obtain ⟨e0, e1⟩ := idx_zero10 t
  funext a; apply Fin.ext
  match a with
  | ⟨0, _⟩ => show win0_10.index t (0 : Fin 2) * 1 + 1 * (j 0).val = (j 0).val; omega
  | ⟨1, _⟩ => show win0_10.index t (1 : Fin 2) * 768 + 1 * (j 1).val = (j 1).val; omega

/-- The block of the one grid point starts at the array's origin. -/
theorem idx_zero11 : ∀ t : Fin cfg0.N, win0_11.index t (0 : Fin 2) = 0 ∧ win0_11.index t (1 : Fin 2) = 0 :=
  (by decide +kernel : ∀ t : Fin grid0.N, _)

/-- So a place of the block is the same place of the array. -/
theorem emb11 (t : Fin cfg0.N) (j : S512x512.Idx) : ((cfg0.win 11).blk t).view.emb j = j := by
  obtain ⟨e0, e1⟩ := idx_zero11 t
  funext a; apply Fin.ext
  match a with
  | ⟨0, _⟩ => show win0_11.index t (0 : Fin 2) * 512 + 1 * (j 0).val = (j 0).val; omega
  | ⟨1, _⟩ => show win0_11.index t (1 : Fin 2) * 512 + 1 * (j 1).val = (j 1).val; omega

/-- Reading an array through the block's view gives the array. -/
theorem rd0 (t : Fin cfg0.N) (A : Vec Ideal S64x4 .f32) : ((cfg0.win 0).blk t).view.read (Elt Ideal) A = A := by
  funext j; show A (((cfg0.win 0).blk t).view.emb j) = A j; rw [emb0]

/-- The input block is the whole array. -/
theorem iblk0_eq (c : Dev nD) (t : Fin cfg0.N) : iblk m c 0 t = (insV m c).x0 := by
  exact rd0 t (V m c main_arg2)

/-- Reading an array through the block's view gives the array. -/
theorem rd1 (t : Fin cfg0.N) (A : Vec Ideal S4x512 .f32) : ((cfg0.win 1).blk t).view.read (Elt Ideal) A = A := by
  funext j; show A (((cfg0.win 1).blk t).view.emb j) = A j; rw [emb1]

/-- The input block is the whole array. -/
theorem iblk1_eq (c : Dev nD) (t : Fin cfg0.N) : iblk m c 1 t = (insV m c).x1 := by
  exact rd1 t (V m c main_v0)

/-- Reading an array through the block's view gives the array. -/
theorem rd2 (t : Fin cfg0.N) (A : Vec Ideal S64x1 .i32) : ((cfg0.win 2).blk t).view.read (Elt Ideal) A = A := by
  funext j; show A (((cfg0.win 2).blk t).view.emb j) = A j; rw [emb2]

/-- The input block is the whole array. -/
theorem iblk2_eq (c : Dev nD) (t : Fin cfg0.N) : iblk m c 2 t = (insV m c).x2 := by
  exact rd2 t (V m c main_v1)

/-- Reading an array through the block's view gives the array. -/
theorem rd3 (t : Fin cfg0.N) (A : Vec Ideal S1x512 .i32) : ((cfg0.win 3).blk t).view.read (Elt Ideal) A = A := by
  funext j; show A (((cfg0.win 3).blk t).view.emb j) = A j; rw [emb3]

/-- The input block is the whole array. -/
theorem iblk3_eq (c : Dev nD) (t : Fin cfg0.N) : iblk m c 3 t = (insV m c).x3 := by
  exact rd3 t (V m c main_v2)

/-- Reading an array through the block's view gives the array. -/
theorem rd4 (t : Fin cfg0.N) (A : Vec Ideal S512x1 .i32) : ((cfg0.win 4).blk t).view.read (Elt Ideal) A = A := by
  funext j; show A (((cfg0.win 4).blk t).view.emb j) = A j; rw [emb4]

/-- The input block is the whole array. -/
theorem iblk4_eq (c : Dev nD) (t : Fin cfg0.N) : iblk m c 4 t = (insV m c).x4 := by
  exact rd4 t (V m c main_v3)

/-- Reading an array through the block's view gives the array. -/
theorem rd5 (t : Fin cfg0.N) (A : Vec Ideal S64x64 .i32) : ((cfg0.win 5).blk t).view.read (Elt Ideal) A = A := by
  funext j; show A (((cfg0.win 5).blk t).view.emb j) = A j; rw [emb5]

/-- The input block is the whole array. -/
theorem iblk5_eq (c : Dev nD) (t : Fin cfg0.N) : iblk m c 5 t = (insV m c).x5 := by
  exact rd5 t (V m c main_arg4)

/-- Reading an array through the block's view gives the array. -/
theorem rd6 (t : Fin cfg0.N) (A : Vec Ideal S512x512 .i32) : ((cfg0.win 6).blk t).view.read (Elt Ideal) A = A := by
  funext j; show A (((cfg0.win 6).blk t).view.emb j) = A j; rw [emb6]

/-- The input block is the whole array. -/
theorem iblk6_eq (c : Dev nD) (t : Fin cfg0.N) : iblk m c 6 t = (insV m c).x6 := by
  exact rd6 t (V m c main_v15)

/-- The input blocks, together. -/
def blkIns (c : Dev nD) (t : Fin cfg0.N) : Ins :=
  ⟨iblk m c 0 t, iblk m c 1 t, iblk m c 2 t, iblk m c 3 t, iblk m c 4 t, iblk m c 5 t, iblk m c 6 t⟩

/-- They are the arrays. -/
theorem blkIns_eq (c : Dev nD) (t : Fin cfg0.N) : blkIns m c t = insV m c := by
  show Ins.mk _ _ _ _ _ _ _ = _
  rw [iblk0_eq, iblk1_eq, iblk2_eq, iblk3_eq, iblk4_eq, iblk5_eq, iblk6_eq]

attribute [local irreducible] out7 out8 out9 out10 out11

/-- Cutting the point's block out of an array and reading the array through the block's view give the same. -/
theorem cut7_eq (t : Fin cfg0.N) (X : Vec Ideal S1x256 .i32) :
    (cfg0.win 7).cut (grid0.coords t) X = ((cfg0.win 7).blk t).view.read (Elt Ideal) X := by
  funext j
  show X j = X (((cfg0.win 7).blk t).view.emb j)
  rw [emb7]

/-- What the point leaves in the output's staging buffer. -/
theorem left7 (c : Dev nD) (t : Fin cfg0.N) : (outsAt0 m c t).1 = o7 (insV m c) := by
  rw [← blkIns_eq m c t]
  exact out7_eq c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (blkIns m c t)

/-- What the point writes back is its block of the named array. -/
theorem flushed7_eq (c : Dev nD) (t : Fin cfg0.N) :
    (dats m 0 c).flushed 7 t = ((cfg0.win 7).blk t).view.read (Elt Ideal) (o7 (insV m c)) := by
  refine Eq.trans ?_ (cut7_eq t _)
  rw [← left7 m c t, ← after0_7 m c t]

/-- Every place of the result array is in the point's block. -/
theorem covered7 (i : S1x256.Idx) :
    ∃ t : Fin cfg0.N, (cfg0.win 7).flush t = true ∧ i ∈ ((cfg0.win 7).blk t).view.set :=
  ⟨(⟨0, by decide⟩ : Fin cfg0.N), flush0_7 _, by
    have h := ((cfg0.win 7).blk (⟨0, by decide⟩ : Fin cfg0.N)).view.emb_mem_set i; rwa [emb7] at h⟩

/-- The result array after the launch. -/
theorem final7 (c : Dev nD) : (dats m 0 c).arrAt 7 cfg0.N = o7 (insV m c) :=
  (dats m 0 c).arrAt_eq_of_cover 7 (o7 (insV m c)) (fun t _ => flushed7_eq m c t) covered7

/-- Cutting the point's block out of an array and reading the array through the block's view give the same. -/
theorem cut8_eq (t : Fin cfg0.N) (X : Vec Ideal S1x256 .f32) :
    (cfg0.win 8).cut (grid0.coords t) X = ((cfg0.win 8).blk t).view.read (Elt Ideal) X := by
  funext j
  show X j = X (((cfg0.win 8).blk t).view.emb j)
  rw [emb8]

/-- What the point leaves in the output's staging buffer. -/
theorem left8 (c : Dev nD) (t : Fin cfg0.N) : (outsAt0 m c t).2.1 = o8 (insV m c) := by
  rw [← blkIns_eq m c t]
  exact out8_eq c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (blkIns m c t)

/-- What the point writes back is its block of the named array. -/
theorem flushed8_eq (c : Dev nD) (t : Fin cfg0.N) :
    (dats m 0 c).flushed 8 t = ((cfg0.win 8).blk t).view.read (Elt Ideal) (o8 (insV m c)) := by
  refine Eq.trans ?_ (cut8_eq t _)
  rw [← left8 m c t, ← after0_8 m c t]

/-- Every place of the result array is in the point's block. -/
theorem covered8 (i : S1x256.Idx) :
    ∃ t : Fin cfg0.N, (cfg0.win 8).flush t = true ∧ i ∈ ((cfg0.win 8).blk t).view.set :=
  ⟨(⟨0, by decide⟩ : Fin cfg0.N), flush0_8 _, by
    have h := ((cfg0.win 8).blk (⟨0, by decide⟩ : Fin cfg0.N)).view.emb_mem_set i; rwa [emb8] at h⟩

/-- The result array after the launch. -/
theorem final8 (c : Dev nD) : (dats m 0 c).arrAt 8 cfg0.N = o8 (insV m c) :=
  (dats m 0 c).arrAt_eq_of_cover 8 (o8 (insV m c)) (fun t _ => flushed8_eq m c t) covered8

/-- Cutting the point's block out of an array and reading the array through the block's view give the same. -/
theorem cut9_eq (t : Fin cfg0.N) (X : Vec Ideal S1x256 .i32) :
    (cfg0.win 9).cut (grid0.coords t) X = ((cfg0.win 9).blk t).view.read (Elt Ideal) X := by
  funext j
  show X j = X (((cfg0.win 9).blk t).view.emb j)
  rw [emb9]

/-- What the point leaves in the output's staging buffer. -/
theorem left9 (c : Dev nD) (t : Fin cfg0.N) : (outsAt0 m c t).2.2.1 = o9 (insV m c) := by
  rw [← blkIns_eq m c t]
  exact out9_eq c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (blkIns m c t)

/-- What the point writes back is its block of the named array. -/
theorem flushed9_eq (c : Dev nD) (t : Fin cfg0.N) :
    (dats m 0 c).flushed 9 t = ((cfg0.win 9).blk t).view.read (Elt Ideal) (o9 (insV m c)) := by
  refine Eq.trans ?_ (cut9_eq t _)
  rw [← left9 m c t, ← after0_9 m c t]

/-- Every place of the result array is in the point's block. -/
theorem covered9 (i : S1x256.Idx) :
    ∃ t : Fin cfg0.N, (cfg0.win 9).flush t = true ∧ i ∈ ((cfg0.win 9).blk t).view.set :=
  ⟨(⟨0, by decide⟩ : Fin cfg0.N), flush0_9 _, by
    have h := ((cfg0.win 9).blk (⟨0, by decide⟩ : Fin cfg0.N)).view.emb_mem_set i; rwa [emb9] at h⟩

/-- The result array after the launch. -/
theorem final9 (c : Dev nD) : (dats m 0 c).arrAt 9 cfg0.N = o9 (insV m c) :=
  (dats m 0 c).arrAt_eq_of_cover 9 (o9 (insV m c)) (fun t _ => flushed9_eq m c t) covered9

/-- Cutting the point's block out of an array and reading the array through the block's view give the same. -/
theorem cut10_eq (t : Fin cfg0.N) (X : Vec Ideal S1x768 .i32) :
    (cfg0.win 10).cut (grid0.coords t) X = ((cfg0.win 10).blk t).view.read (Elt Ideal) X := by
  funext j
  show X j = X (((cfg0.win 10).blk t).view.emb j)
  rw [emb10]

/-- What the point leaves in the output's staging buffer. -/
theorem left10 (c : Dev nD) (t : Fin cfg0.N) : (outsAt0 m c t).2.2.2.1 = o10 (insV m c) := by
  rw [← blkIns_eq m c t]
  exact out10_eq c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (blkIns m c t)

/-- What the point writes back is its block of the named array. -/
theorem flushed10_eq (c : Dev nD) (t : Fin cfg0.N) :
    (dats m 0 c).flushed 10 t = ((cfg0.win 10).blk t).view.read (Elt Ideal) (o10 (insV m c)) := by
  refine Eq.trans ?_ (cut10_eq t _)
  rw [← left10 m c t, ← after0_10 m c t]

/-- Every place of the result array is in the point's block. -/
theorem covered10 (i : S1x768.Idx) :
    ∃ t : Fin cfg0.N, (cfg0.win 10).flush t = true ∧ i ∈ ((cfg0.win 10).blk t).view.set :=
  ⟨(⟨0, by decide⟩ : Fin cfg0.N), flush0_10 _, by
    have h := ((cfg0.win 10).blk (⟨0, by decide⟩ : Fin cfg0.N)).view.emb_mem_set i; rwa [emb10] at h⟩

/-- The result array after the launch. -/
theorem final10 (c : Dev nD) : (dats m 0 c).arrAt 10 cfg0.N = o10 (insV m c) :=
  (dats m 0 c).arrAt_eq_of_cover 10 (o10 (insV m c)) (fun t _ => flushed10_eq m c t) covered10

/-- Cutting the point's block out of an array and reading the array through the block's view give the same. -/
theorem cut11_eq (t : Fin cfg0.N) (X : Vec Ideal S512x512 .i32) :
    (cfg0.win 11).cut (grid0.coords t) X = ((cfg0.win 11).blk t).view.read (Elt Ideal) X := by
  funext j
  show X j = X (((cfg0.win 11).blk t).view.emb j)
  rw [emb11]

/-- What the point leaves in the output's staging buffer. -/
theorem left11 (c : Dev nD) (t : Fin cfg0.N) : (outsAt0 m c t).2.2.2.2 = o11 (insV m c) := by
  rw [← blkIns_eq m c t]
  exact out11_eq c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (blkIns m c t)

/-- What the point writes back is its block of the named array. -/
theorem flushed11_eq (c : Dev nD) (t : Fin cfg0.N) :
    (dats m 0 c).flushed 11 t = ((cfg0.win 11).blk t).view.read (Elt Ideal) (o11 (insV m c)) := by
  refine Eq.trans ?_ (cut11_eq t _)
  rw [← left11 m c t, ← after0_11 m c t]

/-- Every place of the result array is in the point's block. -/
theorem covered11 (i : S512x512.Idx) :
    ∃ t : Fin cfg0.N, (cfg0.win 11).flush t = true ∧ i ∈ ((cfg0.win 11).blk t).view.set :=
  ⟨(⟨0, by decide⟩ : Fin cfg0.N), flush0_11 _, by
    have h := ((cfg0.win 11).blk (⟨0, by decide⟩ : Fin cfg0.N)).view.emb_mem_set i; rwa [emb11] at h⟩

/-- The result array after the launch. -/
theorem final11 (c : Dev nD) : (dats m 0 c).arrAt 11 cfg0.N = o11 (insV m c) :=
  (dats m 0 c).arrAt_eq_of_cover 11 (o11 (insV m c)) (fun t _ => flushed11_eq m c t) covered11

attribute [local semireducible] StableHlo.after

/-- The input arrays but the last, as functions of the arguments. -/
theorem insV_x0 (c : Dev nD) : (insV m c).x0 = m ((c : Thread nD τ).loc main_arg2) := V_main_arg2 m c

theorem insV_x1 (c : Dev nD) : (insV m c).x1 = transpose S4x512 [1, 0] (m ((c : Thread nD τ).loc main_arg0)) transposes_S512x4_S4x512_1_0 := by
  show StableHlo.after (List.flatten [hostOps0, hostOps0_1, hostOps0_2]) (fun b => m (c, b)) (Proc.devRef .tc main_v0) = _
  simp only [hostOps0, hostOps0_1, hostOps0_2, List.flatten_cons, List.flatten_nil, List.append_nil, List.cons_append, List.nil_append, StableHlo.TRef.nullary, StableHlo.TRef.binary, StableHlo.TRef.unary, StableHlo.TRef.toBuf, StableHlo.TRef.ofBuf, cast_eq]
  after_results_simp

theorem insV_x2 (c : Dev nD) : (insV m c).x2 = shapeCast S64x1 (m ((c : Thread nD τ).loc main_arg3)) shapeCasts_S64_S64x1 := by
  show StableHlo.after (List.flatten [hostOps0, hostOps0_1, hostOps0_2]) (fun b => m (c, b)) (Proc.devRef .tc main_v1) = _
  simp only [hostOps0, hostOps0_1, hostOps0_2, List.flatten_cons, List.flatten_nil, List.append_nil, List.cons_append, List.nil_append, StableHlo.TRef.nullary, StableHlo.TRef.binary, StableHlo.TRef.unary, StableHlo.TRef.toBuf, StableHlo.TRef.ofBuf, cast_eq]
  after_results_simp
  rfl

theorem insV_x3 (c : Dev nD) : (insV m c).x3 = shapeCast S1x512 (m ((c : Thread nD τ).loc main_arg1)) shapeCasts_S512_S1x512 := by
  show StableHlo.after (List.flatten [hostOps0, hostOps0_1, hostOps0_2]) (fun b => m (c, b)) (Proc.devRef .tc main_v2) = _
  simp only [hostOps0, hostOps0_1, hostOps0_2, List.flatten_cons, List.flatten_nil, List.append_nil, List.cons_append, List.nil_append, StableHlo.TRef.nullary, StableHlo.TRef.binary, StableHlo.TRef.unary, StableHlo.TRef.toBuf, StableHlo.TRef.ofBuf, cast_eq]
  after_results_simp
  rfl

theorem insV_x4 (c : Dev nD) : (insV m c).x4 = shapeCast S512x1 (m ((c : Thread nD τ).loc main_arg1)) shapeCasts_S512_S512x1 := by
  show StableHlo.after (List.flatten [hostOps0, hostOps0_1, hostOps0_2]) (fun b => m (c, b)) (Proc.devRef .tc main_v3) = _
  simp only [hostOps0, hostOps0_1, hostOps0_2, List.flatten_cons, List.flatten_nil, List.append_nil, List.cons_append, List.nil_append, StableHlo.TRef.nullary, StableHlo.TRef.binary, StableHlo.TRef.unary, StableHlo.TRef.toBuf, StableHlo.TRef.ofBuf, cast_eq]
  after_results_simp
  rfl

theorem insV_x5 (c : Dev nD) : (insV m c).x5 = m ((c : Thread nD τ).loc main_arg4) := V_main_arg4 m c

end Cert.KernelIdeal.Body

end
-- ==== Proof.Spec.lean ====
/- The mathematics of the problem, over the extended reals: the overlap ratios of the boxes, the match matrix, the
   relation indicator and the symmetric relation matrix of the proposals. -/
module

public import Idealize.ShloMosaic.PureOps.Ideal
public import Idealize.ShloMosaic.Lib.IdealHost

@[expose] public section

noncomputable section

namespace Cert.Spec

open Idealize.ShloMosaic

/-- The problem's inputs: target and proposal boxes, target and proposal labels, relation labels of the targets. -/
structure Data where
  tb : Fin 64 → Fin 4 → EReal
  pb : Fin 512 → Fin 4 → EReal
  tl : Fin 64 → BitVec 32
  pl : Fin 512 → BitVec 32
  rl : Fin 64 → Fin 64 → BitVec 32

/-- The overlap area of two boxes. -/
def inter (a b : Fin 4 → EReal) : EReal :=
  max 0 (min (a 2) (b 2) - max (a 0) (b 0)) * max 0 (min (a 3) (b 3) - max (a 1) (b 1))

/-- The overlap ratio of two boxes. -/
def ratio (a b : Fin 4 → EReal) : EReal :=
  Ideal.div (inter a b)
    (max ((a 2 - a 0) * (a 3 - a 1) + (b 2 - b 0) * (b 3 - b 1) - inter a b) (Ideal.ofBits FTy.f32 841731191#32))

namespace Data

variable (D : Data)

/-- The overlap ratio of a target and a proposal. -/
def iou (t : Fin 64) (p : Fin 512) : EReal := ratio (D.tb t) (D.pb p)

/-- A proposal matches a target: equal labels and a ratio above one half. -/
def M (t : Fin 64) (p : Fin 512) : Prop := D.tl t = D.pl p ∧ Ideal.ofBits FTy.f32 1056964608#32 < D.iou t p

/-- Two targets are related. -/
def R (h t : Fin 64) : Prop := 0 < (D.rl h t).toInt

open Classical in
/-- The match matrix as numbers. -/
def m (t : Fin 64) (p : Fin 512) : EReal := if D.M t p then 1 else 0

open Classical in
/-- The relation indicator as numbers. -/
def rp (h t : Fin 64) : EReal := if D.R h t then 1 else 0

/-- The ordered pair of proposals is matched by related targets. -/
def Rel (i j : Fin 512) : Prop := ∃ h t, D.M h i ∧ D.R h t ∧ D.M t j

open Classical in
/-- The symmetric relation matrix. -/
def bin (i j : Fin 512) : BitVec 32 := if D.Rel i j ∨ D.Rel j i then 1#32 else 0#32

theorem m_nonneg (t p) : 0 ≤ D.m t p := by unfold m; split <;> simp
theorem rp_nonneg (h t) : 0 ≤ D.rp h t := by unfold rp; split <;> simp
theorem m_pos (t p) : 0 < D.m t p ↔ D.M t p := by unfold m; split <;> simp [*]
theorem rp_pos (h t) : 0 < D.rp h t ↔ D.R h t := by unfold rp; split <;> simp [*]

end Data

/-- A sum of numbers that are not negative is positive exactly where one of them is. -/
theorem sum_pos_iff {ι : Type} [Fintype ι] (f : ι → EReal) (h : ∀ i, 0 ≤ f i) : 0 < ∑ i, f i ↔ ∃ i, 0 < f i := by
  constructor
  · intro hp
    by_contra hn
    push Not at hn
    have : ∑ i, f i = 0 := Finset.sum_eq_zero fun i _ => le_antisymm (hn i) (h i)
    rw [this] at hp; exact lt_irrefl _ hp
  · rintro ⟨i, hi⟩
    exact lt_of_lt_of_le hi (Finset.single_le_sum (f := f) (fun j _ => h j) (Finset.mem_univ i))

/-- A product of two numbers that are not negative is positive exactly where both are. -/
theorem mul_pos_iff {a b : EReal} (ha : 0 ≤ a) (hb : 0 ≤ b) : 0 < a * b ↔ 0 < a ∧ 0 < b := by
  constructor
  · intro h
    refine ⟨lt_of_le_of_ne ha ?_, lt_of_le_of_ne hb ?_⟩
    · rintro rfl; simp at h
    · rintro rfl; simp at h
  · rintro ⟨h1, h2⟩; exact EReal.mul_pos h1 h2

theorem mul_nn {a b : EReal} (ha : 0 ≤ a) (hb : 0 ≤ b) : 0 ≤ a * b := EReal.mul_nonneg ha hb

theorem add_pos_iff {a b : EReal} (ha : 0 ≤ a) (hb : 0 ≤ b) : 0 < a + b ↔ 0 < a ∨ 0 < b := by
  constructor
  · intro h
    by_contra hn
    push Not at hn
    rw [le_antisymm hn.1 ha, le_antisymm hn.2 hb] at h; simp at h
  · rintro (h | h)
    · exact lt_of_lt_of_le h (le_add_of_nonneg_right hb)
    · exact lt_of_lt_of_le h (le_add_of_nonneg_left ha)

namespace Data

variable (D : Data)

/-- The twofold sum over the targets, the relation summed inside, is positive exactly at a related ordered pair. -/
theorem pos_right (i j : Fin 512) : 0 < ∑ h, D.m h i * ∑ t, D.rp h t * D.m t j ↔ D.Rel i j := by
  have n1 : ∀ h, 0 ≤ ∑ t, D.rp h t * D.m t j := fun h => Finset.sum_nonneg fun t _ => mul_nn (D.rp_nonneg _ _) (D.m_nonneg _ _)
  rw [sum_pos_iff _ fun h => mul_nn (D.m_nonneg _ _) (n1 h)]
  unfold Rel
  refine exists_congr fun h => ?_
  rw [mul_pos_iff (D.m_nonneg _ _) (n1 h), sum_pos_iff _ fun t => mul_nn (D.rp_nonneg _ _) (D.m_nonneg _ _), D.m_pos]
  constructor
  · rintro ⟨a, t, b⟩; rw [mul_pos_iff (D.rp_nonneg _ _) (D.m_nonneg _ _), D.rp_pos, D.m_pos] at b; exact ⟨t, a, b⟩
  · rintro ⟨t, a, b⟩; refine ⟨a, t, ?_⟩; rw [mul_pos_iff (D.rp_nonneg _ _) (D.m_nonneg _ _), D.rp_pos, D.m_pos]; exact b

/-- The same with the heads summed inside. -/
theorem pos_left (i j : Fin 512) : 0 < ∑ t, (∑ h, D.m h i * D.rp h t) * D.m t j ↔ D.Rel i j := by
  have n1 : ∀ t, 0 ≤ ∑ h, D.m h i * D.rp h t := fun h => Finset.sum_nonneg fun t _ => mul_nn (D.m_nonneg _ _) (D.rp_nonneg _ _)
  rw [sum_pos_iff _ fun h => mul_nn (n1 h) (D.m_nonneg _ _)]
  unfold Rel
  rw [exists_comm]
  refine exists_congr fun t => ?_
  rw [mul_pos_iff (n1 t) (D.m_nonneg _ _), sum_pos_iff _ fun t => mul_nn (D.m_nonneg _ _) (D.rp_nonneg _ _), D.m_pos]
  constructor
  · rintro ⟨⟨h, a⟩, b⟩; rw [mul_pos_iff (D.m_nonneg _ _) (D.rp_nonneg _ _), D.rp_pos, D.m_pos] at a; exact ⟨h, a.1, a.2, b⟩
  · rintro ⟨h, a, b, e⟩; refine ⟨⟨h, ?_⟩, e⟩; rw [mul_pos_iff (D.m_nonneg _ _) (D.rp_nonneg _ _), D.rp_pos, D.m_pos]; exact ⟨a, b⟩

/-- The same of the pair turned round, with the relation first in the inner sum. -/
theorem pos_turned (i j : Fin 512) : 0 < ∑ h, (∑ t, D.rp h t * D.m t i) * D.m h j ↔ D.Rel j i := by
  rw [← D.pos_right j i]
  simp only [mul_comm (D.m _ j)]

theorem turned_nonneg (i j : Fin 512) : 0 ≤ ∑ h, (∑ t, D.rp h t * D.m t i) * D.m h j :=
  Finset.sum_nonneg fun h _ => mul_nn (Finset.sum_nonneg fun t _ => mul_nn (D.rp_nonneg _ _) (D.m_nonneg _ _)) (D.m_nonneg _ _)

theorem right_nonneg (i j : Fin 512) : 0 ≤ ∑ h, D.m h i * ∑ t, D.rp h t * D.m t j :=
  Finset.sum_nonneg fun h _ => mul_nn (D.m_nonneg _ _) (Finset.sum_nonneg fun t _ => mul_nn (D.rp_nonneg _ _) (D.m_nonneg _ _))

theorem left_nonneg (i j : Fin 512) : 0 ≤ ∑ t, (∑ h, D.m h i * D.rp h t) * D.m t j :=
  Finset.sum_nonneg fun h _ => mul_nn (Finset.sum_nonneg fun t _ => mul_nn (D.m_nonneg _ _) (D.rp_nonneg _ _)) (D.m_nonneg _ _)

end Data

/-! ## Words and truth values -/

open Classical in
/-- A truth value widened to a word. -/
theorem widen (P : Prop) [Decidable P] : BitVec.setWidth 32 (BitVec.ofBool (decide P)) = if P then 1#32 else 0#32 := by
  by_cases h : P <;> simp [h]

/-- A truth value read as a number. -/
theorem uitofp_bool (P : Prop) [Decidable P] :
    FloatOps.uitofp (F := Ideal) FTy.f32 (BitVec.ofBool (decide P)) = if P then (1 : EReal) else 0 := by
  show ((((BitVec.ofBool (decide P)).toNat : ℕ) : ℝ) : EReal) = _
  by_cases h : P <;> simp [h]

/-- A truth value widened to a word and read as a number. -/
theorem sitofp_bool (P : Prop) [Decidable P] :
    FloatOps.sitofp (F := Ideal) FTy.f32 (BitVec.setWidth 32 (BitVec.ofBool (decide P))) = if P then (1 : EReal) else 0 := by
  show ((((BitVec.setWidth 32 (BitVec.ofBool (decide P))).toInt : ℤ) : ℝ) : EReal) = _
  by_cases h : P <;> simp [h]

/-- The conjunction of an equality of words and a truth value. -/
theorem andi_eq (a b : BitVec 32) (Q : Prop) [Decidable Q] :
    IntOp.andi (IntOp.cmpi .eq a b) (BitVec.ofBool (decide Q)) = BitVec.ofBool (decide (a = b ∧ Q)) := by
  unfold IntOp.andi IntOp.cmpi
  have hb : (a == b) = decide (a = b) := rfl
  dsimp only
  rw [hb]
  by_cases h : a = b <;> by_cases q : Q <;> simp [h, q]

/-- A word greater than zero. -/
theorem sgt_zero (a : BitVec 32) : IntOp.cmpi .sgt a 0#32 = BitVec.ofBool (decide (0 < a.toInt)) := by
  unfold IntOp.cmpi
  simp [BitVec.slt]

/-- A word read as a number is positive exactly where the word is. -/
theorem sitofp_pos (a : BitVec 32) : (0 : EReal) < FloatOps.sitofp (F := Ideal) FTy.f32 a ↔ 0 < a.toInt := by
  show (0 : EReal) < (((a.toInt : ℤ) : ℝ) : EReal) ↔ _
  rw [← EReal.coe_zero, EReal.coe_lt_coe_iff]; exact Int.cast_pos

end Cert.Spec

end
-- ==== Proof.RelationKernel.lean ====
/- The kernel's relation matrix, entry by entry. -/
module

public import proofs.«01_k».proof.Proof.KernelRun
public import proofs.«01_k».proof.Proof.Spec
public import Idealize.ShloMosaic.Lib.Pointwise

@[expose] public section

set_option maxRecDepth 16384
set_option maxHeartbeats 1000000

noncomputable section

namespace Cert.KernelIdeal.Body

open Cert.KernelIdeal.Gen Cert.Spec
open Idealize.ShloMosaic Idealize.ShloMosaic.TcCoe Idealize.ShloMosaic.Pointwise

/-- The problem's inputs as the kernel's input blocks hold them. -/
def dataX (X : Ins) : Data where
  tb t k := X.x0 (ix2 t k)
  pb p k := X.x1 (ix2 k p)
  tl t := X.x2 (ix2 t 0)
  pl p := X.x3 (ix2 0 p)
  rl h t := X.x5 (ix2 h t)

/-- The kernel's overlap ratios. -/
theorem nIou_apply (X : Ins) (t : Fin 64) (p : Fin 512) : nIou X (ix2 t p) = (dataX X).iou t p := by
  unfold nIou
  pointwise [k0_pay46, k0_pay41, k0_pay42, k0_pay43, k0_pay44, k0_pay45, k0_pay33, k0_pay34, k0_pay35, k0_pay36,
    k0_pay37, k0_pay38, k0_pay39, k0_pay40, k0_pay29]
  rfl

/-- The kernel's match matrix. -/
theorem nM_apply (X : Ins) (t : Fin 64) (p : Fin 512) : nM X (ix2 t p) = (dataX X).m t p := by
  unfold nM
  pointwise [k0_pay47, k0_pay46, k0_pay41, k0_pay42, k0_pay43, k0_pay44, k0_pay45, k0_pay33, k0_pay34, k0_pay35,
    k0_pay36, k0_pay37, k0_pay38, k0_pay39, k0_pay40, k0_pay29, k0_pay30, k0_pay31]
  rw [andi_eq, sitofp_bool]
  unfold Data.m Data.M Data.iou ratio inter dataX
  congr 1

/-- The kernel's relation indicator. -/
theorem nRp_apply (X : Ins) (h t : Fin 64) : nRp X (ix2 h t) = (dataX X).rp h t := by
  unfold nRp nRel
  pointwise [k0_pay48, k0_pay32]
  rw [sitofp_bool]
  unfold Data.rp Data.R dataX
  simp only [sitofp_pos]
  congr 1

/-- The kernel's relation matrix. -/
theorem o11_apply (X : Ins) (i j : Fin 512) : o11 X (ix2 i j) = (dataX X).bin i j := by
  unfold o11
  pointwise [k0_pay94, k0_pay90, k0_pay91, k0_pay92]
  simp only [nM_apply, nRp_apply]
  rw [widen]
  classical
  unfold Data.bin
  exact if_congr ((add_pos_iff ((dataX X).right_nonneg i j) ((dataX X).turned_nonneg i j)).trans
    (or_congr ((dataX X).pos_right i j) ((dataX X).pos_turned i j))) rfl rfl

end Cert.KernelIdeal.Body

end
-- ==== Proof.Chains.lean ====
/- The running maxima over the sixty-four targets. -/
module

public import proofs.«01_k».proof.Proof.RelationKernel
public import Idealize.ShloMosaic.Lib.Pointwise

@[expose] public section

set_option maxRecDepth 16384
set_option maxHeartbeats 1000000

noncomputable section

/- The kernel takes the best match of a column by a chain of maxima that starts at zero and runs
over the targets one at a time. Each theorem here reads one stretch of such a chain. -/

namespace Cert.KernelIdeal.Body
open Cert.KernelIdeal.Gen Cert.Spec
open Idealize.ShloMosaic Idealize.ShloMosaic.TcCoe Idealize.ShloMosaic.Pointwise
open scoped BigOperators

/-- The greatest of zero and the first terms of a sequence. -/
def chain (f : ℕ → EReal) : ℕ → EReal
  | 0 => 0
  | n + 1 => max (chain f n) (f n)

/-- A number below sixty-four as a position, and zero past the end. -/
def at64 (t : ℕ) : Fin 64 := if h : t < 64 then ⟨t, h⟩ else 0

/-- The term of the overlap chain for target `t`. -/
noncomputable def termIn (X : Ins) (h : Fin 64) (p : Fin 512) (t : ℕ) : EReal :=
  nRp X (ix2 h (at64 t)) * nIou X (ix2 (at64 t) p)

/-- The term of the label chain for target `t`. -/
noncomputable def termLab (X : Ins) (h : Fin 64) (p : Fin 512) (t : ℕ) : EReal :=
  nRel X (ix2 h (at64 t)) * nM X (ix2 (at64 t) p)

/-- The zero word is the number zero. -/
theorem bits_zero : Ideal.ofBits .f32 0#32 = 0 := by simp [Ideal.ofBits, Ideal.ieee]

/-- The first two terms of the overlap chain. -/
theorem nIn9_apply (X : Ins) (h : Fin 64) (p : Fin 512) :
    nIn9 X (ix2 h p) = chain (termIn X h p) 2 := by
  unfold nIn9
  pointwise [k0_pay50]
  rfl

/-- The first 7 terms of the overlap chain. -/
theorem nIn10_apply (X : Ins) (h : Fin 64) (p : Fin 512) :
    nIn10 X (ix2 h p) = chain (termIn X h p) 7 := by
  unfold nIn10
  pointwise [k0_pay53]
  rw [nIn9_apply]
  rfl

/-- The first 12 terms of the overlap chain. -/
theorem nIn11_apply (X : Ins) (h : Fin 64) (p : Fin 512) :
    nIn11 X (ix2 h p) = chain (termIn X h p) 12 := by
  unfold nIn11
  pointwise [k0_pay56]
  rw [nIn10_apply]
  rfl

/-- The first 17 terms of the overlap chain. -/
theorem nIn12_apply (X : Ins) (h : Fin 64) (p : Fin 512) :
    nIn12 X (ix2 h p) = chain (termIn X h p) 17 := by
  unfold nIn12
  pointwise [k0_pay59]
  rw [nIn11_apply]
  rfl

/-- The first 22 terms of the overlap chain. -/
theorem nIn13_apply (X : Ins) (h : Fin 64) (p : Fin 512) :
    nIn13 X (ix2 h p) = chain (termIn X h p) 22 := by
  unfold nIn13
  pointwise [k0_pay62]
  rw [nIn12_apply]
  rfl

/-- The first 27 terms of the overlap chain. -/
theorem nIn14_apply (X : Ins) (h : Fin 64) (p : Fin 512) :
    nIn14 X (ix2 h p) = chain (termIn X h p) 27 := by
  unfold nIn14
  pointwise [k0_pay65]
  rw [nIn13_apply]
  rfl

/-- The first 32 terms of the overlap chain. -/
theorem nIn15_apply (X : Ins) (h : Fin 64) (p : Fin 512) :
    nIn15 X (ix2 h p) = chain (termIn X h p) 32 := by
  unfold nIn15
  pointwise [k0_pay68]
  rw [nIn14_apply]
  rfl

/-- The first 37 terms of the overlap chain. -/
theorem nIn16_apply (X : Ins) (h : Fin 64) (p : Fin 512) :
    nIn16 X (ix2 h p) = chain (termIn X h p) 37 := by
  unfold nIn16
  pointwise [k0_pay71]
  rw [nIn15_apply]
  rfl

/-- The first 42 terms of the overlap chain. -/
theorem nIn17_apply (X : Ins) (h : Fin 64) (p : Fin 512) :
    nIn17 X (ix2 h p) = chain (termIn X h p) 42 := by
  unfold nIn17
  pointwise [k0_pay74]
  rw [nIn16_apply]
  rfl

/-- The first 47 terms of the overlap chain. -/
theorem nIn18_apply (X : Ins) (h : Fin 64) (p : Fin 512) :
    nIn18 X (ix2 h p) = chain (termIn X h p) 47 := by
  unfold nIn18
  pointwise [k0_pay77]
  rw [nIn17_apply]
  rfl

/-- The first 52 terms of the overlap chain. -/
theorem nIn19_apply (X : Ins) (h : Fin 64) (p : Fin 512) :
    nIn19 X (ix2 h p) = chain (termIn X h p) 52 := by
  unfold nIn19
  pointwise [k0_pay80]
  rw [nIn18_apply]
  rfl

/-- The first 57 terms of the overlap chain. -/
theorem nIn20_apply (X : Ins) (h : Fin 64) (p : Fin 512) :
    nIn20 X (ix2 h p) = chain (termIn X h p) 57 := by
  unfold nIn20
  pointwise [k0_pay83]
  rw [nIn19_apply]
  rfl

/-- The first 62 terms of the overlap chain. -/
theorem nIn21_apply (X : Ins) (h : Fin 64) (p : Fin 512) :
    nIn21 X (ix2 h p) = chain (termIn X h p) 62 := by
  unfold nIn21
  pointwise [k0_pay86]
  rw [nIn20_apply]
  rfl

/-- The whole overlap chain. -/
theorem nIn_apply (X : Ins) (h : Fin 64) (p : Fin 512) :
    nIn X (ix2 h p) = chain (termIn X h p) 64 := by
  unfold nIn
  pointwise [k0_pay89]
  rw [nIn21_apply]
  rfl

/-- The first two terms of the label chain. -/
theorem nLab9_apply (X : Ins) (h : Fin 64) (p : Fin 512) :
    nLab9 X (ix2 h p) = chain (termLab X h p) 2 := by
  unfold nLab9
  pointwise [k0_pay49]
  rfl

/-- The first 7 terms of the label chain. -/
theorem nLab10_apply (X : Ins) (h : Fin 64) (p : Fin 512) :
    nLab10 X (ix2 h p) = chain (termLab X h p) 7 := by
  unfold nLab10 nTm9
  pointwise [k0_pay52, k0_pay51]
  rw [nLab9_apply]
  rfl

/-- The first 12 terms of the label chain. -/
theorem nLab11_apply (X : Ins) (h : Fin 64) (p : Fin 512) :
    nLab11 X (ix2 h p) = chain (termLab X h p) 12 := by
  unfold nLab11 nTm10
  pointwise [k0_pay55, k0_pay54]
  rw [nLab10_apply]
  rfl

/-- The first 17 terms of the label chain. -/
theorem nLab12_apply (X : Ins) (h : Fin 64) (p : Fin 512) :
    nLab12 X (ix2 h p) = chain (termLab X h p) 17 := by
  unfold nLab12 nTm11
  pointwise [k0_pay58, k0_pay57]
  rw [nLab11_apply]
  rfl

/-- The first 22 terms of the label chain. -/
theorem nLab13_apply (X : Ins) (h : Fin 64) (p : Fin 512) :
    nLab13 X (ix2 h p) = chain (termLab X h p) 22 := by
  unfold nLab13 nTm12
  pointwise [k0_pay61, k0_pay60]
  rw [nLab12_apply]
  rfl

/-- The first 27 terms of the label chain. -/
theorem nLab14_apply (X : Ins) (h : Fin 64) (p : Fin 512) :
    nLab14 X (ix2 h p) = chain (termLab X h p) 27 := by
  unfold nLab14 nTm13
  pointwise [k0_pay64, k0_pay63]
  rw [nLab13_apply]
  rfl

/-- The first 32 terms of the label chain. -/
theorem nLab15_apply (X : Ins) (h : Fin 64) (p : Fin 512) :
    nLab15 X (ix2 h p) = chain (termLab X h p) 32 := by
  unfold nLab15 nTm14
  pointwise [k0_pay67, k0_pay66]
  rw [nLab14_apply]
  rfl

/-- The first 37 terms of the label chain. -/
theorem nLab16_apply (X : Ins) (h : Fin 64) (p : Fin 512) :
    nLab16 X (ix2 h p) = chain (termLab X h p) 37 := by
  unfold nLab16 nTm15
  pointwise [k0_pay70, k0_pay69]
  rw [nLab15_apply]
  rfl

/-- The first 42 terms of the label chain. -/
theorem nLab17_apply (X : Ins) (h : Fin 64) (p : Fin 512) :
    nLab17 X (ix2 h p) = chain (termLab X h p) 42 := by
  unfold nLab17 nTm16
  pointwise [k0_pay73, k0_pay72]
  rw [nLab16_apply]
  rfl

/-- The first 47 terms of the label chain. -/
theorem nLab18_apply (X : Ins) (h : Fin 64) (p : Fin 512) :
    nLab18 X (ix2 h p) = chain (termLab X h p) 47 := by
  unfold nLab18 nTm17
  pointwise [k0_pay76, k0_pay75]
  rw [nLab17_apply]
  rfl

/-- The first 52 terms of the label chain. -/
theorem nLab19_apply (X : Ins) (h : Fin 64) (p : Fin 512) :
    nLab19 X (ix2 h p) = chain (termLab X h p) 52 := by
  unfold nLab19 nTm18
  pointwise [k0_pay79, k0_pay78]
  rw [nLab18_apply]
  rfl

/-- The first 57 terms of the label chain. -/
theorem nLab20_apply (X : Ins) (h : Fin 64) (p : Fin 512) :
    nLab20 X (ix2 h p) = chain (termLab X h p) 57 := by
  unfold nLab20 nTm19
  pointwise [k0_pay82, k0_pay81]
  rw [nLab19_apply]
  rfl

/-- The first 62 terms of the label chain. -/
theorem nLab21_apply (X : Ins) (h : Fin 64) (p : Fin 512) :
    nLab21 X (ix2 h p) = chain (termLab X h p) 62 := by
  unfold nLab21 nTm20
  pointwise [k0_pay85, k0_pay84]
  rw [nLab20_apply]
  rfl

/-- The whole label chain. -/
theorem nLab_apply (X : Ins) (h : Fin 64) (p : Fin 512) :
    nLab X (ix2 h p) = chain (termLab X h p) 64 := by
  unfold nLab nTm21
  pointwise [k0_pay88, k0_pay87]
  rw [nLab21_apply]
  rfl

end Cert.KernelIdeal.Body

end
-- ==== Proof.Words.lean ====
/- Counts as the programs carry them: natural numbers as 32-bit words and as extended reals, truth values as 0 and 1,
   and sums of them. -/
module

public import proofs.«01_k».proof.Proof.Spec
public import Mathlib.Data.EReal.Operations

@[expose] public section

noncomputable section

namespace Cert.Words

open Idealize.ShloMosaic Finset

/-- A natural number that fits in 31 bits, as a word, is the number as a signed integer. -/
theorem toInt_ofNat {n : ℕ} (h : n < 2 ^ 31) : (BitVec.ofNat 32 n).toInt = n := by
  rw [BitVec.toInt_eq_toNat_cond, BitVec.toNat_ofNat]
  have : n % 2 ^ 32 = n := Nat.mod_eq_of_lt (by omega)
  rw [this, if_pos (by omega)]

/-- A number's word read as a float is the number. -/
theorem sitofp_nat {n : ℕ} (h : n < 2 ^ 31) :
    FloatOps.sitofp (F := Ideal) FTy.f32 (BitVec.ofNat 32 n) = ((n : ℕ) : EReal) := by
  show ((((BitVec.ofNat 32 n).toInt : ℤ) : ℝ) : EReal) = _
  rw [toInt_ofNat h]; rfl

/-- A number's float read as a word is the number's word. -/
theorem fptosi_nat {n : ℕ} (h : n < 2 ^ 31) :
    FloatOps.fptosi (F := Ideal) (φ := FTy.f32) 32 ((n : ℕ) : EReal) = BitVec.ofNat 32 n := by
  show BitVec.ofInt 32 (Ideal.toIntClamped _ _ (((n : ℕ) : ℝ) : EReal)) = _
  have e : Ideal.toIntClamped (-(2 ^ (32 - 1) : Nat)) ((2 ^ (32 - 1) : Nat) - 1) (((n : ℕ) : ℝ) : EReal) = (n : ℤ) := by
    show max _ (min _ (if (0 : ℝ) ≤ (n : ℝ) then ⌊(n : ℝ)⌋ else ⌈(n : ℝ)⌉)) = _
    rw [if_pos (Nat.cast_nonneg n), Int.floor_natCast]
    omega
  rw [e]
  exact BitVec.ofInt_natCast 32 n

/-- Equal words of numbers. -/
theorem ofNat_eq {a b : ℕ} (ha : a < 2 ^ 32) (hb : b < 2 ^ 32) : BitVec.ofNat 32 a = BitVec.ofNat 32 b ↔ a = b := by
  constructor
  · intro h
    have := congrArg BitVec.toNat h
    rwa [BitVec.toNat_ofNat, BitVec.toNat_ofNat, Nat.mod_eq_of_lt ha, Nat.mod_eq_of_lt hb] at this
  · rintro rfl; rfl

/-- The comparison for equality of the words of two numbers. -/
theorem eq_nat {a b : ℕ} (ha : a < 2 ^ 32) (hb : b < 2 ^ 32) :
    IntOp.cmpi .eq (BitVec.ofNat 32 a) (BitVec.ofNat 32 b) = BitVec.ofBool (decide (a = b)) := by
  have : (BitVec.ofNat 32 a == BitVec.ofNat 32 b) = decide (a = b) := by
    rw [Bool.eq_iff_iff, beq_iff_eq, decide_eq_true_iff, ofNat_eq ha hb]
  unfold IntOp.cmpi; simp only [this]

/-- The comparison for inequality of the words of two numbers. -/
theorem ne_nat {a b : ℕ} (ha : a < 2 ^ 32) (hb : b < 2 ^ 32) :
    IntOp.cmpi .ne (BitVec.ofNat 32 a) (BitVec.ofNat 32 b) = BitVec.ofBool (decide (a ≠ b)) := by
  have : (BitVec.ofNat 32 a == BitVec.ofNat 32 b) = decide (a = b) := by
    rw [Bool.eq_iff_iff, beq_iff_eq, decide_eq_true_iff, ofNat_eq ha hb]
  unfold IntOp.cmpi; simp only [bne, this]; simp

/-- The comparison of the words of two numbers. -/
theorem slt_nat {a b : ℕ} (ha : a < 2 ^ 31) (hb : b < 2 ^ 31) :
    IntOp.cmpi .slt (BitVec.ofNat 32 a) (BitVec.ofNat 32 b) = BitVec.ofBool (decide (a < b)) := by
  have : (BitVec.ofNat 32 a).slt (BitVec.ofNat 32 b) = decide (a < b) := by
    unfold BitVec.slt; rw [toInt_ofNat ha, toInt_ofNat hb]; simp
  unfold IntOp.cmpi; simp only [this]

/-- The comparison of the words of two numbers. -/
theorem sle_nat {a b : ℕ} (ha : a < 2 ^ 31) (hb : b < 2 ^ 31) :
    IntOp.cmpi .sle (BitVec.ofNat 32 a) (BitVec.ofNat 32 b) = BitVec.ofBool (decide (a ≤ b)) := by
  have : (BitVec.ofNat 32 a).sle (BitVec.ofNat 32 b) = decide (a ≤ b) := by
    unfold BitVec.sle; rw [toInt_ofNat ha, toInt_ofNat hb]; simp
  unfold IntOp.cmpi; simp only [this]

/-- The conjunction of two truth values. -/
theorem andi_bool (P Q : Prop) [Decidable P] [Decidable Q] :
    IntOp.andi (BitVec.ofBool (decide P)) (BitVec.ofBool (decide Q)) = BitVec.ofBool (decide (P ∧ Q)) := by
  by_cases h : P <;> by_cases h' : Q <;> simp [IntOp.andi, h, h']

/-- The disjunction of two truth values. -/
theorem ori_bool (P Q : Prop) [Decidable P] [Decidable Q] :
    IntOp.ori (BitVec.ofBool (decide P)) (BitVec.ofBool (decide Q)) = BitVec.ofBool (decide (P ∨ Q)) := by
  by_cases h : P <;> by_cases h' : Q <;> simp [IntOp.ori, h, h']

/-- The negation of a truth value. -/
theorem xori_bool (P : Prop) [Decidable P] :
    IntOp.xori (BitVec.ofBool (decide P)) 1#1 = BitVec.ofBool (decide ¬P) := by
  by_cases h : P <;> simp [IntOp.xori, h]

/-- A truth value as a number. -/
abbrev ind (P : Prop) [Decidable P] : ℕ := if P then 1 else 0

/-- A truth value read as a float. -/
theorem sitofp_ind (P : Prop) [Decidable P] :
    FloatOps.sitofp (F := Ideal) FTy.f32 (BitVec.setWidth 32 (BitVec.ofBool (decide P))) = ((ind P : ℕ) : EReal) := by
  rw [Spec.sitofp_bool]; by_cases h : P <;> simp [h, ind]

/-- The order of numbers as extended reals. -/
theorem cast_lt {a b : ℕ} : ((a : ℕ) : EReal) < ((b : ℕ) : EReal) ↔ a < b := by
  show (((a : ℕ) : ℝ) : EReal) < (((b : ℕ) : ℝ) : EReal) ↔ _
  rw [EReal.coe_lt_coe_iff]; exact Nat.cast_lt

/-- Equality of numbers as extended reals. -/
theorem cast_inj {a b : ℕ} : ((a : ℕ) : EReal) = ((b : ℕ) : EReal) ↔ a = b := by
  show (((a : ℕ) : ℝ) : EReal) = (((b : ℕ) : ℝ) : EReal) ↔ _
  rw [EReal.coe_eq_coe_iff]; exact Nat.cast_inj

/-- The difference of numbers as extended reals. -/
theorem cast_sub {a b : ℕ} (h : b ≤ a) : ((a : ℕ) : EReal) - ((b : ℕ) : EReal) = ((a - b : ℕ) : EReal) := by
  show (((a : ℕ) : ℝ) : EReal) - (((b : ℕ) : ℝ) : EReal) = (((a - b : ℕ) : ℝ) : EReal)
  rw [← EReal.coe_sub, Nat.cast_sub h]

/-- A count below a difference of numbers. -/
theorem cast_lt_sub {a b c : ℕ} : ((a : ℕ) : EReal) < ((b : ℕ) : EReal) - ((c : ℕ) : EReal) ↔ a + c < b := by
  show (((a : ℕ) : ℝ) : EReal) < (((b : ℕ) : ℝ) : EReal) - (((c : ℕ) : ℝ) : EReal) ↔ _
  rw [← EReal.coe_sub, EReal.coe_lt_coe_iff, lt_sub_iff_add_lt, ← Nat.cast_add]; exact Nat.cast_lt

/-- Sums of numbers as extended reals. -/
theorem cast_sum {ι : Type} (s : Finset ι) (f : ι → ℕ) : (∑ i ∈ s, ((f i : ℕ) : EReal)) = ((∑ i ∈ s, f i : ℕ) : EReal) :=
  (Nat.cast_sum s f).symm

/-- Products of numbers as extended reals. -/
theorem cast_mul (a b : ℕ) : ((a : ℕ) : EReal) * ((b : ℕ) : EReal) = ((a * b : ℕ) : EReal) := by
  show (((a : ℕ) : ℝ) : EReal) * (((b : ℕ) : ℝ) : EReal) = (((a * b : ℕ) : ℝ) : EReal)
  rw [← EReal.coe_mul, Nat.cast_mul]

/-- Sums of two numbers as extended reals. -/
theorem cast_add (a b : ℕ) : ((a : ℕ) : EReal) + ((b : ℕ) : EReal) = ((a + b : ℕ) : EReal) := (Nat.cast_add a b).symm

/-- One as a number. -/
theorem cast_one : (1 : EReal) = ((1 : ℕ) : EReal) := Nat.cast_one.symm

/-- A sum against a row that is 1 at one place only. -/
theorem onehot {n : ℕ} (a : Fin n) (f : Fin n → EReal) : (∑ k, ((ind (k = a) : ℕ) : EReal) * f k) = f a := by
  rw [Finset.sum_eq_single a]
  · simp [ind]
  · intro b _ hb; simp [ind, hb]
  · intro h; exact absurd (mem_univ a) h

/-- A sum against a column that is 1 at one place only. -/
theorem onehot' {n : ℕ} (a : Fin n) (f : Fin n → EReal) : (∑ k, f k * ((ind (k = a) : ℕ) : EReal)) = f a := by
  rw [← onehot a f]; exact sum_congr rfl fun k _ => mul_comm _ _

/-- A sum of truth values is a count. -/
theorem sum_ind {n : ℕ} (P : Fin n → Prop) [DecidablePred P] : (∑ k, ind (P k)) = (univ.filter P).card :=
  (card_filter P univ).symm

/-- A sum against truth values is a sum over where they hold. -/
theorem sum_ind_mul {n : ℕ} (P : Fin n → Prop) [DecidablePred P] (f : Fin n → ℕ) :
    (∑ k, f k * ind (P k)) = ∑ k ∈ univ.filter P, f k := by
  rw [sum_filter]; exact sum_congr rfl fun k _ => by by_cases h : P k <;> simp [ind, h]

/-- A sum of truth values against numbers is a sum over where they hold. -/
theorem sum_mul_ind {n : ℕ} (P : Fin n → Prop) [DecidablePred P] (f : Fin n → ℕ) :
    (∑ k, ind (P k) * f k) = ∑ k ∈ univ.filter P, f k := by
  rw [← sum_ind_mul]; exact sum_congr rfl fun k _ => mul_comm _ _

/-- The pattern of 512. -/
theorem bits512 : Ideal.ofBits FTy.f32 0x44000000#32 = ((512 : ℕ) : EReal) := by
  rw [show ((512 : ℕ) : EReal) = ((512 : ℝ) : EReal) by norm_cast]
  simp [Ideal.ofBits, Ideal.ieee, -EReal.coe_mul, -EReal.coe_neg]; norm_num

/-- The pattern of 256. -/
theorem bits256 : Ideal.ofBits FTy.f32 0x43800000#32 = ((256 : ℕ) : EReal) := by
  rw [show ((256 : ℕ) : EReal) = ((256 : ℝ) : EReal) by norm_cast]
  simp [Ideal.ofBits, Ideal.ieee, -EReal.coe_mul, -EReal.coe_neg]; norm_num

/-- The pattern of 65536. -/
theorem bits65536 : Ideal.ofBits FTy.f32 0x47800000#32 = ((65536 : ℕ) : EReal) := by
  rw [show ((65536 : ℕ) : EReal) = ((65536 : ℝ) : EReal) by norm_cast]
  simp [Ideal.ofBits, Ideal.ieee, -EReal.coe_mul, -EReal.coe_neg]; norm_num

/-- The pattern of a half. -/
theorem bits_half : Ideal.ofBits FTy.f32 0x3F000000#32 = (((1 / 2 : ℝ)) : EReal) := by
  simp [Ideal.ofBits, Ideal.ieee, -EReal.coe_mul, -EReal.coe_neg]; norm_num

/-- The pattern of the least value. -/
theorem bits_bot : Ideal.ofBits FTy.f32 0xFF800000#32 = (⊥ : EReal) := by
  simp [Ideal.ofBits, Ideal.ieee]

/-- The pattern of minus one. -/
theorem bits_neg_one : Ideal.ofBits FTy.f32 0xBF800000#32 = (((-1 : ℝ)) : EReal) := by
  simp [Ideal.ofBits, Ideal.ieee, -EReal.coe_mul, -EReal.coe_neg]; norm_num

end Cert.Words

end
-- ==== Proof.Order.lean ====
/- Counting in a finite order: ranks, the first so many elements, the enumeration of a selection from its running
   counts, and the selection of the best so many elements by a threshold with ties taken by position. -/
module

public import Mathlib.Data.Fintype.Card
public import Mathlib.Data.Fintype.BigOperators
public import Mathlib.Algebra.BigOperators.Fin
public import Mathlib.Order.Interval.Finset.Fin
public import Mathlib.Algebra.Order.BigOperators.Group.Finset
public import Mathlib.Tactic.Ring
public import Mathlib.Tactic.Linarith

@[expose] public section

noncomputable section

namespace Cert.Order

open Finset

/-- How many members of a set come before an element in a relation. -/
def rank {α : Type} (T : Finset α) (R : α → α → Prop) [DecidableRel R] (x : α) : ℕ := (T.filter fun y => R y x).card

/-- A strict total order, as a relation. -/
structure Strict {α : Type} (R : α → α → Prop) : Prop where
  irrefl : ∀ a, ¬ R a a
  trans : ∀ a b c, R a b → R b c → R a c
  total : ∀ a b, a ≠ b → R a b ∨ R b a

section

variable {α : Type} {T : Finset α} {R : α → α → Prop} [DecidableRel R] (hR : Strict R)
include hR

/-- An earlier member has a smaller rank than a later element. -/
theorem rank_lt_rank {x y : α} (hx : x ∈ T) (h : R x y) : rank T R x < rank T R y := by
  refine card_lt_card ⟨fun z hz => ?_, fun hs => ?_⟩
  · rw [mem_filter] at hz ⊢
    exact ⟨hz.1, hR.trans _ _ _ hz.2 h⟩
  · have := hs (mem_filter.mpr ⟨hx, h⟩)
    exact hR.irrefl x (mem_filter.mp this).2

/-- A member's rank is below the number of members. -/
theorem rank_lt_card {x : α} (hx : x ∈ T) : rank T R x < T.card := by
  refine card_lt_card ⟨filter_subset _ _, fun hs => ?_⟩
  exact hR.irrefl x (mem_filter.mp (hs hx)).2

/-- Different members have different ranks. -/
theorem rank_inj {x y : α} (hx : x ∈ T) (hy : y ∈ T) (h : rank T R x = rank T R y) : x = y := by
  by_contra hne
  rcases hR.total x y hne with h' | h'
  · exact absurd h (rank_lt_rank hR hx h').ne
  · exact absurd h (rank_lt_rank hR hy h').ne'

/-- The ranks of the members are all the numbers below their number. -/
theorem image_rank : T.image (rank T R) = range T.card := by
  classical
  refine eq_of_subset_of_card_le (fun k hk => ?_) ?_
  · obtain ⟨x, hx, rfl⟩ := mem_image.mp hk
    exact mem_range.mpr (rank_lt_card hR hx)
  · rw [card_range, card_image_of_injOn]
    exact fun x hx y hy h => rank_inj hR hx hy h

/-- Every number below the number of members is a member's rank. -/
theorem exists_rank {k : ℕ} (hk : k < T.card) : ∃ x ∈ T, rank T R x = k :=
  mem_image.mp (by rw [image_rank hR]; exact mem_range.mpr hk)

/-- The members of rank below `n` are `n` in number, when there are so many. -/
theorem card_first {n : ℕ} (hn : n ≤ T.card) : (T.filter fun x => rank T R x < n).card = n := by
  classical
  have h : (T.filter fun x => rank T R x < n).image (rank T R) = range n := by
    ext k
    simp only [mem_image, mem_filter, mem_range]
    constructor
    · rintro ⟨x, ⟨_, h⟩, rfl⟩; exact h
    · intro hk
      obtain ⟨x, hx, rfl⟩ := exists_rank hR (lt_of_lt_of_le hk hn)
      exact ⟨x, ⟨hx, hk⟩, rfl⟩
  have hi : Set.InjOn (rank T R) (T.filter fun x => rank T R x < n) := fun x hx y hy e =>
    rank_inj hR (filter_subset _ _ hx) (filter_subset _ _ hy) e
  have := card_image_of_injOn hi
  rw [h, card_range] at this
  exact this.symm

end

/-- The order of a linear order is a strict total order. -/
theorem strict_lt {α : Type} [LinearOrder α] : Strict (fun a b : α => a < b) :=
  ⟨fun a => lt_irrefl a, fun _ _ _ => lt_trans, fun _ _ h => lt_or_gt_of_ne h⟩

/-- Greater value first, then earlier position. -/
def Better {α κ : Type} [LinearOrder α] [LinearOrder κ] (v : α → κ) (x y : α) : Prop := v y < v x ∨ (v x = v y ∧ x < y)

instance {α κ : Type} [LinearOrder α] [LinearOrder κ] (v : α → κ) : DecidableRel (Better v) :=
  fun x y => inferInstanceAs (Decidable (v y < v x ∨ (v x = v y ∧ x < y)))

/-- It is a strict total order. -/
theorem strict_better {α κ : Type} [LinearOrder α] [LinearOrder κ] (v : α → κ) : Strict (Better v) := by
  refine ⟨fun a h => ?_, fun a b c h1 h2 => ?_, fun a b h => ?_⟩
  · rcases h with h | h
    · exact lt_irrefl _ h
    · exact lt_irrefl _ h.2
  · rcases h1 with h1 | ⟨e1, h1⟩ <;> rcases h2 with h2 | ⟨e2, h2⟩
    · exact Or.inl (h2.trans h1)
    · exact Or.inl (e2 ▸ h1)
    · exact Or.inl (e1 ▸ h2)
    · exact Or.inr ⟨e1.trans e2, h1.trans h2⟩
  · rcases lt_trichotomy (v a) (v b) with h' | h' | h'
    · exact Or.inr (Or.inl h')
    · rcases lt_or_gt_of_ne h with h'' | h''
      · exact Or.inl (Or.inr ⟨h', h''⟩)
      · exact Or.inr (Or.inr ⟨h'.symm, h''⟩)
    · exact Or.inl (Or.inl h')

/-- The members of a threshold selection: the elements of a level above the threshold, and of those at it the first,
    by position, up to `n` elements in all. -/
def Taken {α κ : Type} [Fintype α] [LinearOrder α] [LinearOrder κ] (L : α → κ) (θ : κ) (n : ℕ) (x : α) : Prop :=
  θ < L x ∨ (L x = θ ∧ rank (univ.filter fun y => L y = θ) (fun a b => a < b) x + (univ.filter fun y => θ < L y).card < n)

instance {α κ : Type} [Fintype α] [LinearOrder α] [LinearOrder κ] (L : α → κ) (θ : κ) (n : ℕ) :
    DecidablePred (Taken L θ n) := fun x => inferInstanceAs (Decidable (_ ∨ _))

/-- A threshold selection has `n` elements when at most `n` are above the threshold and at least `n` at or above it. -/
theorem card_taken {α κ : Type} [Fintype α] [LinearOrder α] [LinearOrder κ] (L : α → κ) (θ : κ) (n : ℕ)
    (hgt : (univ.filter fun y => θ < L y).card ≤ n) (hge : n ≤ (univ.filter fun y => θ ≤ L y).card) :
    (univ.filter (Taken L θ n)).card = n := by
  classical
  have e1 : univ.filter (Taken L θ n) = (univ.filter fun y => θ < L y) ∪
      ((univ.filter fun y => L y = θ).filter fun x => rank (univ.filter fun y => L y = θ) (fun a b => a < b) x
        < n - (univ.filter fun y => θ < L y).card) := by
    ext x
    simp only [mem_filter, mem_univ, true_and, mem_union, Taken]
    constructor
    · rintro (h | ⟨h, h'⟩)
      · exact Or.inl h
      · exact Or.inr ⟨h, by omega⟩
    · rintro (h | ⟨h, h'⟩)
      · exact Or.inl h
      · exact Or.inr ⟨h, by omega⟩
  have e2 : (univ.filter fun y => θ ≤ L y) = (univ.filter fun y => θ < L y) ∪ (univ.filter fun y => L y = θ) := by
    ext x
    simp only [mem_filter, mem_univ, true_and, mem_union]
    rw [le_iff_lt_or_eq, eq_comm]
  have d2 : Disjoint (univ.filter fun y => θ < L y) (univ.filter fun y => L y = θ) := by
    rw [disjoint_filter]; intro x _ h e; exact absurd e h.ne'
  rw [e2, card_union_of_disjoint d2] at hge
  rw [e1, card_union_of_disjoint (d2.mono_right (filter_subset _ _)), card_first strict_lt (by omega)]
  omega

/-- A threshold selection takes the better elements first, when the level never falls as the value rises and does not
    tell apart only elements of the same value at the threshold. -/
theorem taken_closed {α κ μ : Type} [Fintype α] [LinearOrder α] [LinearOrder κ] [LinearOrder μ] (v : α → μ) (L : α → κ)
    (θ : κ) (n : ℕ) (mono : ∀ x y, v x ≤ v y → L x ≤ L y) (flat : ∀ x y, L x = θ → L y = θ → v x = v y) {x y : α}
    (hx : Taken L θ n x) (h : Better v y x) : Taken L θ n y := by
  have hv : v x ≤ v y := by
    rcases h with h | h
    · exact h.le
    · exact h.1.ge
  have hL := mono x y hv
  rcases hx with hx | ⟨hx, hc⟩
  · exact Or.inl (hx.trans_le hL)
  · rcases (hx ▸ hL).lt_or_eq with h' | h'
    · exact Or.inl h'
    · refine Or.inr ⟨h'.symm, lt_of_le_of_lt (Nat.add_le_add_right ?_ _) hc⟩
      have hyx : y < x := by
        rcases h with h | h
        · exact absurd (flat x y hx h'.symm) h.ne
        · exact h.2
      exact (rank_lt_rank strict_lt (by rw [mem_filter]; exact ⟨mem_univ _, h'.symm⟩) hyx).le

/-- The enumeration of a selection in position order, put in the order of the values: with `p s` the member that has
    `s` members before it, there is for each `k` a place `τ k` whose member has rank `k` among the members, and the
    members so ordered are the best elements in order. -/
theorem ordered {α μ : Type} [Fintype α] [LinearOrder α] [LinearOrder μ] (v : α → μ) (S : α → Prop) [DecidablePred S]
    (n : ℕ) (hcard : (univ.filter S).card = n) (closed : ∀ x y, S x → Better v y x → S y) (p : Fin n → α)
    (hp : ∀ s, S (p s)) (hs : ∀ s, rank (univ.filter S) (fun a b => a < b) (p s) = s.val) :
    (∀ s t, p s < p t ↔ s < t) ∧ ∃ τ : Fin n → Fin n,
      (∀ s k, rank univ (fun a b => Better v (p a) (p b)) s = k.val ↔ s = τ k) ∧
      Function.Injective (fun k => p (τ k)) ∧
      (∀ i j : Fin n, i < j → ¬ Better v (p (τ j)) (p (τ i))) ∧
      ∀ (i : Fin n) (x : α), (∀ j, p (τ j) ≠ x) → ¬ Better v x (p (τ i)) := by
  classical
  have hmem : ∀ s, p s ∈ univ.filter S := fun s => by rw [mem_filter]; exact ⟨mem_univ _, hp s⟩
  have hlt : ∀ s t, p s < p t ↔ s < t := by
    intro s t
    constructor
    · intro h
      have := rank_lt_rank strict_lt (hmem s) h
      rw [hs, hs] at this; exact this
    · intro h
      by_contra hn
      rcases (not_lt.mp hn).lt_or_eq with h' | h'
      · have := rank_lt_rank strict_lt (hmem t) h'
        rw [hs, hs] at this; exact absurd h (not_lt.mpr (le_of_lt this))
      · have : (s : ℕ) = t := by rw [← hs s, ← hs t, h']
        exact absurd h (by rw [Fin.lt_def]; omega)
  have hinj : Function.Injective p := fun s t h => by
    apply Fin.ext; rw [← hs s, ← hs t, h]
  have hsurj : ∀ x, S x → ∃ s, p s = x := by
    intro x hx
    have hx' : x ∈ univ.filter S := by rw [mem_filter]; exact ⟨mem_univ _, hx⟩
    have hl : rank (univ.filter S) (fun a b => a < b) x < n := hcard ▸ rank_lt_card strict_lt hx'
    exact ⟨⟨_, hl⟩, rank_inj strict_lt (hmem _) hx' (hs _)⟩
  have hB := strict_better v
  have hR : Strict (fun a b : Fin n => Better v (p a) (p b)) :=
    ⟨fun a => hB.irrefl _, fun _ _ _ => hB.trans _ _ _, fun a b h => hB.total _ _ fun e => h (hinj e)⟩
  have hex : ∀ k : Fin n, ∃ s, rank univ (fun a b : Fin n => Better v (p a) (p b)) s = k.val := fun k => by
    obtain ⟨s, _, h⟩ := exists_rank (T := univ) hR (k := k.val) (by rw [card_univ, Fintype.card_fin]; exact k.isLt)
    exact ⟨s, h⟩
  choose τ hτ using hex
  have hτinj : ∀ i j, p (τ i) = p (τ j) → i = j := fun i j h => by
    apply Fin.ext; rw [← hτ i, ← hτ j, hinj h]
  refine ⟨hlt, τ, fun s k => ⟨fun h => rank_inj hR (mem_univ _) (mem_univ _) (h.trans (hτ k).symm), fun h => h ▸ hτ k⟩,
    fun i j h => hτinj i j h, fun i j hij h => ?_, fun i x hx h => ?_⟩
  · have := rank_lt_rank (T := univ) hR (mem_univ (τ j)) h
    rw [hτ, hτ] at this; exact absurd hij (not_lt.mpr (le_of_lt this))
  · obtain ⟨s, hs'⟩ := hsurj x (closed _ _ (hp _) h)
    have hk := rank_lt_card (T := univ) hR (mem_univ s)
    rw [card_univ, Fintype.card_fin] at hk
    refine hx ⟨_, hk⟩ ?_
    rw [← hs']
    exact congrArg p (rank_inj (T := univ) hR (mem_univ _) (mem_univ _) (hτ ⟨_, hk⟩))

/-- The place at which the running sum of a sequence of counts passes a number, as the number of running sums that have
    not passed it. -/
theorem passes {m : ℕ} (A : Fin m → ℕ) (s : ℕ) (h : s < ∑ i, A i) :
    ∃ k : Fin m, (univ.filter fun r => ∑ i ∈ univ.filter (fun i => i ≤ r), A i ≤ s).card = k.val ∧
      ∑ i ∈ univ.filter (fun i => i < k), A i ≤ s ∧ s < ∑ i ∈ univ.filter (fun i => i < k), A i + A k := by
  classical
  have hle : ∀ k : Fin m, ∑ i ∈ univ.filter (fun i => i ≤ k), A i = ∑ i ∈ univ.filter (fun i => i < k), A i + A k := by
    intro k
    have : univ.filter (fun i => i ≤ k) = insert k (univ.filter fun i => i < k) := by
      ext i; simp only [mem_filter, mem_univ, true_and, mem_insert]; rw [le_iff_lt_or_eq, or_comm]
    rw [this, sum_insert (by simp), add_comm]
  have hmono : ∀ r t : Fin m, r ≤ t → ∑ i ∈ univ.filter (fun i => i ≤ r), A i ≤ ∑ i ∈ univ.filter (fun i => i ≤ t), A i :=
    fun r t hrt => sum_le_sum_of_subset (fun i hi => by
      rw [mem_filter] at hi ⊢; exact ⟨hi.1, hi.2.trans hrt⟩)
  have hm : 0 < m := by
    rcases Nat.eq_zero_or_pos m with e | e
    · subst e; simp at h
    · exact e
  let last : Fin m := ⟨m - 1, by omega⟩
  have hlast : s < ∑ i ∈ univ.filter (fun i => i ≤ last), A i := by
    have : univ.filter (fun i => i ≤ last) = univ := by
      ext i; simp only [mem_filter, mem_univ, true_and, iff_true]
      exact Fin.le_def.mpr (by show i.val ≤ m - 1; omega)
    rw [this]; exact h
  have hne : (univ.filter fun r => s < ∑ i ∈ univ.filter (fun i => i ≤ r), A i).Nonempty :=
    ⟨last, by rw [mem_filter]; exact ⟨mem_univ _, hlast⟩⟩
  let k := (univ.filter fun r => s < ∑ i ∈ univ.filter (fun i => i ≤ r), A i).min' hne
  have hk : s < ∑ i ∈ univ.filter (fun i => i ≤ k), A i := (mem_filter.mp (min'_mem _ hne)).2
  have hmin : ∀ r, s < ∑ i ∈ univ.filter (fun i => i ≤ r), A i → k ≤ r := fun r hr =>
    min'_le _ _ (by rw [mem_filter]; exact ⟨mem_univ _, hr⟩)
  refine ⟨k, ?_, ?_, by rw [← hle]; exact hk⟩
  · have : (univ.filter fun r => ∑ i ∈ univ.filter (fun i => i ≤ r), A i ≤ s) = Iio k := by
      ext r; simp only [mem_filter, mem_univ, true_and, mem_Iio]
      constructor
      · intro hr; by_contra hn
        exact absurd (hk.trans_le (hmono k r (not_lt.mp hn))) (not_lt.mpr hr)
      · intro hr; by_contra hn
        exact absurd (hmin r (not_le.mp hn)) (not_le.mpr hr)
    rw [this, Fin.card_Iio]
  · rcases Nat.eq_zero_or_pos k.val with e | e
    · have : univ.filter (fun i => i < k) = ∅ := by
        ext i; simp only [mem_filter, mem_univ, true_and, notMem_empty, iff_false, Fin.lt_def]; omega
      rw [this]; simp
    · let k' : Fin m := ⟨k.val - 1, by omega⟩
      have : univ.filter (fun i => i < k) = univ.filter (fun i => i ≤ k') := by
        ext i; simp only [mem_filter, mem_univ, true_and, Fin.lt_def, Fin.le_def]
        show i.val < k.val ↔ i.val ≤ k.val - 1
        omega
      rw [this]; by_contra hn
      have h1 := Fin.le_def.mp (hmin k' (not_le.mp hn))
      have h2 : k'.val = k.val - 1 := rfl
      omega

/-- The flat position of a pair. -/
def flat (i j : Fin 512) : Fin 262144 := ⟨512 * i.val + j.val, by omega⟩

/-- The order of the flat positions is row by row. -/
theorem flat_lt (i j i' j' : Fin 512) : flat i j < flat i' j' ↔ i < i' ∨ (i = i' ∧ j < j') := by
  rw [Fin.lt_def, Fin.lt_def, Fin.lt_def, Fin.ext_iff]; simp only [flat]; omega

/-- Different pairs have different positions. -/
theorem flat_inj {i j i' j' : Fin 512} : flat i j = flat i' j' ↔ i = i' ∧ j = j' := by
  rw [Fin.ext_iff, Fin.ext_iff, Fin.ext_iff]; simp only [flat]; omega

/-- The row of a position. -/
def row (x : Fin 262144) : Fin 512 := ⟨x.val / 512, by omega⟩

/-- The column of a position. -/
def col (x : Fin 262144) : Fin 512 := ⟨x.val % 512, by omega⟩

/-- A position is the flat position of its row and column. -/
@[simp] theorem flat_row_col (x : Fin 262144) : flat (row x) (col x) = x := by
  apply Fin.ext; simp only [flat, row, col]; omega

/-- The row of a flat position. -/
@[simp] theorem row_flat (i j : Fin 512) : row (flat i j) = i := by
  apply Fin.ext; simp only [flat, row]; omega

/-- The column of a flat position. -/
@[simp] theorem col_flat (i j : Fin 512) : col (flat i j) = j := by
  apply Fin.ext; simp only [flat, col]; omega

/-- The pairs and the positions. -/
def pairs : Fin 512 × Fin 512 ≃ Fin 262144 where
  toFun x := flat x.1 x.2
  invFun x := (row x, col x)
  left_inv x := by simp
  right_inv x := by simp

/-- A sum over the positions is a sum over rows of sums over columns. -/
theorem sum_flat {M : Type} [AddCommMonoid M] (f : Fin 262144 → M) : ∑ x, f x = ∑ i, ∑ j, f (flat i j) := by
  rw [← Fintype.sum_prod_type' (f := fun i j => f (flat i j))]
  exact (Fintype.sum_equiv pairs _ _ fun x => rfl).symm

/-- A count over the positions is a sum over rows of counts along columns. -/
theorem card_flat (P : Fin 262144 → Prop) [DecidablePred P] :
    (univ.filter P).card = ∑ i, ∑ j, if P (flat i j) then 1 else 0 := by
  rw [card_filter, sum_flat]

/-- The number of members before a pair: those in earlier rows and those before it in its row. -/
theorem rank_flat (S : Fin 262144 → Prop) [DecidablePred S] (r q : Fin 512) :
    rank (univ.filter S) (fun a b => a < b) (flat r q)
      = ∑ i ∈ univ.filter (fun i => i < r), ∑ j, (if S (flat i j) then 1 else 0)
        + ∑ j ∈ univ.filter (fun j => j < q), if S (flat r j) then 1 else 0 := by
  classical
  unfold rank
  rw [filter_filter, card_flat]
  have h : ∀ i, (∑ j, if S (flat i j) ∧ flat i j < flat r q then 1 else 0)
      = (if i < r then ∑ j, (if S (flat i j) then 1 else 0) else 0)
        + if i = r then ∑ j ∈ univ.filter (fun j => j < q), (if S (flat r j) then 1 else 0) else (0 : ℕ) := by
    intro i
    simp only [flat_lt]
    rcases lt_trichotomy i r with h | h | h
    · rw [if_pos h, if_neg h.ne, add_zero]
      exact sum_congr rfl fun j _ => by simp [h]
    · subst h
      rw [if_neg (lt_irrefl _), if_pos rfl, zero_add, sum_filter]
      refine sum_congr rfl fun j _ => ?_
      by_cases h1 : j < q <;> simp [h1]
    · rw [if_neg (not_lt.mpr h.le), if_neg h.ne', add_zero]
      refine sum_eq_zero fun j _ => ?_
      simp [h.ne', not_lt.mpr h.le]
  rw [sum_congr rfl fun i _ => h i, sum_add_distrib, ← sum_filter, sum_ite_eq' univ r, if_pos (mem_univ _)]

/-- The row and the column at which the running counts of a selection pass a number are those of the member with so many
    members before it. -/
theorem enumerated (S : Fin 262144 → Prop) [DecidablePred S] (s : ℕ) (hs : s < (univ.filter S).card) :
    ∃ r q : Fin 512,
      (univ.filter fun i' => ∑ i ∈ univ.filter (fun i => i ≤ i'), ∑ j, (if S (flat i j) then 1 else 0) ≤ s).card = r.val ∧
      ∑ i ∈ univ.filter (fun i => i < r), ∑ j, (if S (flat i j) then 1 else 0) ≤ s ∧
      (univ.filter fun j' => ∑ j ∈ univ.filter (fun j => j ≤ j'), (if S (flat r j) then 1 else 0)
        ≤ s - ∑ i ∈ univ.filter (fun i => i < r), ∑ j, (if S (flat i j) then 1 else 0)).card = q.val ∧
      S (flat r q) ∧ rank (univ.filter S) (fun a b => a < b) (flat r q) = s := by
  rw [card_flat] at hs
  obtain ⟨r, hr, h1, h2⟩ := passes (fun i => ∑ j, if S (flat i j) then 1 else 0) s hs
  obtain ⟨q, hq, h3, h4⟩ := passes (fun j => if S (flat r j) then 1 else 0)
    (s - ∑ i ∈ univ.filter (fun i => i < r), ∑ j, (if S (flat i j) then 1 else 0)) (by omega)
  refine ⟨r, q, hr, h1, hq, ?_, ?_⟩
  · by_contra hn
    rw [if_neg hn] at h4; omega
  · rw [rank_flat]
    have : (if S (flat r q) then 1 else 0) ≤ 1 := by split <;> omega
    omega

end Cert.Order

end
-- ==== Proof.Enumerate.lean ====
/- How the kernel enumerates the pairs it has picked for the foreground places: for each place the row and the column of
   the pair with so many picked pairs before it, and the columns that select them. -/
module

public import proofs.«01_k».proof.Proof.KernelNames
public import proofs.«01_k».proof.Proof.Words
public import proofs.«01_k».proof.Proof.Order
public import Idealize.ShloMosaic.Lib.Pointwise

@[expose] public section

set_option maxRecDepth 16384
set_option maxHeartbeats 1000000

noncomputable section

namespace Cert.KernelIdeal.Body

open Cert.KernelIdeal.Gen Cert.Spec Cert.Order Cert.Words
open Idealize.ShloMosaic Idealize.ShloMosaic.TcCoe Idealize.ShloMosaic.Pointwise

/-- The upper triangle: 1 where the row is not below the column. -/
theorem upper_apply (i j : Fin 512) : k0_pay26 (F := Ideal) (ix2 i j) = ((ind (i ≤ j) : ℕ) : EReal) := by
  pointwise [k0_pay26]
  rw [sle_nat (by omega) (by omega), sitofp_ind]
  rfl

/-- The strict lower triangle: 1 where the column is before the row. -/
theorem lower_apply (i j : Fin 512) : k0_pay27 (F := Ideal) (ix2 i j) = ((ind (j < i) : ℕ) : EReal) := by
  pointwise [k0_pay27]
  rw [slt_nat (by omega) (by omega), sitofp_ind]
  rfl

/-- The places' numbers, from 1. -/
theorem place_apply (s : Fin 256) : k0_pay107 (F := Ideal) (ix2 s 0) = ((s.val + 1 : ℕ) : EReal) := by
  pointwise [k0_pay107]
  rw [sitofp_nat (by omega), cast_one, cast_add]

/-- The number of picked pairs of a row. -/
def rowCount (S : Fin 262144 → Prop) [DecidablePred S] (i : Fin 512) : ℕ := ∑ j, ind (S (flat i j))

section

variable (S : Fin 262144 → Prop) [DecidablePred S] (A B : FVec Ideal S512x512 .f32) (n : Ideal .f32)
  (hP : ∀ i j, k0_pay105 (k0_pay26 (F := Ideal)) (k0_pay27 (F := Ideal)) A B n (ix2 i j) = ((ind (S (flat i j)) : ℕ) : EReal))
include hP

/-- The number of picked pairs up to a row. -/
theorem upTo_apply (r : Fin 512) : k0_pay106 (k0_pay26 (F := Ideal)) (k0_pay27 (F := Ideal)) A B n (ix2 0 r)
    = ((∑ i ∈ Finset.univ.filter (fun i => i ≤ r), rowCount S i : ℕ) : EReal) := by
  pointwise [k0_pay106]
  simp only [hP, upper_apply, cast_mul, cast_sum]
  rw [Finset.sum_comm]
  simp only [← Finset.sum_mul]
  rw [sum_ind_mul]; rfl

/-- The row of a place: the number of rows up to which not enough pairs are picked. -/
theorem rowOf_apply (s : Fin 256) : k0_pay108 (k0_pay26 (F := Ideal)) (k0_pay27 (F := Ideal)) A B n (ix2 s 0)
    = (((Finset.univ.filter fun r : Fin 512 => ∑ i ∈ Finset.univ.filter (fun i => i ≤ r), rowCount S i ≤ s.val).card : ℕ) : EReal) := by
  pointwise [k0_pay108]
  simp only [upTo_apply S A B n hP, place_apply, cast_lt, sitofp_ind, cast_sum, sum_ind, Nat.lt_succ_iff]

/-- The row of a place, as a column that is 1 at it. -/
theorem oneRow_apply (s : Fin 256) (r : Fin 512) (hr : (Finset.univ.filter fun r : Fin 512 => ∑ i ∈ Finset.univ.filter (fun i => i ≤ r), rowCount S i ≤ s.val).card = r.val)
    (i : Fin 512) : k0_pay109 (k0_pay26 (F := Ideal)) (k0_pay27 (F := Ideal)) A B n (ix2 s i) = ((ind (i = r) : ℕ) : EReal) := by
  pointwise [k0_pay109]
  rw [rowOf_apply S A B n hP, hr, fptosi_nat (by omega), eq_nat (by omega) (by omega), sitofp_ind]
  simp only [ind, Fin.ext_iff]

/-- The number of picked pairs before a row. -/
theorem before_apply (s : Fin 256) (r : Fin 512) : k0_pay110 (k0_pay26 (F := Ideal)) (k0_pay27 (F := Ideal)) A B n (ix2 s r)
    = ((∑ i ∈ Finset.univ.filter (fun i => i < r), rowCount S i : ℕ) : EReal) := by
  pointwise [k0_pay110, k0_pay100]
  rw [upTo_apply S A B n hP]
  simp only [hP, cast_sum]
  have h : ∑ i ∈ Finset.univ.filter (fun i => i ≤ r), rowCount S i
      = ∑ i ∈ Finset.univ.filter (fun i => i < r), rowCount S i + rowCount S r := by
    have : Finset.univ.filter (fun i => i ≤ r) = insert r (Finset.univ.filter fun i => i < r) := by
      ext i; simp only [Finset.mem_filter, Finset.mem_univ, true_and, Finset.mem_insert]; rw [le_iff_lt_or_eq, or_comm]
    rw [this, Finset.sum_insert (by simp), add_comm]
  rw [h]
  show _ - ((rowCount S r : ℕ) : EReal) = _
  rw [cast_sub (Nat.le_add_left _ _), Nat.add_sub_cancel]

end

section

variable (S : Fin 262144 → Prop) [DecidablePred S] (P : FVec Ideal S512x512 .bf16) (R C : FVec Ideal S256x512 .f32)
  (hP : ∀ i j, P (ix2 i j) = ((ind (S (flat i j)) : ℕ) : EReal)) (s : Fin 256) (r : Fin 512)
  (hR : ∀ i, R (ix2 s i) = ((ind (i = r) : ℕ) : EReal))
  (hC : ∀ i, C (ix2 s i) = ((∑ i ∈ Finset.univ.filter (fun i' => i' < i), rowCount S i : ℕ) : EReal))
include hP hR hC

/-- The column of a place: the number of columns up to which, in its row, not enough pairs are picked. -/
theorem colOf_apply (hs : ∑ i ∈ Finset.univ.filter (fun i => i < r), rowCount S i ≤ s.val) :
    k0_pay111 (k0_pay26 (F := Ideal)) P (k0_pay107 (F := Ideal)) R C (ix2 s 0)
    = (((Finset.univ.filter fun j' : Fin 512 => ∑ j ∈ Finset.univ.filter (fun j => j ≤ j'), ind (S (flat r j))
        ≤ s.val - ∑ i ∈ Finset.univ.filter (fun i => i < r), rowCount S i).card : ℕ) : EReal) := by
  pointwise [k0_pay111]
  simp only [hR, onehot]
  simp only [hC, hP, upper_apply, place_apply, cast_mul, cast_sum, sum_ind_mul]
  rw [cast_sub (by omega)]
  simp only [cast_lt, sitofp_ind, cast_sum, sum_ind]
  congr 2
  refine Finset.filter_congr fun j _ => ?_
  omega

/-- The column of a place, as a column that is 1 at it. -/
theorem oneCol_apply (hs : ∑ i ∈ Finset.univ.filter (fun i => i < r), rowCount S i ≤ s.val) (q : Fin 512)
    (hq : (Finset.univ.filter fun j' : Fin 512 => ∑ j ∈ Finset.univ.filter (fun j => j ≤ j'), ind (S (flat r j))
        ≤ s.val - ∑ i ∈ Finset.univ.filter (fun i => i < r), rowCount S i).card = q.val) (j : Fin 512) :
    k0_pay112 (k0_pay26 (F := Ideal)) P (k0_pay107 (F := Ideal)) (iota .tc S256x512 32 [1] iota_S256x512_d1_w32) R C (ix2 s j)
      = ((ind (j = q) : ℕ) : EReal) := by
  pointwise [k0_pay112]
  rw [colOf_apply S P R C hP s r hR hC hs, hq, fptosi_nat (by omega), eq_nat (by omega) (by omega), sitofp_ind]
  simp only [ind, Fin.ext_iff]

end

end Cert.KernelIdeal.Body

end
-- ==== Proof.Bisect.lean ====
/- A bisection over words, as a bisection over integers. -/
module

public import proofs.«01_k».proof.Proof.Words
public import Idealize.ShloMosaic.Lib.Pointwise

@[expose] public section

set_option maxRecDepth 16384

noncomputable section

namespace Cert.Bisect

open Idealize.ShloMosaic Cert.Words

/-- The half of a width, rounded down, as the programs compute it on words. -/
def half (v : BitVec 32) : BitVec 32 :=
  Scalar.select
    (Scalar.andi
      (Scalar.cmpi .ne (Scalar.subi (Scalar.extui (Scalar.cmpi .sgt v 0#32)) (Scalar.extui (Scalar.cmpi .slt v 0#32)))
        (Scalar.subi (Scalar.extui (Scalar.cmpi .sgt 2#32 0#32)) (Scalar.extui (Scalar.cmpi .slt 2#32 0#32) : BitVec 32)))
      (Scalar.cmpi .ne (Scalar.remsi v 2#32) 0#32))
    (Scalar.subi (Scalar.divsi v 2#32) 1#32) (Scalar.divsi v 2#32)

/-- The middle of two words. -/
def mid (a b : BitVec 32) : BitVec 32 := Scalar.addi a (half (Scalar.subi b a))

/-- The half of a width that is positive. -/
theorem half_nat {n : ℕ} (h0 : 0 < n) (h : n < 2 ^ 31) : half (BitVec.ofNat 32 n) = BitVec.ofNat 32 (n / 2) := by
  have hi : (BitVec.ofNat 32 n).toInt = n := toInt_ofNat h
  have hc : Scalar.cmpi .ne (Scalar.subi (Scalar.extui (Scalar.cmpi .sgt (BitVec.ofNat 32 n) 0#32))
      (Scalar.extui (Scalar.cmpi .slt (BitVec.ofNat 32 n) 0#32)))
        (Scalar.subi (Scalar.extui (Scalar.cmpi .sgt 2#32 0#32)) (Scalar.extui (Scalar.cmpi .slt 2#32 0#32) : BitVec 32)) = 0#1 := by
    have e1 : Scalar.cmpi .sgt (BitVec.ofNat 32 n) 0#32 = 1#1 := by
      show BitVec.ofBool ((0#32).slt (BitVec.ofNat 32 n)) = 1#1
      have : (0#32).slt (BitVec.ofNat 32 n) = true := by unfold BitVec.slt; rw [hi]; simp; omega
      rw [this]; rfl
    have e2 : Scalar.cmpi .slt (BitVec.ofNat 32 n) 0#32 = 0#1 := by
      show BitVec.ofBool ((BitVec.ofNat 32 n).slt 0#32) = 0#1
      have : (BitVec.ofNat 32 n).slt 0#32 = false := by unfold BitVec.slt; rw [hi]; simp
      rw [this]; rfl
    rw [e1, e2]; decide
  have hd : Scalar.divsi (BitVec.ofNat 32 n) 2#32 = BitVec.ofNat 32 (n / 2) := by
    show IntOp.divsi _ (BitVec.ofNat 32 n) 2#32 = _
    unfold IntOp.divsi
    rw [if_neg]
    · apply BitVec.eq_of_toInt_eq
      rw [BitVec.toInt_sdiv, hi, toInt_ofNat (n := n / 2) (by omega)]
      have : (2#32 : BitVec 32).toInt = 2 := by decide
      rw [this]
      have : ((n : ℤ).tdiv 2) = ((n / 2 : ℕ) : ℤ) := by rw [Int.tdiv_eq_ediv_of_nonneg (by omega)]; omega
      rw [this]
      rw [Int.bmod_eq_of_le] <;> omega
    · intro hs
      rcases hs with hs | hs
      · exact absurd hs (by decide)
      · exact absurd hs.2 (by decide)
  unfold half
  rw [hc, hd]
  have : Scalar.andi 0#1 (Scalar.cmpi .ne (Scalar.remsi (BitVec.ofNat 32 n) 2#32) 0#32) = 0#1 := by
    show (0#1 : BitVec 1) &&& _ = 0#1
    simp
  rw [this]
  rfl

/-- The middle of two words that stand for numbers in order. -/
theorem mid_int {x y : ℤ} (h : x < y) (hw : y - x < 2 ^ 31) :
    mid (BitVec.ofInt 32 x) (BitVec.ofInt 32 y) = BitVec.ofInt 32 (x + (y - x) / 2) := by
  have e : Scalar.subi (BitVec.ofInt 32 y) (BitVec.ofInt 32 x) = BitVec.ofNat 32 (y - x).toNat := by
    show BitVec.ofInt 32 y - BitVec.ofInt 32 x = _
    rw [← BitVec.ofInt_natCast, Int.toNat_of_nonneg (by omega)]
    apply BitVec.eq_of_toInt_eq
    simp [BitVec.toInt_sub]
  unfold mid
  rw [e, half_nat (by omega) (by omega)]
  show BitVec.ofInt 32 x + _ = _
  rw [← BitVec.ofInt_natCast, ← BitVec.ofInt_add]
  congr 1
  omega

/-- A bisection ends at the least number satisfying the predicate's switch: the upper end satisfies it and its
    predecessor doesn't. -/
theorem fold_bisect {α : Type} (step : α → BitVec 32 × BitVec 32 → BitVec 32 × BitVec 32) (P : ℤ → Prop) [DecidablePred P]
    (B : ℤ) (hB : B ≤ 2 ^ 30)
    (hstep : ∀ k x y, -1 ≤ x → x < y → y ≤ B → step k (BitVec.ofInt 32 x, BitVec.ofInt 32 y)
      = if P (x + (y - x) / 2) then (BitVec.ofInt 32 x, BitVec.ofInt 32 (x + (y - x) / 2))
        else (BitVec.ofInt 32 (x + (y - x) / 2), BitVec.ofInt 32 y)) :
    ∀ (l : List α) (x y : ℤ), -1 ≤ x → x < y → y ≤ B → y - x ≤ 2 ^ l.length → ¬ P x → P y →
      ∃ z : ℤ, (l.foldl (fun p k => step k p) (BitVec.ofInt 32 x, BitVec.ofInt 32 y)).2 = BitVec.ofInt 32 z ∧ P z ∧ ¬ P (z - 1)
        ∧ 0 ≤ z ∧ z ≤ B
  | [], x, y, h1, h2, h3, h4, h5, h6 => by
      refine ⟨y, rfl, h6, ?_, by omega, h3⟩
      have : y - 1 = x := by simp at h4; omega
      rw [this]; exact h5
  | k :: l, x, y, h1, h2, h3, h4, h5, h6 => by
      rw [List.foldl_cons, hstep k x y h1 h2 h3]
      have hl : y - x ≤ 2 * 2 ^ l.length := by rw [List.length_cons, pow_succ] at h4; omega
      have hp : (1 : ℤ) ≤ 2 ^ l.length := one_le_pow₀ (by norm_num)
      by_cases h : P (x + (y - x) / 2)
      · rw [if_pos h]
        have hne : x + (y - x) / 2 ≠ x := fun e => h5 (e ▸ h)
        exact fold_bisect step P B hB hstep l x _ h1 (by omega) (by omega) (by omega) h5 h
      · rw [if_neg h]
        exact fold_bisect step P B hB hstep l _ y (by omega) (by omega) h3 (by omega) h h6

end Cert.Bisect

end
-- ==== Proof.Selection.lean ====
/- The selection of the foreground places: the 256 pairs of greatest score, ties by position. -/
module

public import proofs.«01_k».proof.Proof.Chains
public import proofs.«01_k».proof.Proof.Enumerate
public import proofs.«01_k».proof.Proof.Bisect
public import Idealize.ShloMosaic.Lib.Pointwise
public import Idealize.ShloMosaic.Lib.IndicatorCount

@[expose] public section

set_option maxRecDepth 16384
set_option maxHeartbeats 1000000

noncomputable section

namespace Cert.KernelIdeal.Body

open Cert.KernelIdeal.Gen Cert.Spec Cert.Order Cert.Words
open Idealize.ShloMosaic Idealize.ShloMosaic.TcCoe Idealize.ShloMosaic.Pointwise

/-! ## Picking by a threshold -/

/-- Above a threshold outright, at the threshold by position until there are 256: the picked pairs as numbers. -/
theorem pick_of (L : Fin 262144 → ℕ) (θ : ℕ) (A B : FVec Ideal S512x512 .f32) (n : Ideal .f32)
    (hA : ∀ i j, A (ix2 i j) = ((ind (θ < L (flat i j)) : ℕ) : EReal))
    (hB : ∀ i j, B (ix2 i j) = ((ind (L (flat i j) = θ) : ℕ) : EReal))
    (hn : n = ((256 : ℕ) : EReal) - (((Finset.univ.filter fun y => θ < L y).card : ℕ) : EReal)) (i j : Fin 512) :
    k0_pay105 (k0_pay26 (F := Ideal)) (k0_pay27 (F := Ideal)) A B n (ix2 i j)
      = ((ind (Taken L θ 256 (flat i j)) : ℕ) : EReal) := by
  pointwise [k0_pay105]
  simp only [hA, hB, upper_apply, lower_apply, cast_mul, cast_sum]
  have e1 : ∑ x, ind (L (flat i x) = θ) * ind (x ≤ j)
      = (∑ x ∈ Finset.univ.filter (fun x => x < j), ind (L (flat i x) = θ)) + ind (L (flat i j) = θ) := by
    rw [sum_ind_mul]
    have : Finset.univ.filter (fun i => i ≤ j) = insert j (Finset.univ.filter fun i => i < j) := by
      ext i; simp only [Finset.mem_filter, Finset.mem_univ, true_and, Finset.mem_insert]; rw [le_iff_lt_or_eq, or_comm]
    rw [this, Finset.sum_insert (by simp), add_comm]
  have e2 : ∑ x, ∑ x_1, ind (x_1 < i) * ind (L (flat x_1 x) = θ)
      = ∑ r ∈ Finset.univ.filter (fun r => r < i), ∑ x, ind (L (flat r x) = θ) := by
    rw [Finset.sum_comm]
    simp only [← Finset.mul_sum]
    rw [sum_mul_ind]
  have e3 : rank (Finset.univ.filter fun y => L y = θ) (fun a b => a < b) (flat i j)
      = ∑ r ∈ Finset.univ.filter (fun r => r < i), ∑ x, ind (L (flat r x) = θ)
        + ∑ x ∈ Finset.univ.filter (fun x => x < j), ind (L (flat i x) = θ) := rank_flat (fun y => L y = θ) i j
  rw [e1, e2, cast_sub (by omega), Nat.add_sub_cancel, cast_add, add_comm (∑ x ∈ _, _), ← e3, hn]
  simp only [cast_lt_sub, sitofp_ind]
  rw [cast_mul, cast_add]
  refine congrArg (fun n : ℕ => (n : EReal)) ?_
  unfold Taken
  by_cases h1 : θ < L (flat i j)
  · have h2 : ¬ L (flat i j) = θ := by omega
    simp [ind, h1, h2]
  · by_cases h2 : L (flat i j) = θ
    · by_cases h3 : rank (Finset.univ.filter fun y => L y = θ) (fun a b => a < b) (flat i j)
        + (Finset.univ.filter fun y => θ < L y).card < 256 <;> simp [ind, h1, h2, h3]
    · simp [ind, h1, h2]

/-! ## The scores -/

/-- The term of the score chain for target `t`. -/
def termQ (A : FVec Ideal S512x64 .f32) (B : FVec Ideal S64x512 .f32) (i j : Fin 512) (t : ℕ) : EReal :=
  A (ix2 i (at64 t)) * B (ix2 (at64 t) j)

/-- The score of a pair: the best match where the pair is foreground, zero elsewhere. -/
def scoreOf (G : IVec S512x512 1) (A : FVec Ideal S512x64 .f32) (B : FVec Ideal S64x512 .f32) (i j : Fin 512) : EReal :=
  Scalar.select (G (ix2 i j)) (chain (termQ A B i j) 64) 0

section

variable (A : FVec Ideal S512x64 .f32) (B : FVec Ideal S64x512 .f32)

theorem score1 (i j : Fin 512) : k0_pay2 B A (ix2 i j) = chain (termQ A B i j) 9 := by
  pointwise [k0_pay2]
  rfl

theorem score2 (a) (h : ∀ i j, a (ix2 i j) = chain (termQ A B i j) 9) (i j : Fin 512) :
    k0_pay5 B A a (k0_pay3 A) (k0_pay4 B) (ix2 i j) = chain (termQ A B i j) 19 := by
  pointwise [k0_pay5, k0_pay3, k0_pay4]
  rw [h]; rfl

theorem score3 (a) (h : ∀ i j, a (ix2 i j) = chain (termQ A B i j) 19) (i j : Fin 512) :
    k0_pay8 B A a (k0_pay6 A) (k0_pay7 B) (ix2 i j) = chain (termQ A B i j) 29 := by
  pointwise [k0_pay8, k0_pay6, k0_pay7]
  rw [h]; rfl

theorem score4 (a) (h : ∀ i j, a (ix2 i j) = chain (termQ A B i j) 29) (i j : Fin 512) :
    k0_pay11 B A a (k0_pay9 A) (k0_pay10 B) (ix2 i j) = chain (termQ A B i j) 39 := by
  pointwise [k0_pay11, k0_pay9, k0_pay10]
  rw [h]; rfl

theorem score5 (a) (h : ∀ i j, a (ix2 i j) = chain (termQ A B i j) 39) (i j : Fin 512) :
    k0_pay14 B A a (k0_pay12 A) (k0_pay13 B) (ix2 i j) = chain (termQ A B i j) 49 := by
  pointwise [k0_pay14, k0_pay12, k0_pay13]
  rw [h]; rfl

theorem score6 (a) (h : ∀ i j, a (ix2 i j) = chain (termQ A B i j) 49) (i j : Fin 512) :
    k0_pay17 B A a (k0_pay15 A) (k0_pay16 B) (ix2 i j) = chain (termQ A B i j) 59 := by
  pointwise [k0_pay17, k0_pay15, k0_pay16]
  rw [h]; rfl

end

/-- The row numbers. -/
theorem nI0_apply (X : Ins) (i j : Fin 512) : nI0 X (ix2 i j) = BitVec.ofNat 32 i.val := by
  unfold nI0
  pointwise []

/-- The column numbers. -/
theorem nI1_apply (X : Ins) (i j : Fin 512) : nI1 X (ix2 i j) = BitVec.ofNat 32 j.val := by
  unfold nI1
  pointwise []

/-- The position of a pair as a word. -/
theorem flat_word (i j : Fin 512) :
    IntOp.addi (IntOp.muli (BitVec.ofNat 32 i.val) 512#32) (BitVec.ofNat 32 j.val) = BitVec.ofNat 32 (flat i j).val := by
  show BitVec.ofNat 32 i.val * BitVec.ofNat 32 512 + BitVec.ofNat 32 j.val = BitVec.ofNat 32 (512 * i.val + j.val)
  rw [← BitVec.ofNat_mul, ← BitVec.ofNat_add, mul_comm]

/-- A truth value as a word. -/
theorem word_ind (P : Prop) [Decidable P] : (if P then 1#32 else 0#32) = BitVec.ofNat 32 (ind P) := by
  by_cases h : P <;> simp [h]

/-- One round of the count of smaller scores: the pair at position `k` is compared with every pair. -/
theorem words_step (X : Ins) (G : IVec S512x512 1) (A : FVec Ideal S512x64 .f32) (B : FVec Ideal S64x512 .f32) (a)
    (h : ∀ i j, a (ix2 i j) = chain (termQ A B i j) 59) (k : Fin k0_t1_loop.trips) (hk : k.val < 262144)
    (acc : IVec S512x512 32) (i j : Fin 512) :
    k0_pay21 (nI0 X) (nI1 X) B G A a (k0_pay18 A) (k0_pay19 B) k acc (ix2 i j)
      = acc (ix2 i j) + BitVec.ofNat 32 (ind (scoreOf G A B (row ⟨k.val, hk⟩) (col ⟨k.val, hk⟩) < scoreOf G A B i j)) := by
  pointwise [k0_pay21, k0_pay18, k0_pay19]
  simp only [h, nI0_apply, nI1_apply, flat_word]
  have hs : ∀ i j, Scalar.select (G (ix2 i j))
      (max (max (max (max (max (chain (termQ A B i j) 59) (A (ix2 i 59) * B (ix2 59 j))) (A (ix2 i 60) * B (ix2 60 j)))
        (A (ix2 i 61) * B (ix2 61 j))) (A (ix2 i 62) * B (ix2 62 j))) (A (ix2 i 63) * B (ix2 63 j))) 0
      = scoreOf G A B i j := fun i j => rfl
  simp only [hs]
  have hiv : Scf.iv (0#32) (1#32) k.val = BitVec.ofNat 32 k.val := by unfold Scf.iv; simp
  rw [hiv]
  have hc : ∀ x y : Fin 512, Scalar.select (IntOp.cmpi CmpIPredicate.eq (BitVec.ofNat 32 (flat x y).val) (BitVec.ofNat 32 k.val))
      (scoreOf G A B x y) 0 = if flat x y = (⟨k.val, hk⟩ : Fin 262144) then scoreOf G A B (row (flat x y)) (col (flat x y)) else 0 := by
    intro x y
    rw [eq_nat (by have := (flat x y).isLt; omega) (by omega), row_flat, col_flat]
    by_cases e : (flat x y).val = k.val
    · rw [if_pos (show flat x y = (⟨k.val, hk⟩ : Fin 262144) from Fin.ext e)]; simp [e, Scalar.select]
    · rw [if_neg (show ¬ flat x y = (⟨k.val, hk⟩ : Fin 262144) from fun h => e (Fin.ext_iff.1 h))]; simp [e, Scalar.select]
  simp only [hc]
  rw [← sum_flat (fun z => if z = (⟨k.val, hk⟩ : Fin 262144) then scoreOf G A B (row z) (col z) else 0), Finset.sum_ite_eq' Finset.univ,
    if_pos (Finset.mem_univ _), widen]
  exact congrArg (fun w => acc (ix2 i j) + w) (word_ind _)

/-- The loop over the pairs takes as many rounds as there are pairs. -/
theorem trips1 : k0_t1_loop.trips = 262144 := by decide

/-- The order word of a pair: the number of pairs with a smaller score. -/
def smaller (G : IVec S512x512 1) (A : FVec Ideal S512x64 .f32) (B : FVec Ideal S64x512 .f32) (x : Fin 262144) : ℕ :=
  (Finset.univ.filter fun y : Fin 262144 => scoreOf G A B (row y) (col y) < scoreOf G A B (row x) (col x)).card

theorem orderWords_apply (X : Ins) (G : IVec S512x512 1) (A : FVec Ideal S512x64 .f32) (B : FVec Ideal S64x512 .f32) (i j : Fin 512) :
    orderWords (nI0 X) (nI1 X) B G A (ix2 i j) = BitVec.ofNat 32 (smaller G A B (flat i j)) := by
  unfold orderWords
  rw [Scf.fold_eq]
  have h6 := score6 A B _ (score5 A B _ (score4 A B _ (score3 A B _ (score2 A B _ (score1 A B)))))
  have key : ∀ (a : FVec Ideal S512x512 .f32) (_ : ∀ i j, a (ix2 i j) = chain (termQ A B i j) 59) (l : List (Fin k0_t1_loop.trips)) (acc : IVec S512x512 32),
      (l.foldl (fun acc k => k0_pay21 (nI0 X) (nI1 X) B G A a (k0_pay18 A) (k0_pay19 B) k acc) acc) (ix2 i j)
        = acc (ix2 i j) + BitVec.ofNat 32 (l.map fun k => ind (scoreOf G A B (row ⟨k.val, trips1 ▸ k.isLt⟩) (col ⟨k.val, trips1 ▸ k.isLt⟩)
          < scoreOf G A B i j)).sum := by
    intro a h6 l
    induction l with
    | nil => intro acc; simp
    | cons k l ih =>
      intro acc
      rw [List.foldl_cons, ih, words_step X G A B a h6 k (trips1 ▸ k.isLt) acc i j, List.map_cons, List.sum_cons, BitVec.ofNat_add, BitVec.add_assoc]
  rw [key _ h6]
  have h0 : (k0_pay20 : IVec S512x512 32) (ix2 i j) = 0#32 := by pointwise [k0_pay20]
  rw [h0, BitVec.zero_add, ← Fin.sum_univ_def]
  refine congrArg (BitVec.ofNat 32) ?_
  unfold smaller
  rw [row_flat, col_flat, Finset.card_filter]
  exact Fintype.sum_equiv (finCongr trips1) _ _ fun k => rfl

end Cert.KernelIdeal.Body

end
-- ==== Proof.Foreground.lean ====
/- The threshold of the foreground selection and the pairs it picks. -/
module

public import proofs.«01_k».proof.Proof.Selection

@[expose] public section

set_option maxRecDepth 16384
set_option maxHeartbeats 1000000

noncomputable section

namespace Cert.KernelIdeal.Body

open Cert.KernelIdeal.Gen Cert.Spec Cert.Order Cert.Words Cert.Bisect
open Idealize.ShloMosaic Idealize.ShloMosaic.TcCoe Idealize.ShloMosaic.Pointwise

/-- A word that stands for an integer in range, read back. -/
theorem toInt_int {m : ℤ} (h1 : -1 ≤ m) (h2 : m ≤ 2 ^ 30) : (BitVec.ofInt 32 m).toInt = m := by
  rw [BitVec.toInt_ofInt, Int.bmod_eq_of_le] <;> omega

/-- A comparison of a number's word with an integer's. -/
theorem sgt_int {n : ℕ} {m : ℤ} (hn : n < 2 ^ 31) (h1 : -1 ≤ m) (h2 : m ≤ 2 ^ 30) :
    IntOp.cmpi .sgt (BitVec.ofNat 32 n) (BitVec.ofInt 32 m) = 1#1 ↔ m < n := by
  show BitVec.ofBool ((BitVec.ofInt 32 m).slt (BitVec.ofNat 32 n)) = 1#1 ↔ _
  unfold BitVec.slt
  rw [toInt_ofNat hn, toInt_int h1 h2]
  by_cases h : m < n <;> simp [h]

/-- How many numbers are above a level, fewer than 256 of them. -/
def Few (L : Fin 262144 → ℕ) (z : ℤ) : Prop := (Finset.univ.filter fun v => z < (L v : ℤ)).card < 256

instance (L : Fin 262144 → ℕ) : DecidablePred (Few L) := fun z => inferInstanceAs (Decidable (_ < _))

/-- A count over the pairs is a count over the positions. -/
theorem card_pairs (P : Fin 512 × Fin 512 → Prop) (Q : Fin 262144 → Prop) [DecidablePred P] [DecidablePred Q]
    (h : ∀ x, P x ↔ Q (flat x.1 x.2)) : (Finset.univ.filter P).card = (Finset.univ.filter Q).card :=
  Finset.card_equiv pairs fun x => by
    simp only [Finset.mem_filter, Finset.mem_univ, true_and]; exact h x

/-- One step of the bisection on integers. -/
theorem fgStep_int (w : IVec S512x512 32) (L : Fin 262144 → ℕ) (hw : ∀ i j, w (ix2 i j) = BitVec.ofNat 32 (L (flat i j)))
    (hL : ∀ x, L x ≤ 262144) (x y : ℤ) (h1 : -1 ≤ x) (h2 : x < y) (h3 : y ≤ 1065353216) :
    fgStep w (BitVec.ofInt 32 x, BitVec.ofInt 32 y)
      = if Few L (x + (y - x) / 2) then (BitVec.ofInt 32 x, BitVec.ofInt 32 (x + (y - x) / 2))
        else (BitVec.ofInt 32 (x + (y - x) / 2), BitVec.ofInt 32 y) := by
  have hm : mid (BitVec.ofInt 32 x) (BitVec.ofInt 32 y) = BitVec.ofInt 32 (x + (y - x) / 2) := mid_int h2 (by omega)
  have hc : ∀ a b : BitVec 32, extractAt ![0, 0, 0] (k0_pay22 w a b) inpos_S1x1x1_p0_0_0
      = Finset.fold IntOp.addi 0#32 (fun x : Fin 512 × Fin 512 => BitVec.setWidth 32 (IntOp.cmpi CmpIPredicate.sgt (w (ix2 x.1 x.2)) (mid a b))) Finset.univ := by
    intro a b
    pointwise [k0_pay22]
    rfl
  have hs : ∀ a b : BitVec 32, fgStep w (a, b)
      = (Scalar.select (Scalar.cmpi .slt (extractAt ![0, 0, 0] (k0_pay22 w a b) inpos_S1x1x1_p0_0_0) 256#32) a (mid a b),
         Scalar.select (Scalar.cmpi .slt (extractAt ![0, 0, 0] (k0_pay22 w a b) inpos_S1x1x1_p0_0_0) 256#32) (mid a b) b) :=
    fun a b => rfl
  rw [hs, hc, hm, IndicatorCount.fold_addi_setWidth_eq_card]
  have hcard : (Finset.univ.filter fun z : Fin 512 × Fin 512 =>
      IntOp.cmpi CmpIPredicate.sgt (w (ix2 z.1 z.2)) (BitVec.ofInt 32 (x + (y - x) / 2)) = 1#1).card
      = (Finset.univ.filter fun v => (x + (y - x) / 2) < (L v : ℤ)).card := by
    refine card_pairs _ _ fun z => ?_
    rw [hw, sgt_int (by have := hL (flat z.1 z.2); omega) (by omega) (by omega)]
  rw [hcard]
  have hle : (Finset.univ.filter fun v => (x + (y - x) / 2) < (L v : ℤ)).card ≤ 262144 :=
    (Finset.card_le_univ _).trans_eq (Fintype.card_fin _)
  have hd : Scalar.cmpi .slt (BitVec.ofNat 32 (Finset.univ.filter fun v => (x + (y - x) / 2) < (L v : ℤ)).card) 256#32
      = BitVec.ofBool (decide (Few L (x + (y - x) / 2))) := slt_nat (by omega) (by omega)
  rw [hd]
  by_cases h : Few L (x + (y - x) / 2)
  · rw [if_pos h]; simp [h, Scalar.select]
  · rw [if_neg h]; simp [h, Scalar.select]

/-- The threshold found by bisection: fewer than 256 order words above it, at least 256 at or above it. -/
theorem fgThreshold_int (w : IVec S512x512 32) (L : Fin 262144 → ℕ) (hw : ∀ i j, w (ix2 i j) = BitVec.ofNat 32 (L (flat i j)))
    (hL : ∀ x, L x ≤ 262144) : ∃ θ : ℕ, θ ≤ 1065353216 ∧ fgThreshold w = BitVec.ofNat 32 θ
      ∧ (Finset.univ.filter fun v => θ < L v).card ≤ 256 ∧ 256 ≤ (Finset.univ.filter fun v => θ ≤ L v).card := by
  unfold fgThreshold
  rw [Scf.fold_eq]
  have hb : ((4294967295#32, 1065353216#32) : BitVec 32 × BitVec 32) = (BitVec.ofInt 32 (-1), BitVec.ofInt 32 1065353216) := by decide
  rw [hb]
  obtain ⟨z, e, p1, p2, z0, z1⟩ := fold_bisect (fun (_ : Fin k0_t2_loop.trips) p => fgStep w p) (Few L) 1065353216 (by norm_num)
    (fun _ x y h1 h2 h3 => fgStep_int w L hw hL x y h1 h2 h3) (List.finRange k0_t2_loop.trips) (-1) 1065353216 (by norm_num) (by norm_num)
    (by norm_num) (by rw [List.length_finRange]; have : k0_t2_loop.trips = 31 := by decide
                      rw [this]; norm_num)
    (by
      unfold Few
      rw [Finset.filter_true_of_mem (fun v _ => by omega), Finset.card_univ, Fintype.card_fin]; norm_num)
    (by
      unfold Few
      rw [Finset.filter_false_of_mem (fun v _ => by have := hL v; omega)]; simp)
  obtain ⟨θ, rfl⟩ := Int.eq_ofNat_of_zero_le z0
  refine ⟨θ, by omega, ?_, ?_, ?_⟩
  · rw [e]; exact BitVec.ofInt_natCast _ _
  · unfold Few at p1
    have : (Finset.univ.filter fun v => θ < L v) = (Finset.univ.filter fun v => ((θ : ℕ) : ℤ) < (L v : ℤ)) := by
      ext v; simp
    rw [this]; exact p1.le
  · unfold Few at p2
    have : (Finset.univ.filter fun v => θ ≤ L v) = (Finset.univ.filter fun v => ((θ : ℕ) : ℤ) - 1 < (L v : ℤ)) := by
      ext v; simp only [Finset.mem_filter, Finset.mem_univ, true_and]; omega
    rw [this]; exact Nat.le_of_not_lt p2

/-- The scores of the foreground pairs. -/
def scoreX (X : Ins) (x : Fin 262144) : EReal := scoreOf (nFg X) (nIouT X) (nIn X) (row x) (col x)

/-- The pair at a position is a foreground pair. -/
def FgX (X : Ins) (x : Fin 262144) : Prop := nFg X (ix2 (row x) (col x)) = 1#1

instance (X : Ins) : DecidablePred (FgX X) := fun x => inferInstanceAs (Decidable (_ = _))

/-- No more scores are smaller than there are pairs. -/
theorem smaller_le (G : IVec S512x512 1) (A : FVec Ideal S512x64 .f32) (B : FVec Ideal S64x512 .f32) (x : Fin 262144) :
    smaller G A B x ≤ 262144 := by
  unfold smaller
  refine (Finset.card_le_univ _).trans ?_
  rw [Fintype.card_fin]

/-- A bit is the truth value of its being set. -/
theorem bit_eq (b : BitVec 1) : b = BitVec.ofBool (decide (b = 1#1)) := by revert b; decide

/-- The foreground indicator as numbers. -/
theorem nFgf_apply (X : Ins) (i j : Fin 512) : nFgf X (ix2 i j) = ((ind (FgX X (flat i j)) : ℕ) : EReal) := by
  have e : nFgf X (ix2 i j) = FloatOps.sitofp (F := Ideal) FTy.f32 (BitVec.setWidth 32 (nFg X (ix2 i j))) := by
    unfold nFgf nFg
    pointwise [k0_pay96]
  have h1 : nFg X (ix2 i j) = nFg X (ix2 (row (flat i j)) (col (flat i j))) := by rw [row_flat, col_flat]
  have h2 : nFg X (ix2 i j) = BitVec.ofBool (decide (FgX X (flat i j))) := h1.trans (bit_eq _)
  rw [e, h2, sitofp_ind]

attribute [local irreducible] smaller

/-- The picked pairs are 256 pairs closed under the better pair: every pair of greater score, or of the same score and
    earlier, is picked too. -/
theorem nPick_apply (X : Ins) (hfg : ∀ x, FgX X x ↔ 0 < scoreX X x) :
    ∃ (S : Fin 262144 → Prop) (_ : DecidablePred S), (Finset.univ.filter S).card = 256 ∧
      (∀ x y, S x → Better (scoreX X) y x → S y) ∧ ∀ i j, nPick X (ix2 i j) = ((ind (S (flat i j)) : ℕ) : EReal) := by
  have hnn : ∀ x, 0 ≤ scoreX X x := by
    intro x
    unfold scoreX scoreOf Scalar.select
    split
    · have : ∀ (f : ℕ → EReal) n, 0 ≤ chain f n := by
        intro f n; induction n with
        | zero => exact le_refl _
        | succ n ih => exact ih.trans (le_max_left _ _)
      exact this _ _
    · exact le_refl _
  by_cases hc : Scalar.cmpi .ne (Scalar.extui (Scalar.cmpf .ole (k0_pay101 (nFgf X)) (Scalar.ofBits .f32 0x43800000#32)) : BitVec 32) 0#32 = 1#1
  · have hsum : k0_pay101 (nFgf X) = (((Finset.univ.filter (FgX X)).card : ℕ) : EReal) := by
      pointwise [k0_pay101]
      simp only [nFgf_apply, cast_sum]
      rw [← sum_flat (fun z => ind (FgX X z)), sum_ind]
    have hle : (Finset.univ.filter (FgX X)).card ≤ 256 := by
      have h1 : Scalar.cmpf .ole (k0_pay101 (nFgf X)) (Scalar.ofBits .f32 0x43800000#32) = 1#1 := by
        revert hc; generalize Scalar.cmpf .ole (k0_pay101 (nFgf X)) (Scalar.ofBits (F := Ideal) .f32 0x43800000#32) = b; revert b; decide
      rw [hsum] at h1
      have h2 : (((Finset.univ.filter (FgX X)).card : ℕ) : EReal) ≤ Ideal.ofBits FTy.f32 0x43800000#32 := by
        have h3 : BitVec.ofBool (decide ((((Finset.univ.filter (FgX X)).card : ℕ) : EReal) ≤ Ideal.ofBits FTy.f32 0x43800000#32)) = 1#1 := h1
        by_contra hn
        rw [decide_eq_false hn] at h3
        exact absurd h3 (by decide)
      rw [bits256] at h2
      by_contra hn
      exact absurd (cast_lt.2 (not_le.1 hn)) (not_lt.2 h2)
    have e : nSel X = (nFgf X, k0_pay102 (nFgf X), k0_pay103 (nFgf X)) := by unfold nSel fgSel; rw [if_pos hc]
    have hL0 : ∀ x, 0 < ind (FgX X x) ↔ FgX X x := by intro x; by_cases h : FgX X x <;> simp [h]
    have hL1 : ∀ x, ind (FgX X x) = 0 ↔ ¬ FgX X x := by intro x; by_cases h : FgX X x <;> simp [h]
    refine ⟨Taken (fun x => ind (FgX X x)) 0 256, inferInstance, ?_, ?_, ?_⟩
    · refine card_taken _ _ _ ?_ ?_
      · simp only [hL0]; exact hle
      · rw [Finset.filter_true_of_mem (fun v _ => Nat.zero_le _), Finset.card_univ, Fintype.card_fin]; norm_num
    · intro x y hx hb
      refine taken_closed (scoreX X) (fun x => ind (FgX X x)) 0 256 ?_ ?_ hx hb
      · intro x y h
        by_cases hx : FgX X x
        · have : FgX X y := (hfg y).2 (((hfg x).1 hx).trans_le h)
          simp [hx, this]
        · simp [hx]
      · intro x y hx hy
        have z : ∀ x, ind (FgX X x) = 0 → scoreX X x = 0 := fun x h =>
          le_antisymm (not_lt.1 fun h' => (hL1 x).1 h ((hfg x).2 h')) (hnn x)
        rw [z x hx, z y hy]
    · intro i j
      unfold nPick
      rw [e]
      refine pick_of (fun x => ind (FgX X x)) 0 _ _ _ ?_ ?_ ?_ i j
      · intro i j; show nFgf X (ix2 i j) = _; rw [nFgf_apply]; simp only [hL0]
      · intro i j
        show k0_pay102 (nFgf X) (ix2 i j) = _
        pointwise [k0_pay102]
        rw [nFgf_apply]
        simp only [hL1]
        by_cases h : FgX X (flat i j) <;> simp [h]
        rw [← EReal.coe_one, ← EReal.coe_sub]; simp
      · show k0_pay103 (nFgf X) = _
        unfold k0_pay103
        rw [hsum]
        simp only [hL0]
        rw [← bits256]; rfl
  · have e : nSel X = rareSel (nI0 X) (nI1 X) (nIn X) (nFg X) (nIouT X) := by unfold nSel fgSel; rw [if_neg hc]
    have hL : ∀ x, smaller (nFg X) (nIouT X) (nIn X) x ≤ 262144 := smaller_le _ _ _
    obtain ⟨θ, hθ, ht, hgt, hge⟩ := fgThreshold_int _ (smaller (nFg X) (nIouT X) (nIn X)) (orderWords_apply X (nFg X) (nIouT X) (nIn X)) hL
    refine ⟨Taken (smaller (nFg X) (nIouT X) (nIn X)) θ 256, inferInstance, ?_, ?_, ?_⟩
    · exact card_taken _ _ _ hgt hge
    · intro x y hx hb
      refine taken_closed (scoreX X) (smaller (nFg X) (nIouT X) (nIn X)) θ 256 ?_ ?_ hx hb
      · intro x y h
        unfold smaller
        refine Finset.card_le_card fun z hz => ?_
        rw [Finset.mem_filter] at hz ⊢
        exact ⟨hz.1, hz.2.trans_le h⟩
      · intro x y hx hy
        have key : ∀ x y, scoreX X x < scoreX X y → smaller (nFg X) (nIouT X) (nIn X) x < smaller (nFg X) (nIouT X) (nIn X) y := by
          intro x y h
          unfold smaller
          refine Finset.card_lt_card ⟨fun z hz => ?_, fun hh => ?_⟩
          · rw [Finset.mem_filter] at hz ⊢
            exact ⟨hz.1, hz.2.trans h⟩
          · have : x ∈ Finset.univ.filter fun z : Fin 262144 => scoreOf (nFg X) (nIouT X) (nIn X) (row z) (col z)
                < scoreOf (nFg X) (nIouT X) (nIn X) (row x) (col x) := hh (Finset.mem_filter.2 ⟨Finset.mem_univ _, h⟩)
            exact lt_irrefl _ (Finset.mem_filter.1 this).2
        rcases lt_trichotomy (scoreX X x) (scoreX X y) with h | h | h
        · have := key _ _ h; omega
        · exact h
        · have := key _ _ h; omega
    · intro i j
      unfold nPick
      rw [e]
      have hw := orderWords_apply X (nFg X) (nIouT X) (nIn X)
      have hA : ∀ i j, k0_pay23 (F := Ideal) (orderWords (nI0 X) (nI1 X) (nIn X) (nFg X) (nIouT X))
          (fgThreshold (orderWords (nI0 X) (nI1 X) (nIn X) (nFg X) (nIouT X))) (ix2 i j)
          = ((ind (θ < smaller (nFg X) (nIouT X) (nIn X) (flat i j)) : ℕ) : EReal) := by
        intro i j
        pointwise [k0_pay23]
        rw [hw, ht]
        have : IntOp.cmpi CmpIPredicate.sgt (BitVec.ofNat 32 (smaller (nFg X) (nIouT X) (nIn X) (flat i j))) (BitVec.ofNat 32 θ)
            = BitVec.ofBool (decide (θ < smaller (nFg X) (nIouT X) (nIn X) (flat i j))) :=
          slt_nat (by omega) (by have := hL (flat i j); omega)
        rw [this, sitofp_ind]
      refine pick_of (smaller (nFg X) (nIouT X) (nIn X)) θ _ _ _ hA ?_ ?_ i j
      · intro i j
        show k0_pay24 (F := Ideal) (orderWords (nI0 X) (nI1 X) (nIn X) (nFg X) (nIouT X))
          (fgThreshold (orderWords (nI0 X) (nI1 X) (nIn X) (nFg X) (nIouT X))) (ix2 i j) = _
        pointwise [k0_pay24]
        rw [hw, ht, eq_nat (by have := hL (flat i j); omega) (by omega), sitofp_ind]
      · show k0_pay104 (k0_pay25 (F := Ideal) (orderWords (nI0 X) (nI1 X) (nIn X) (nFg X) (nIouT X))
          (fgThreshold (orderWords (nI0 X) (nI1 X) (nIn X) (nFg X) (nIouT X)))) = _
        pointwise [k0_pay104, k0_pay25]
        simp only [hA, cast_sum]
        rw [← sum_flat (fun z => ind (θ < smaller (nFg X) (nIouT X) (nIn X) z)), sum_ind, ← bits256]

end Cert.KernelIdeal.Body

end
-- ==== Proof.Places.lean ====
/- The foreground places in order: pair, score and label. -/
module

public import proofs.«01_k».proof.Proof.Foreground

@[expose] public section

set_option maxRecDepth 16384
set_option maxHeartbeats 1000000

noncomputable section

namespace Cert.KernelIdeal.Body

open Cert.KernelIdeal.Gen Cert.Spec Cert.Order Cert.Words
open Idealize.ShloMosaic Idealize.ShloMosaic.TcCoe Idealize.ShloMosaic.Pointwise

/-- The lowest word is the number minus infinity. -/
theorem bits_low : Ideal.ofBits FTy.f32 4286578688#32 = ⊥ := by simp [Ideal.ofBits, Ideal.ieee]

theorem chain_le (f : ℕ → EReal) (n : ℕ) (c : EReal) : chain f n ≤ c ↔ 0 ≤ c ∧ ∀ t < n, f t ≤ c := by
  induction n with
  | zero => simp [chain]
  | succ n ih =>
    show max (chain f n) (f n) ≤ c ↔ _
    rw [max_le_iff, ih]
    constructor
    · rintro ⟨⟨a, b⟩, d⟩
      exact ⟨a, fun t ht => (Nat.lt_succ_iff_lt_or_eq.1 ht).elim (b t) fun e => e ▸ d⟩
    · rintro ⟨a, b⟩
      exact ⟨⟨a, fun t ht => b t (by omega)⟩, b n (by omega)⟩

/-- A chain of maxima from zero over terms that aren't negative is their greatest. -/
theorem chain_eq (f : ℕ → EReal) (g : Fin 64 → EReal) (h : ∀ t : Fin 64, f t.val = g t) (h0 : ∀ t, 0 ≤ g t) :
    chain f 64 = Finset.fold max (Ideal.ofBits FTy.f32 4286578688#32) g Finset.univ := by
  refine eq_of_forall_ge_iff fun c => ?_
  rw [chain_le, Finset.fold_max_le, bits_low]
  constructor
  · rintro ⟨_, b⟩
    exact ⟨bot_le, fun t _ => h t ▸ b t.val t.isLt⟩
  · rintro ⟨_, b⟩
    exact ⟨(h0 0).trans (b 0 (Finset.mem_univ _)), fun t ht => (h ⟨t, ht⟩).trans_le (b ⟨t, ht⟩ (Finset.mem_univ _))⟩

/-- The label of a pair: the greatest product over the head targets. -/
def labX (X : Ins) (x : Fin 262144) : EReal :=
  Finset.fold max (Ideal.ofBits FTy.f32 4286578688#32) (fun h => nMb X (ix2 h (row x)) * nLab X (ix2 h (col x))) Finset.univ

/-- The rank of a place among the places, as a row that is 1 at it. -/
theorem rank_apply {α : Type} [LinearOrder α] (V : FVec Ideal S256x1 .f32) (v : α → EReal) (p : Fin 256 → α)
    (hV : ∀ s, V (ix2 s 0) = v (p s)) (hp : ∀ s t, p s < p t ↔ s < t) (s t : Fin 256) :
    k0_pay116 V (ix2 s t) = ((ind (rank Finset.univ (fun a b => Better v (p a) (p b)) s = t.val) : ℕ) : EReal) := by
  pointwise [k0_pay116]
  have e1 : ∀ x : Fin 256, (∑ x_1 : Fin 256, FloatOps.sitofp (F := Ideal) FTy.f32
      (BitVec.setWidth 32 (IntOp.cmpi CmpIPredicate.eq (BitVec.ofNat 32 x_1.val) (BitVec.ofNat 32 x.val))) * V (ix2 x_1 0)) = V (ix2 x 0) := by
    intro x
    rw [← onehot x (fun k => V (ix2 k 0))]
    refine Finset.sum_congr rfl fun k _ => ?_
    rw [eq_nat (by omega) (by omega), sitofp_ind]
    simp only [ind, Fin.ext_iff]
  have e2 : ∀ x s : Fin 256, IntOp.cmpi CmpIPredicate.slt (BitVec.ofNat 32 x.val) (BitVec.ofNat 32 s.val)
      = BitVec.ofBool (decide (p x < p s)) := by
    intro x s
    rw [slt_nat (by omega) (by omega)]
    congr 1
    simp only [hp, Fin.lt_def]
  simp only [e1]
  simp only [e2, andi_bool, ori_bool, sitofp_ind, cast_sum, hV, sum_ind]
  have e3 : (Finset.univ.filter fun x : Fin 256 => v (p s) < v (p x) ∨ v (p x) = v (p s) ∧ p x < p s).card
      = rank Finset.univ (fun a b => Better v (p a) (p b)) s := by
    unfold rank Better
    refine congrArg Finset.card (Finset.filter_congr fun x _ => ?_)
    rfl
  have hr : rank Finset.univ (fun a b => Better v (p a) (p b)) s ≤ 256 := by
    unfold rank
    refine (Finset.card_le_univ _).trans ?_
    rw [Fintype.card_fin]
  rw [e3, fptosi_nat (by omega), eq_nat (by omega) (by omega), sitofp_ind]
  simp only [ind, eq_comm]

/-- The foreground outputs: there are 256 different pairs in order of score, ties by position, no pair left out being
    better than one of them; the outputs are their positions, scores and labels. -/
theorem places (X : Ins) (hfg : ∀ x, FgX X x ↔ 0 < scoreX X x)
    (hn : ∀ (i j : Fin 512) (t : Fin 64), 0 ≤ nIouT X (ix2 i t) * nIn X (ix2 t j)) :
    ∃ σ : Fin 256 → Fin 262144, Function.Injective σ ∧ (∀ i j : Fin 256, i < j → ¬ Better (scoreX X) (σ j) (σ i)) ∧
      (∀ (i : Fin 256) (x : Fin 262144), (∀ j, σ j ≠ x) → ¬ Better (scoreX X) x (σ i)) ∧
      ∀ t : Fin 256, o7 X (ix2 0 t) = BitVec.ofNat 32 (σ t).val ∧ o8 X (ix2 0 t) = scoreX X (σ t) ∧
        o9 X (ix2 0 t) = FloatOps.fptosi (F := Ideal) (φ := FTy.f32) 32 (if 0 < scoreX X (σ t) then labX X (σ t) else 0) := by
  obtain ⟨S, _, hcard, closed, hP⟩ := nPick_apply X hfg
  choose r q h1 h2 h3 h4 h5 using fun s : Fin 256 => enumerated S s.val (by rw [hcard]; exact s.isLt)
  obtain ⟨hmono, τ, hτ, hinj, hord, hdom⟩ := ordered (scoreX X) S 256 hcard closed (fun s => flat (r s) (q s)) h4 h5
  have hR : ∀ s i, nOneR X (ix2 s i) = ((ind (i = r s) : ℕ) : EReal) := fun s i =>
    oneRow_apply S (nSel X).1 (nSel X).2.1 (nSel X).2.2 hP s (r s) (h1 s) i
  have hC : ∀ s i, nCe X (ix2 s i) = ((∑ i' ∈ Finset.univ.filter (fun i' => i' < i), rowCount S i' : ℕ) : EReal) := fun s i =>
    before_apply S (nSel X).1 (nSel X).2.1 (nSel X).2.2 hP s i
  have hcol : ∀ s j, k0_pay112 (k0_pay26 (F := Ideal)) (nPick X) (k0_pay107 (F := Ideal)) (iota .tc S256x512 32 [1] iota_S256x512_d1_w32)
      (nOneR X) (nCe X) (ix2 s j) = ((ind (j = q s) : ℕ) : EReal) := fun s j =>
    oneCol_apply S (nPick X) (nOneR X) (nCe X) hP s (r s) (hR s) (hC s) (h2 s) (q s) (h3 s) j
  have hJ : ∀ s, nJ X (ix2 s 0) = (((flat (r s) (q s)).val : ℕ) : EReal) := by
    intro s
    unfold nJ
    pointwise [k0_pay113]
    rw [colOf_apply S (nPick X) (nOneR X) (nCe X) hP s (r s) (hR s) (hC s) (h2 s)]
    have : nRow X (ix2 s 0) = (((r s).val : ℕ) : EReal) :=
      (rowOf_apply S (nSel X).1 (nSel X).2.1 (nSel X).2.2 hP s).trans (congrArg (fun n : ℕ => (n : EReal)) (h1 s))
    have hq : (Finset.univ.filter fun j' : Fin 512 => ∑ j ∈ Finset.univ.filter (fun j => j ≤ j'), ind (S (flat (r s) j))
        ≤ s.val - ∑ i ∈ Finset.univ.filter (fun i => i < r s), rowCount S i).card = (q s).val := h3 s
    rw [this, hq, bits512, cast_mul, cast_add]
    refine congrArg (fun n : ℕ => (n : EReal)) ?_
    simp only [flat]; ring
  have hV : ∀ s, nVal X (ix2 s 0) = scoreX X (flat (r s) (q s)) := by
    intro s
    unfold nVal
    pointwise [k0_pay114]
    simp only [hcol, hR, onehot, onehot']
    rw [nFgf_apply]
    unfold scoreX scoreOf
    rw [row_flat, col_flat, chain_eq _ (fun t => nIouT X (ix2 (r s) t) * nIn X (ix2 t (q s))) (fun t => ?_) (hn _ _)]
    · have hb : (Ideal.ofBits FTy.f32 1056964608#32 < ((ind (FgX X (flat (r s) (q s))) : ℕ) : EReal)) ↔ FgX X (flat (r s) (q s)) := by
        rw [bits_half]
        show (((1 / 2 : ℝ)) : EReal) < (((ind (FgX X (flat (r s) (q s))) : ℕ) : ℝ) : EReal) ↔ _
        rw [EReal.coe_lt_coe_iff]
        by_cases h : FgX X (flat (r s) (q s))
        · simp only [h, if_true, iff_true]; norm_num
        · simp only [h, if_false, iff_false]; norm_num
      by_cases h : FgX X (flat (r s) (q s))
      · rw [if_pos (hb.2 h)]
        unfold FgX at h
        rw [row_flat, col_flat] at h
        rw [h]; rfl
      · rw [if_neg fun h' => h (hb.1 h')]
        unfold FgX at h
        rw [row_flat, col_flat] at h
        have : nFg X (ix2 (r s) (q s)) = 0#1 := by
          revert h; generalize nFg X (ix2 (r s) (q s)) = b; revert b; decide
        rw [this]; rfl
    · unfold termQ at64
      rw [dif_pos t.isLt]
  have hL : ∀ s, nLm X (ix2 s 0) = labX X (flat (r s) (q s)) := by
    intro s
    unfold nLm
    pointwise [k0_pay115]
    simp only [hcol, hR, onehot]
    unfold labX
    rw [row_flat, col_flat]
  have hrank : ∀ s t, k0_pay116 (nVal X) (ix2 s t) = ((ind (s = τ t) : ℕ) : EReal) := by
    intro s t
    rw [rank_apply (nVal X) (scoreX X) (fun s => flat (r s) (q s)) hV hmono s t]
    simp only [hτ]
  refine ⟨fun t => flat (r (τ t)) (q (τ t)), hinj, hord, hdom, fun t => ⟨?_, ?_, ?_⟩⟩
  · unfold o7
    pointwise [k0_pay118]
    simp only [hrank, onehot]
    rw [hJ, fptosi_nat (by have := (flat (r (τ t)) (q (τ t))).isLt; omega)]
  · unfold o8
    pointwise [k0_pay117]
    simp only [hrank, onehot]
    rw [hV]
  · unfold o9
    pointwise [k0_pay120, k0_pay119]
    simp only [hrank, onehot]
    rw [hV, hL]

end Cert.KernelIdeal.Body

end
-- ==== Proof.Scores.lean ====
/-
The scores and the labels of the pairs, over the extended reals: the best match of a pair of proposals by a pair of related
targets, and the greatest relation label among its matches.
-/
module

public import proofs.«01_k».proof.Proof.Spec

@[expose] public section

noncomputable section

namespace Cert.Spec

open Idealize.ShloMosaic

/-- The least number, as the reductions start with it. -/
abbrev low : EReal := Ideal.ofBits FTy.f32 4286578688#32

theorem low_eq : low = ⊥ := by simp [low, Ideal.ofBits, Ideal.ieee]

/-- The greatest of finitely many numbers. -/
def top {ι : Type} [Fintype ι] (f : ι → EReal) : EReal := Finset.fold max low f Finset.univ

theorem top_le {ι : Type} [Fintype ι] (f : ι → EReal) (c : EReal) : top f ≤ c ↔ ∀ i, f i ≤ c := by
  unfold top; rw [Finset.fold_max_le, low_eq]; simp

theorem lt_top_iff' {ι : Type} [Fintype ι] (f : ι → EReal) (c : EReal) : c < top f ↔ ∃ i, c < f i := by
  rw [← not_le, top_le]; push Not; rfl

theorem le_top' {ι : Type} [Fintype ι] (f : ι → EReal) (i : ι) : f i ≤ top f := (top_le f _).mp le_rfl i

theorem half_pos : (0 : EReal) < Ideal.ofBits FTy.f32 1056964608#32 := by
  simp [Ideal.ofBits, Ideal.ieee]; norm_num [← EReal.coe_zero, ← EReal.coe_one, ← EReal.coe_mul, EReal.coe_pos]

theorem eps_pos : (0 : EReal) < Ideal.ofBits FTy.f32 841731191#32 := by
  simp [Ideal.ofBits, Ideal.ieee]
  refine EReal.mul_pos ?_ ?_
  · exact_mod_cast (by norm_num : (0 : ℝ) < 11258999)
  · exact_mod_cast (by positivity : (0 : ℝ) < (2 ^ 50)⁻¹)

/-- An overlap ratio is not negative. -/
theorem ratio_nonneg (a b : Fin 4 → EReal) : 0 ≤ ratio a b := by
  have hd : 0 < max ((a 2 - a 0) * (a 3 - a 1) + (b 2 - b 0) * (b 3 - b 1) - inter a b) (Ideal.ofBits FTy.f32 841731191#32) :=
    lt_of_lt_of_le eps_pos (le_max_right _ _)
  unfold ratio Ideal.div
  rw [if_neg hd.ne']
  exact mul_nn (mul_nn (le_max_left _ _) (le_max_left _ _)) (EReal.inv_nonneg_of_nonneg hd.le)

namespace Data

variable (D : Data)

theorem iou_nonneg (t p) : 0 ≤ D.iou t p := ratio_nonneg _ _

/-- The best overlap of a proposal with a target related to `h`. -/
def innerIou (h : Fin 64) (j : Fin 512) : EReal := top fun t => D.rp h t * D.iou t j

/-- The best match of a pair of proposals. -/
def iouPair (i j : Fin 512) : EReal := top fun h => D.iou h i * D.innerIou h j

/-- The greatest label of `h` with a target matched by the proposal. -/
def innerLab (h : Fin 64) (j : Fin 512) : EReal := top fun t => FloatOps.sitofp (F := Ideal) FTy.f32 (D.rl h t) * D.m t j

/-- The label of a pair of proposals. -/
def label (i j : Fin 512) : EReal := top fun h => D.m h i * D.innerLab h j

/-- A foreground pair: two different proposals matched by related targets. -/
def Fg (i j : Fin 512) : Prop := D.Rel i j ∧ i ≠ j

open Classical in
/-- The score of a pair: its best match where it is a foreground pair. -/
def score (i j : Fin 512) : EReal := if D.Fg i j then D.iouPair i j else 0

theorem innerIou_nonneg (h j) : 0 ≤ D.innerIou h j :=
  (mul_nn (D.rp_nonneg h 0) (D.iou_nonneg 0 j)).trans (le_top' (fun t => D.rp h t * D.iou t j) 0)

/-- A related pair has a positive best match. -/
theorem iouPair_pos {i j : Fin 512} (hr : D.Rel i j) : 0 < D.iouPair i j := by
  obtain ⟨h, t, hi, hR, tj⟩ := hr
  have p1 : 0 < D.iou h i := half_pos.trans hi.2
  have p2 : 0 < D.iou t j := half_pos.trans tj.2
  refine (lt_top_iff' _ _).mpr ⟨h, (mul_pos_iff (D.iou_nonneg _ _) (D.innerIou_nonneg _ _)).mpr ⟨p1, ?_⟩⟩
  exact (lt_top_iff' _ _).mpr ⟨t, (mul_pos_iff (D.rp_nonneg _ _) (D.iou_nonneg _ _)).mpr ⟨(D.rp_pos _ _).mpr hR, p2⟩⟩

/-- The score is positive exactly at the foreground pairs. -/
theorem score_pos (i j : Fin 512) : 0 < D.score i j ↔ D.Fg i j := by
  unfold score; split
  · rename_i h; exact ⟨fun _ => h, fun _ => D.iouPair_pos h.1⟩
  · rename_i h; simp [h]

theorem innerLab_pos (h : Fin 64) (j : Fin 512) : 0 < D.innerLab h j ↔ ∃ t, D.R h t ∧ D.M t j := by
  unfold innerLab
  rw [lt_top_iff']
  refine exists_congr fun t => ?_
  unfold m R
  rw [← sitofp_pos]
  split <;> simp [*]

/-- The label is positive exactly at a related pair. -/
theorem label_pos (i j : Fin 512) : 0 < D.label i j ↔ D.Rel i j := by
  unfold label Rel
  rw [lt_top_iff']
  refine exists_congr fun h => ?_
  unfold m
  split
  · rename_i hm; rw [one_mul, innerLab_pos]; simp [hm]
  · rename_i hm; simp [hm]

/-- The label of a related pair, from inner labels that are cut at zero. -/
theorem label_cut {i j : Fin 512} (hr : D.Rel i j) :
    top (fun h => D.m h i * max 0 (D.innerLab h j)) = D.label i j := by
  have hp := (D.label_pos i j).mpr hr
  refine le_antisymm ((top_le _ _).mpr fun h => ?_) ((top_le _ _).mpr fun h => ?_)
  · rcases le_total (D.innerLab h j) 0 with h0 | h0
    · rw [max_eq_left h0, mul_zero]; exact hp.le
    · rw [max_eq_right h0]; exact le_top' (fun h => D.m h i * D.innerLab h j) h
  · refine le_trans ?_ (le_top' (fun h => D.m h i * max 0 (D.innerLab h j)) h)
    unfold m; split
    · rw [one_mul, one_mul]; exact le_max_right _ _
    · simp

end Data

end Cert.Spec

end
-- ==== Proof.ScoresKernel.lean ====
/-
The kernel's scores and labels are the problem's.
-/
module

public import proofs.«01_k».proof.Proof.Places
public import proofs.«01_k».proof.Proof.Scores

@[expose] public section

set_option maxRecDepth 16384
set_option maxHeartbeats 1000000

noncomputable section

namespace Cert.KernelIdeal.Body

open Cert.KernelIdeal.Gen Cert.Spec Cert.Order Cert.Words
open Idealize.ShloMosaic Idealize.ShloMosaic.TcCoe Idealize.ShloMosaic.Pointwise

theorem at64_val (t : Fin 64) : at64 t.val = t := by unfold at64; rw [dif_pos t.isLt]

/-- A chain of numbers is the greatest of them and zero. -/
theorem chain_top (f : ℕ → EReal) (g : Fin 64 → EReal) (h : ∀ t : Fin 64, f t.val = g t) :
    chain f 64 = max 0 (top g) := by
  refine eq_of_forall_ge_iff fun c => ?_
  rw [chain_le, max_le_iff, top_le]
  refine and_congr Iff.rfl ⟨fun H t => (h t) ▸ H t.val t.isLt, fun H t ht => ?_⟩
  have := h ⟨t, ht⟩; rw [show f t = _ from this]; exact H _

variable (X : Ins)

/-- The kernel's best overlaps with related targets. -/
theorem nIn_eq (h : Fin 64) (p : Fin 512) : nIn X (ix2 h p) = (dataX X).innerIou h p := by
  rw [nIn_apply]
  refine chain_eq (termIn X h p) (fun t => (dataX X).rp h t * (dataX X).iou t p) (fun t => ?_) fun t => mul_nn ((dataX X).rp_nonneg _ _) ((dataX X).iou_nonneg _ _)
  unfold termIn; rw [at64_val, nRp_apply, nIou_apply]

theorem nRel_apply (h t : Fin 64) : nRel X (ix2 h t) = FloatOps.sitofp (F := Ideal) FTy.f32 ((dataX X).rl h t) := by
  unfold nRel; pointwise [k0_pay32]; rfl

/-- The kernel's greatest labels, cut at zero. -/
theorem nLab_eq (h : Fin 64) (p : Fin 512) : nLab X (ix2 h p) = max 0 ((dataX X).innerLab h p) := by
  rw [nLab_apply]
  refine chain_top _ _ fun t => ?_
  unfold termLab; rw [at64_val, nRel_apply, nM_apply]

theorem nIouT_apply (p : Fin 512) (t : Fin 64) : nIouT X (ix2 p t) = (dataX X).iou t p := by
  unfold nIouT; pointwise [k0_pay95]; rw [nIou_apply]

theorem nMb_apply (t : Fin 64) (p : Fin 512) : nMb X (ix2 t p) = (dataX X).m t p := by
  unfold nMb; pointwise [k0_pay90]; rw [nM_apply]

/-- The kernel's foreground pairs. -/
theorem nFg_iff (i j : Fin 512) : nFg X (ix2 i j) = 1#1 ↔ (dataX X).Fg i j := by
  unfold nFg
  pointwise [k0_pay93, k0_pay92, k0_pay91, k0_pay90, k0_pay28]
  simp only [nM_apply, nRp_apply]
  have e : IntOp.cmpi .ne (BitVec.ofNat 32 i.val) (BitVec.ofNat 32 j.val) = BitVec.ofBool (decide (i ≠ j)) := by
    have h : (BitVec.ofNat 32 i.val ≠ BitVec.ofNat 32 j.val) ↔ i ≠ j := by
      refine not_congr ⟨fun h => ?_, fun h => by rw [h]⟩
      have h' := congrArg BitVec.toNat h
      rw [BitVec.toNat_ofNat, BitVec.toNat_ofNat, Nat.mod_eq_of_lt (by omega), Nat.mod_eq_of_lt (by omega)] at h'
      exact Fin.ext h'
    show BitVec.ofBool (BitVec.ofNat 32 i.val != BitVec.ofNat 32 j.val) = _
    congr 1
    rw [Bool.eq_iff_iff, bne_iff_ne, decide_eq_true_iff]
    exact h
  rw [e]
  have b : ∀ P Q : Bool, IntOp.andi (BitVec.ofBool P) (BitVec.ofBool Q) = 1#1 ↔ (P = true ∧ Q = true) := by decide
  rw [b, decide_eq_true_iff, decide_eq_true_iff]
  exact and_congr ((dataX X).pos_right i j) Iff.rfl

/-- The kernel's scores. -/
theorem scoreX_eq (x : Fin 262144) : scoreX X x = (dataX X).score (row x) (col x) := by
  unfold scoreX scoreOf Data.score
  have hc : chain (termQ (nIouT X) (nIn X) (row x) (col x)) 64 = (dataX X).iouPair (row x) (col x) := by
    refine chain_eq (termQ (nIouT X) (nIn X) (row x) (col x)) (fun t => (dataX X).iou t (row x) * (dataX X).innerIou t (col x)) (fun t => ?_) fun t => mul_nn ((dataX X).iou_nonneg _ _) ((dataX X).innerIou_nonneg _ _)
    unfold termQ; rw [at64_val, nIouT_apply, nIn_eq]
  rw [hc]
  by_cases h : (dataX X).Fg (row x) (col x)
  · rw [if_pos h, (nFg_iff X _ _).mpr h]; rfl
  · rw [if_neg h]
    have hz : nFg X (ix2 (row x) (col x)) = 0#1 := by
      have hn : nFg X (ix2 (row x) (col x)) ≠ 1#1 := fun e => h ((nFg_iff X _ _).mp e)
      revert hn; generalize nFg X (ix2 (row x) (col x)) = b; revert b; decide
    rw [hz]; rfl

/-- A pair is a foreground pair exactly where its score is positive. -/
theorem fg_iff (x : Fin 262144) : FgX X x ↔ 0 < scoreX X x := by
  rw [scoreX_eq, (dataX X).score_pos]; exact nFg_iff X _ _

theorem terms_nonneg (i j : Fin 512) (t : Fin 64) : 0 ≤ nIouT X (ix2 i t) * nIn X (ix2 t j) := by
  rw [nIouT_apply, nIn_eq]; exact mul_nn ((dataX X).iou_nonneg _ _) ((dataX X).innerIou_nonneg _ _)

/-- The kernel's label of a foreground pair. -/
theorem labX_eq (x : Fin 262144) (h : 0 < scoreX X x) : labX X x = (dataX X).label (row x) (col x) := by
  rw [scoreX_eq, (dataX X).score_pos] at h
  rw [← (dataX X).label_cut h.1]
  unfold labX top
  simp only [nMb_apply, nLab_eq]

/-- The 256 places the kernel picks: the first ones by score, with their flat indices, scores and labels. -/
theorem picked : ∃ σ : Fin 256 → Fin 262144, Function.Injective σ ∧
    (∀ i j, i < j → ¬ Better (fun x => (dataX X).score (row x) (col x)) (σ j) (σ i)) ∧
    (∀ i x, (∀ j, σ j ≠ x) → ¬ Better (fun x => (dataX X).score (row x) (col x)) x (σ i)) ∧
    ∀ t, o7 X (ix2 0 t) = BitVec.ofNat 32 (σ t).val ∧ o8 X (ix2 0 t) = (dataX X).score (row (σ t)) (col (σ t)) ∧
      o9 X (ix2 0 t) = FloatOps.fptosi (F := Ideal) (φ := FTy.f32) 32 (if 0 < (dataX X).score (row (σ t)) (col (σ t)) then (dataX X).label (row (σ t)) (col (σ t)) else 0) := by
  obtain ⟨σ, h1, h2, h3, h4⟩ := places X (fg_iff X) (terms_nonneg X)
  have hs : scoreX X = fun x => (dataX X).score (row x) (col x) := funext (scoreX_eq X)
  rw [hs] at h2 h3
  refine ⟨σ, h1, h2, h3, fun t => ⟨(h4 t).1, ?_, ?_⟩⟩
  · rw [(h4 t).2.1, scoreX_eq]
  · rw [(h4 t).2.2, ← scoreX_eq]
    by_cases h : 0 < scoreX X (σ t)
    · rw [if_pos h, if_pos h, labX_eq X _ h]
    · rw [if_neg h, if_neg h]

end Cert.KernelIdeal.Body

end
-- ==== Proof.KernelTail.lean ====
/-
The host operations after the launch: a flat index is split into a row and a column by a division and a remainder by 512,
the two halves of the pair list are put one behind the other, and the labels are followed by zeros.
-/
module

public import proofs.«01_k».proof.Proof.KernelRun
@[expose] public section

set_option maxRecDepth 16384
set_option maxHeartbeats 4000000

noncomputable section

namespace Cert.KernelIdeal.Body

open Cert.KernelIdeal.Gen
open Idealize.ShloMosaic Idealize.ShloMosaic.TcCoe Idealize.SL.Sem

/-- Division by `d` rounded down, on 256 words. -/
def quot256 (x : Vec Ideal S256 .i32) (d : Vec Ideal S_ .i32) : Vec Ideal S256 .i32 :=
  select (andi (cmpi .ne (signi x) (broadcastInDim S256 ![] bcast_S_S256 (signi d))) (cmpi .ne (Host.remsi x (broadcastInDim S256 ![] bcast_S_S256 d)) (broadcastInDim S256 ![] bcast_S_S256 (constantI S_ 32 0#32))))
    (subi (Host.divsi x (broadcastInDim S256 ![] bcast_S_S256 d)) (broadcastInDim S256 ![] bcast_S_S256 (constantI S_ 32 1#32))) (Host.divsi x (broadcastInDim S256 ![] bcast_S_S256 d))

/-- The remainder by `e` before its sign is corrected. -/
def trem256 (x : Vec Ideal S256 .i32) (e : Vec Ideal S_ .i32) : Vec Ideal S256 .i32 := Host.remsi x (broadcastInDim S256 ![] bcast_S_S256 e)

/-- The remainder by `e` with the divisor's sign, on 256 words. -/
def srem256 (x : Vec Ideal S256 .i32) (e : Vec Ideal S_ .i32) : Vec Ideal S256 .i32 :=
  select (andi (cmpi .ne (cmpi .slt (trem256 x e) (broadcastInDim S256 ![] bcast_S_S256 (constantI S_ 32 0#32))) (broadcastInDim S256 ![] bcast_S_S256 (cmpi .slt e (constantI S_ 32 0#32))))
      (cmpi .ne (trem256 x e) (broadcastInDim S256 ![] bcast_S_S256 (constantI S_ 32 0#32)))) (addi (trem256 x e) (broadcastInDim S256 ![] bcast_S_S256 e)) (trem256 x e)

/-- The remainder by `d`, with 1 in the place of a divisor 0. -/
def remd256 (x : Vec Ideal S256 .i32) (d : Vec Ideal S_ .i32) : Vec Ideal S256 .i32 :=
  srem256 x (select (cmpi .eq d (constantI S_ 32 0#32)) (constantI S_ 32 1#32) d)

/-- Division by `d` rounded down, on 768 words. -/
def quot768 (x : Vec Ideal S768 .i32) (d : Vec Ideal S_ .i32) : Vec Ideal S768 .i32 :=
  select (andi (cmpi .ne (signi x) (broadcastInDim S768 ![] bcast_S_S768 (signi d))) (cmpi .ne (Host.remsi x (broadcastInDim S768 ![] bcast_S_S768 d)) (broadcastInDim S768 ![] bcast_S_S768 (constantI S_ 32 0#32))))
    (subi (Host.divsi x (broadcastInDim S768 ![] bcast_S_S768 d)) (broadcastInDim S768 ![] bcast_S_S768 (constantI S_ 32 1#32))) (Host.divsi x (broadcastInDim S768 ![] bcast_S_S768 d))

/-- The remainder by `e` before its sign is corrected. -/
def trem768 (x : Vec Ideal S768 .i32) (e : Vec Ideal S_ .i32) : Vec Ideal S768 .i32 := Host.remsi x (broadcastInDim S768 ![] bcast_S_S768 e)

/-- The remainder by `e` with the divisor's sign, on 768 words. -/
def srem768 (x : Vec Ideal S768 .i32) (e : Vec Ideal S_ .i32) : Vec Ideal S768 .i32 :=
  select (andi (cmpi .ne (cmpi .slt (trem768 x e) (broadcastInDim S768 ![] bcast_S_S768 (constantI S_ 32 0#32))) (broadcastInDim S768 ![] bcast_S_S768 (cmpi .slt e (constantI S_ 32 0#32))))
      (cmpi .ne (trem768 x e) (broadcastInDim S768 ![] bcast_S_S768 (constantI S_ 32 0#32)))) (addi (trem768 x e) (broadcastInDim S768 ![] bcast_S_S768 e)) (trem768 x e)

/-- The remainder by `d`, with 1 in the place of a divisor 0. -/
def remd768 (x : Vec Ideal S768 .i32) (d : Vec Ideal S_ .i32) : Vec Ideal S768 .i32 :=
  srem768 x (select (cmpi .eq d (constantI S_ 32 0#32)) (constantI S_ 32 1#32) d)

/-- The two parts of a list of 1024 words, one behind the other. -/
def both (x : Vec Ideal S256 .i32) (y : Vec Ideal S768 .i32) : Vec Ideal S1024 .i32 :=
  concatenate S1024 0 [⟨S256, x⟩, ⟨S768, y⟩] concatenates_S256_S768_S1024_d0

/-- Two columns side by side. -/
def columns (x y : Vec Ideal S1024 .i32) : Vec Ideal S1024x2 .i32 :=
  concatenate S1024x2 1 [⟨S1024x1, (broadcastInDim S1024x1 ![0] bcast_S1024_S1024x1_0 x)⟩, ⟨S1024x1, (broadcastInDim S1024x1 ![0] bcast_S1024_S1024x1_0 y)⟩] concatenates_S1024x1_S1024x1_S1024x2_d1

/-- The list of pairs of the foreground indices `x` and the background indices `y`: rows and columns. -/
def pairList (x : Vec Ideal S256 .i32) (y : Vec Ideal S768 .i32) : Vec Ideal S1024x2 .i32 :=
  columns (both (quot256 x (constantI S_ 32 512#32)) (quot768 y (constantI S_ 32 512#32)))
    (both (remd256 x (constantI S_ 32 512#32)) (remd768 y (constantI S_ 32 512#32)))

/-- The labels of the foreground pairs followed by zeros. -/
def labelList (x : Vec Ideal S256 .i32) : Vec Ideal S1024 .i32 :=
  both x (broadcastInDim S768 ![] bcast_S_S768 (constantI S_ 32 0#32))

variable (W : Valuation τ sig (Elt Ideal))

/-- The foreground indices as a row. -/
theorem tail_v17 : StableHlo.after hostOps1 W (Proc.devRef .tc main_v17) = shapeCast S256 (W (Proc.devRef .tc main_v16_0)) shapeCasts_S1x256_S256 := by
  simp only [hostOps1, List.flatten_cons, List.flatten_nil, List.append_nil, List.cons_append, List.nil_append, StableHlo.TRef.nullary, StableHlo.TRef.binary, StableHlo.TRef.unary, StableHlo.TRef.toBuf, StableHlo.TRef.ofBuf, cast_eq]
  after_results_simp
  try rfl

/-- The background indices as a row. -/
theorem tail_v18 : StableHlo.after hostOps1 W (Proc.devRef .tc main_v18) = shapeCast S768 (W (Proc.devRef .tc main_v16_3)) shapeCasts_S1x768_S768 := by
  simp only [hostOps1, List.flatten_cons, List.flatten_nil, List.append_nil, List.cons_append, List.nil_append, StableHlo.TRef.nullary, StableHlo.TRef.binary, StableHlo.TRef.unary, StableHlo.TRef.toBuf, StableHlo.TRef.ofBuf, cast_eq]
  after_results_simp
  try rfl

/-- The divisor. -/
theorem tail_c2 : StableHlo.after hostOps1 W (Proc.devRef .tc main_c_2) = constantI S_ 32 512#32 := by
  simp only [hostOps1, List.flatten_cons, List.flatten_nil, List.append_nil, List.cons_append, List.nil_append, StableHlo.TRef.nullary, StableHlo.TRef.binary, StableHlo.TRef.unary, StableHlo.TRef.toBuf, StableHlo.TRef.ofBuf, cast_eq]
  after_results_simp
  try rfl

/-- The foreground rows. -/
theorem tail_v19 : StableHlo.after hostOps1_1 W (Proc.devRef .tc main_v19) = quot256 (W (Proc.devRef .tc main_v17)) (W (Proc.devRef .tc main_c_2)) := by
  simp only [hostOps1_1, List.flatten_cons, List.flatten_nil, List.append_nil, List.cons_append, List.nil_append, StableHlo.TRef.nullary, StableHlo.TRef.binary, StableHlo.TRef.unary, StableHlo.TRef.toBuf, StableHlo.TRef.ofBuf, cast_eq]
  after_results_simp
  try rfl

/-- The divisor. -/
theorem tail_c3 : StableHlo.after hostOps1_2 W (Proc.devRef .tc main_c_3) = constantI S_ 32 512#32 := by
  simp only [hostOps1_2, List.flatten_cons, List.flatten_nil, List.append_nil, List.cons_append, List.nil_append, StableHlo.TRef.nullary, StableHlo.TRef.binary, StableHlo.TRef.unary, StableHlo.TRef.toBuf, StableHlo.TRef.ofBuf, cast_eq]
  after_results_simp
  try rfl

/-- The background rows. -/
theorem tail_v20 : StableHlo.after hostOps1_3 W (Proc.devRef .tc main_v20) = quot768 (W (Proc.devRef .tc main_v18)) (W (Proc.devRef .tc main_c_3)) := by
  simp only [hostOps1_3, List.flatten_cons, List.flatten_nil, List.append_nil, List.cons_append, List.nil_append, StableHlo.TRef.nullary, StableHlo.TRef.binary, StableHlo.TRef.unary, StableHlo.TRef.toBuf, StableHlo.TRef.ofBuf, cast_eq]
  after_results_simp
  try rfl

/-- All rows. -/
theorem tail_v21 : StableHlo.after hostOps1_4 W (Proc.devRef .tc main_v21) = both (W (Proc.devRef .tc main_v19)) (W (Proc.devRef .tc main_v20)) := by
  simp only [hostOps1_4, List.flatten_cons, List.flatten_nil, List.append_nil, List.cons_append, List.nil_append, StableHlo.TRef.nullary, StableHlo.TRef.binary, StableHlo.TRef.unary, StableHlo.TRef.toBuf, StableHlo.TRef.ofBuf, cast_eq]
  after_results_simp
  try rfl

/-- The divisor. -/
theorem tail_c4 : StableHlo.after hostOps1_4 W (Proc.devRef .tc main_c_4) = constantI S_ 32 512#32 := by
  simp only [hostOps1_4, List.flatten_cons, List.flatten_nil, List.append_nil, List.cons_append, List.nil_append, StableHlo.TRef.nullary, StableHlo.TRef.binary, StableHlo.TRef.unary, StableHlo.TRef.toBuf, StableHlo.TRef.ofBuf, cast_eq]
  after_results_simp
  try rfl

/-- The foreground columns. -/
theorem tail_v22 : StableHlo.after hostOps1_5 W (Proc.devRef .tc main_v22) = remd256 (W (Proc.devRef .tc main_v17)) (W (Proc.devRef .tc main_c_4)) := by
  simp only [hostOps1_5, List.flatten_cons, List.flatten_nil, List.append_nil, List.cons_append, List.nil_append, StableHlo.TRef.nullary, StableHlo.TRef.binary, StableHlo.TRef.unary, StableHlo.TRef.toBuf, StableHlo.TRef.ofBuf, cast_eq]
  after_results_simp
  try rfl

/-- The divisor. -/
theorem tail_c5 : StableHlo.after hostOps1_6 W (Proc.devRef .tc main_c_5) = constantI S_ 32 512#32 := by
  simp only [hostOps1_6, List.flatten_cons, List.flatten_nil, List.append_nil, List.cons_append, List.nil_append, StableHlo.TRef.nullary, StableHlo.TRef.binary, StableHlo.TRef.unary, StableHlo.TRef.toBuf, StableHlo.TRef.ofBuf, cast_eq]
  after_results_simp
  try rfl

/-- The background columns. -/
theorem tail_v23 : StableHlo.after hostOps1_7 W (Proc.devRef .tc main_v23) = remd768 (W (Proc.devRef .tc main_v18)) (W (Proc.devRef .tc main_c_5)) := by
  simp only [hostOps1_7, List.flatten_cons, List.flatten_nil, List.append_nil, List.cons_append, List.nil_append, StableHlo.TRef.nullary, StableHlo.TRef.binary, StableHlo.TRef.unary, StableHlo.TRef.toBuf, StableHlo.TRef.ofBuf, cast_eq]
  after_results_simp
  try rfl

/-- The pairs. -/
theorem tail_v27 : StableHlo.after hostOps1_8 W (Proc.devRef .tc main_v27) = columns (W (Proc.devRef .tc main_v21)) (both (W (Proc.devRef .tc main_v22)) (W (Proc.devRef .tc main_v23))) := by
  simp only [hostOps1_8, List.flatten_cons, List.flatten_nil, List.append_nil, List.cons_append, List.nil_append, StableHlo.TRef.nullary, StableHlo.TRef.binary, StableHlo.TRef.unary, StableHlo.TRef.toBuf, StableHlo.TRef.ofBuf, cast_eq]
  after_results_simp
  try rfl

/-- The labels. -/
theorem tail_v30 : StableHlo.after hostOps1_8 W (Proc.devRef .tc main_v30) = labelList (shapeCast S256 (W (Proc.devRef .tc main_v16_2)) shapeCasts_S1x256_S256) := by
  simp only [hostOps1_8, List.flatten_cons, List.flatten_nil, List.append_nil, List.cons_append, List.nil_append, StableHlo.TRef.nullary, StableHlo.TRef.binary, StableHlo.TRef.unary, StableHlo.TRef.toBuf, StableHlo.TRef.ofBuf, cast_eq]
  after_results_simp
  try rfl

/-- The scores. -/
theorem tail_v31 : StableHlo.after hostOps1_8 W (Proc.devRef .tc main_v31) = shapeCast S256 (W (Proc.devRef .tc main_v16_1)) shapeCasts_S1x256_S256 := by
  simp only [hostOps1_8, List.flatten_cons, List.flatten_nil, List.append_nil, List.cons_append, List.nil_append, StableHlo.TRef.nullary, StableHlo.TRef.binary, StableHlo.TRef.unary, StableHlo.TRef.toBuf, StableHlo.TRef.ofBuf, cast_eq]
  after_results_simp
  try rfl

/-- The pair list after all of the host operations. -/
theorem tail_pairs : StableHlo.after (List.flatten [hostOps1, hostOps1_1, hostOps1_2, hostOps1_3, hostOps1_4, hostOps1_5, hostOps1_6, hostOps1_7, hostOps1_8]) W (Proc.devRef .tc main_v27) = pairList (shapeCast S256 (W (Proc.devRef .tc main_v16_0)) shapeCasts_S1x256_S256) (shapeCast S768 (W (Proc.devRef .tc main_v16_3)) shapeCasts_S1x768_S768) := by
  rw [List.flatten_cons, List.flatten_cons, List.flatten_cons, List.flatten_cons, List.flatten_cons, List.flatten_cons, List.flatten_cons, List.flatten_cons, List.flatten_cons, List.flatten_nil, List.append_nil, StableHlo.after_append, StableHlo.after_append, StableHlo.after_append, StableHlo.after_append, StableHlo.after_append, StableHlo.after_append, StableHlo.after_append, StableHlo.after_append]
  rw [tail_v27,
    StableHlo.after_of_writes_sub (r := main_v21) hostOps1_7 _ hostOps1_7_writes (by decide +kernel),
    StableHlo.after_of_writes_sub (r := main_v21) hostOps1_6 _ hostOps1_6_writes (by decide +kernel),
    StableHlo.after_of_writes_sub (r := main_v21) hostOps1_5 _ hostOps1_5_writes (by decide +kernel),
    tail_v21,
    StableHlo.after_of_writes_sub (r := main_v19) hostOps1_3 _ hostOps1_3_writes (by decide +kernel),
    StableHlo.after_of_writes_sub (r := main_v19) hostOps1_2 _ hostOps1_2_writes (by decide +kernel),
    tail_v19,
    tail_v17,
    tail_c2,
    tail_v20,
    StableHlo.after_of_writes_sub (r := main_v18) hostOps1_2 _ hostOps1_2_writes (by decide +kernel),
    StableHlo.after_of_writes_sub (r := main_v18) hostOps1_1 _ hostOps1_1_writes (by decide +kernel),
    tail_v18,
    tail_c3,
    StableHlo.after_of_writes_sub (r := main_v22) hostOps1_7 _ hostOps1_7_writes (by decide +kernel),
    StableHlo.after_of_writes_sub (r := main_v22) hostOps1_6 _ hostOps1_6_writes (by decide +kernel),
    tail_v22,
    StableHlo.after_of_writes_sub (r := main_v17) hostOps1_4 _ hostOps1_4_writes (by decide +kernel),
    StableHlo.after_of_writes_sub (r := main_v17) hostOps1_3 _ hostOps1_3_writes (by decide +kernel),
    StableHlo.after_of_writes_sub (r := main_v17) hostOps1_2 _ hostOps1_2_writes (by decide +kernel),
    StableHlo.after_of_writes_sub (r := main_v17) hostOps1_1 _ hostOps1_1_writes (by decide +kernel),
    tail_v17,
    tail_c4,
    tail_v23,
    StableHlo.after_of_writes_sub (r := main_v18) hostOps1_6 _ hostOps1_6_writes (by decide +kernel),
    StableHlo.after_of_writes_sub (r := main_v18) hostOps1_5 _ hostOps1_5_writes (by decide +kernel),
    StableHlo.after_of_writes_sub (r := main_v18) hostOps1_4 _ hostOps1_4_writes (by decide +kernel),
    StableHlo.after_of_writes_sub (r := main_v18) hostOps1_3 _ hostOps1_3_writes (by decide +kernel),
    StableHlo.after_of_writes_sub (r := main_v18) hostOps1_2 _ hostOps1_2_writes (by decide +kernel),
    StableHlo.after_of_writes_sub (r := main_v18) hostOps1_1 _ hostOps1_1_writes (by decide +kernel),
    tail_v18,
    tail_c5]
  try rfl

/-- The labels after all of the host operations. -/
theorem tail_labels : StableHlo.after (List.flatten [hostOps1, hostOps1_1, hostOps1_2, hostOps1_3, hostOps1_4, hostOps1_5, hostOps1_6, hostOps1_7, hostOps1_8]) W (Proc.devRef .tc main_v30) = labelList (shapeCast S256 (W (Proc.devRef .tc main_v16_2)) shapeCasts_S1x256_S256) := by
  rw [List.flatten_cons, List.flatten_cons, List.flatten_cons, List.flatten_cons, List.flatten_cons, List.flatten_cons, List.flatten_cons, List.flatten_cons, List.flatten_cons, List.flatten_nil, List.append_nil, StableHlo.after_append, StableHlo.after_append, StableHlo.after_append, StableHlo.after_append, StableHlo.after_append, StableHlo.after_append, StableHlo.after_append, StableHlo.after_append]
  rw [tail_v30,
    StableHlo.after_of_writes_sub (r := main_v16_2) hostOps1_7 _ hostOps1_7_writes (by decide +kernel),
    StableHlo.after_of_writes_sub (r := main_v16_2) hostOps1_6 _ hostOps1_6_writes (by decide +kernel),
    StableHlo.after_of_writes_sub (r := main_v16_2) hostOps1_5 _ hostOps1_5_writes (by decide +kernel),
    StableHlo.after_of_writes_sub (r := main_v16_2) hostOps1_4 _ hostOps1_4_writes (by decide +kernel),
    StableHlo.after_of_writes_sub (r := main_v16_2) hostOps1_3 _ hostOps1_3_writes (by decide +kernel),
    StableHlo.after_of_writes_sub (r := main_v16_2) hostOps1_2 _ hostOps1_2_writes (by decide +kernel),
    StableHlo.after_of_writes_sub (r := main_v16_2) hostOps1_1 _ hostOps1_1_writes (by decide +kernel),
    StableHlo.after_of_writes_sub (r := main_v16_2) hostOps1 _ hostOps1_writes (by decide +kernel)]
  try rfl

/-- The scores after all of the host operations. -/
theorem tail_scores : StableHlo.after (List.flatten [hostOps1, hostOps1_1, hostOps1_2, hostOps1_3, hostOps1_4, hostOps1_5, hostOps1_6, hostOps1_7, hostOps1_8]) W (Proc.devRef .tc main_v31) = shapeCast S256 (W (Proc.devRef .tc main_v16_1)) shapeCasts_S1x256_S256 := by
  rw [List.flatten_cons, List.flatten_cons, List.flatten_cons, List.flatten_cons, List.flatten_cons, List.flatten_cons, List.flatten_cons, List.flatten_cons, List.flatten_cons, List.flatten_nil, List.append_nil, StableHlo.after_append, StableHlo.after_append, StableHlo.after_append, StableHlo.after_append, StableHlo.after_append, StableHlo.after_append, StableHlo.after_append, StableHlo.after_append]
  rw [tail_v31,
    StableHlo.after_of_writes_sub (r := main_v16_1) hostOps1_7 _ hostOps1_7_writes (by decide +kernel),
    StableHlo.after_of_writes_sub (r := main_v16_1) hostOps1_6 _ hostOps1_6_writes (by decide +kernel),
    StableHlo.after_of_writes_sub (r := main_v16_1) hostOps1_5 _ hostOps1_5_writes (by decide +kernel),
    StableHlo.after_of_writes_sub (r := main_v16_1) hostOps1_4 _ hostOps1_4_writes (by decide +kernel),
    StableHlo.after_of_writes_sub (r := main_v16_1) hostOps1_3 _ hostOps1_3_writes (by decide +kernel),
    StableHlo.after_of_writes_sub (r := main_v16_1) hostOps1_2 _ hostOps1_2_writes (by decide +kernel),
    StableHlo.after_of_writes_sub (r := main_v16_1) hostOps1_1 _ hostOps1_1_writes (by decide +kernel),
    StableHlo.after_of_writes_sub (r := main_v16_1) hostOps1 _ hostOps1_writes (by decide +kernel)]
  try rfl

variable (m : (ℓ : Loc nD τ sig) → Buf (Elt Ideal) ℓ) (ρ : Dev nD → PrngReg)

/-- What the host operations after the launch leave is what they leave of the named result arrays. -/
theorem entry7 (c : Dev nD) : Pipeline.withArrays (cfgs 0).spec c (V0 m c) (fun w => (dats m 0 c).arrAt w (cfgs 0).N) (Proc.devRef .tc main_v16_0) = o7 (insV m c) :=
  (Pipeline.withArrays_arr _ launch0.win.arr_inj c (V0 m c) _ 7).trans (final7 m c)
theorem entry8 (c : Dev nD) : Pipeline.withArrays (cfgs 0).spec c (V0 m c) (fun w => (dats m 0 c).arrAt w (cfgs 0).N) (Proc.devRef .tc main_v16_1) = o8 (insV m c) :=
  (Pipeline.withArrays_arr _ launch0.win.arr_inj c (V0 m c) _ 8).trans (final8 m c)
theorem entry9 (c : Dev nD) : Pipeline.withArrays (cfgs 0).spec c (V0 m c) (fun w => (dats m 0 c).arrAt w (cfgs 0).N) (Proc.devRef .tc main_v16_2) = o9 (insV m c) :=
  (Pipeline.withArrays_arr _ launch0.win.arr_inj c (V0 m c) _ 9).trans (final9 m c)
theorem entry10 (c : Dev nD) : Pipeline.withArrays (cfgs 0).spec c (V0 m c) (fun w => (dats m 0 c).arrAt w (cfgs 0).N) (Proc.devRef .tc main_v16_3) = o10 (insV m c) :=
  (Pipeline.withArrays_arr _ launch0.win.arr_inj c (V0 m c) _ 10).trans (final10 m c)

/-- The launch with every result at its value and the arguments unchanged. -/
theorem run_value : θ_run defs (onTc (τ := τ) (main (F := Ideal))) ⟨m, fun _ => 0, ρ⟩ fun r => ∀ c : Dev nD,
      (r.2.mem ((c.tc : Thread nD τ).loc main_v27) = pairList (shapeCast S256 (o7 (insV m c)) shapeCasts_S1x256_S256) (shapeCast S768 (o10 (insV m c)) shapeCasts_S1x768_S768)
      ∧ r.2.mem ((c.tc : Thread nD τ).loc main_v30) = labelList (shapeCast S256 (o9 (insV m c)) shapeCasts_S1x256_S256)
      ∧ r.2.mem ((c.tc : Thread nD τ).loc main_v16_4) = o11 (insV m c)
      ∧ r.2.mem ((c.tc : Thread nD τ).loc main_v31) = shapeCast S256 (o8 (insV m c)) shapeCasts_S1x256_S256)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun r h c => ⟨⟨
      ((h.1 c).2 main_v27 (by decide +kernel)).trans ((tail_pairs _).trans (congrArg₂ (fun a b => pairList (shapeCast S256 a shapeCasts_S1x256_S256) (shapeCast S768 b shapeCasts_S1x768_S768)) (entry7 m c) (entry10 m c))),
      ((h.1 c).2 main_v30 (by decide +kernel)).trans ((tail_labels _).trans (congrArg (fun a => labelList (shapeCast S256 a shapeCasts_S1x256_S256)) (entry9 m c))),
      ((h.1 c).1 11).trans (final11 m c),
      ((h.1 c).2 main_v31 (by decide +kernel)).trans ((tail_scores _).trans (congrArg (fun a => shapeCast S256 a shapeCasts_S1x256_S256) (entry8 m c)))⟩, h.2 c⟩)
    (θ_run_and (run_main m ρ) (unchanged m ρ))

end Cert.KernelIdeal.Body

end
-- ==== Proof.TopK.lean ====
/-
The first elements of a stable sort by falling value: they are the first in the order by falling value and then by
position.
-/
module

public import proofs.«01_k».proof.Proof.Order
public import Idealize.ShloMosaic.Lib.SortPrefix
public import Idealize.ShloMosaic.Lib.Pointwise

@[expose] public section

set_option maxRecDepth 16384

noncomputable section

namespace Cert.TopK

open Cert.Order
open Idealize.ShloMosaic Idealize.ShloMosaic.Pointwise

/-- Two relations that agree on a later position before an earlier one sort an ascending list alike. -/
theorem sort_ascending {n : ℕ} (R R' : Fin n → Fin n → Bool) (h : ∀ a b, a < b → R b a = R' b a) (l : List (Fin n))
    (hl : l.Pairwise (· < ·)) : stableSort R l = stableSort R' l := by
  induction l with
  | nil => rfl
  | cons a l ih =>
    rw [List.pairwise_cons] at hl
    unfold stableSort
    rw [ih hl.2]
    exact insertBefore_congr R R' a _ fun b hb => h a b (hl.1 b ((perm_stableSort R' l).mem_iff.mp hb))

/-- The order by falling value and then by position, as a relation that can be decided. -/
def before {n : ℕ} (v : Fin n → EReal) (a b : Fin n) : Bool := decide (Better v a b)

theorem before_strict {n : ℕ} (v : Fin n → EReal) : StrictTotalBefore (before v) := by
  have h := strict_better v
  refine ⟨fun a => ?_, fun a b c hab hbc => ?_, fun a b hab => ?_⟩
  · exact decide_eq_false (h.1 a)
  · exact decide_eq_true (h.2 a b c (of_decide_eq_true hab) (of_decide_eq_true hbc))
  · exact (h.3 a b hab).imp decide_eq_true decide_eq_true

/-- A stable sort by falling value starts with the elements that are first in the order. -/
theorem first {n k : ℕ} (hk : k ≤ n) (v : Fin n → EReal) (R : Fin n → Fin n → Bool) (hR : ∀ a b, R a b = decide (v b < v a))
    (σ : Fin k → Fin n) (hinj : Function.Injective σ) (hord : ∀ i j, i < j → ¬ Better v (σ j) (σ i))
    (hdom : ∀ i x, (∀ j, σ j ≠ x) → ¬ Better v x (σ i)) (i : Fin k) : sortedFrom R (i.castLE hk) = σ i := by
  have e : sortedFrom R = sortedFrom (before v) := by
    have : sortPositions n R = sortPositions n (before v) := by
      refine sort_ascending R (before v) (fun a b hab => ?_) _ (List.pairwise_lt_finRange n)
      rw [hR]; unfold before Better
      have hn : ¬ b < a := lt_asymm hab
      simp [hn]
    funext j
    unfold sortedFrom
    simp only [List.get_eq_getElem, this]
    rfl
  rw [e]
  exact (before_strict v).sortedFrom_eq_of_prefix hk σ hinj (fun i j h => decide_eq_false (hord i j h))
    (fun i p h => decide_eq_false (hdom i p h)) i

theorem along_ix1 {n : ℕ} (j : (⟨1, ![n]⟩ : Shape).Idx) (k : Fin n) : j.along (0 : Fin 1) k = ix1 k := by
  rw [Shape.Idx.along_rank1]
  funext a
  have : a = 0 := Subsingleton.elim _ _
  subst this
  exact Fin.ext rfl

/-- A stable sort of two lists by a comparison, entry by entry. -/
theorem sort2_ix1 {n : ℕ} {α β : Type} (cmp : α × β → α × β → BitVec 1) (x : (⟨1, ![n]⟩ : Shape).Idx → α)
    (y : (⟨1, ![n]⟩ : Shape).Idx → β) (j : Fin n) :
    (Host.sort2 ⟨1, ![n]⟩ 0 cmp x y).1 (ix1 j) = x (ix1 (sortedFrom (fun k k' => cmp (x (ix1 k), y (ix1 k)) (x (ix1 k'), y (ix1 k')) == 1#1) j)) ∧
      (Host.sort2 ⟨1, ![n]⟩ 0 cmp x y).2 (ix1 j) = y (ix1 (sortedFrom (fun k k' => cmp (x (ix1 k), y (ix1 k)) (x (ix1 k'), y (ix1 k')) == 1#1) j)) := by
  have e : (fun k k' : Fin n => cmp (x ((ix1 j).along (0 : Fin 1) k), y ((ix1 j).along (0 : Fin 1) k)) (x ((ix1 j).along (0 : Fin 1) k'), y ((ix1 j).along (0 : Fin 1) k')) == 1#1)
      = fun k k' => cmp (x (ix1 k), y (ix1 k)) (x (ix1 k'), y (ix1 k')) == 1#1 := by
    funext k k'; rw [along_ix1, along_ix1]
  unfold Host.sort2
  rw [dif_pos (show 0 < (⟨1, ![n]⟩ : Shape).rank from Nat.one_pos)]
  constructor
  · show x ((ix1 j).along (0 : Fin 1) (sortedFrom (fun k k' : Fin n => cmp (x ((ix1 j).along (0 : Fin 1) k), y ((ix1 j).along (0 : Fin 1) k)) (x ((ix1 j).along (0 : Fin 1) k'), y ((ix1 j).along (0 : Fin 1) k')) == 1#1) j)) = _
    rw [e]; exact congrArg _ (along_ix1 _ _)
  · show y ((ix1 j).along (0 : Fin 1) (sortedFrom (fun k k' : Fin n => cmp (x ((ix1 j).along (0 : Fin 1) k), y ((ix1 j).along (0 : Fin 1) k)) (x ((ix1 j).along (0 : Fin 1) k'), y ((ix1 j).along (0 : Fin 1) k')) == 1#1) j)) = _
    rw [e]; exact congrArg _ (along_ix1 _ _)

/-- The `k` greatest of a list of numbers are the values at the places that are first in the order, and their indices
    are these places. -/
theorem topK_apply {n k : ℕ} (hk : k ≤ n) (x : FVec Ideal ⟨1, ![n]⟩ .f32) (h : (⟨1, ![n]⟩ : Shape).Slices (fun _ => 0) ⟨1, ![k]⟩)
    (σ : Fin k → Fin n) (hinj : Function.Injective σ) (hord : ∀ i j, i < j → ¬ Better (fun p => x (ix1 p)) (σ j) (σ i))
    (hdom : ∀ i p, (∀ j, σ j ≠ p) → ¬ Better (fun p => x (ix1 p)) p (σ i)) (t : Fin k) :
    (Host.topK ⟨1, ![k]⟩ 0 (FloatOps.cmpfTotal .gt) x h).1 (ix1 t) = x (ix1 (σ t)) ∧
      (Host.topK ⟨1, ![k]⟩ 0 (FloatOps.cmpfTotal .gt) x h).2 (ix1 t) = BitVec.ofNat 32 (σ t).val := by
  have hR : ∀ a b : Fin n, (FloatOps.cmpfTotal (F := Ideal) .gt (x (ix1 a)) (x (ix1 b)) == 1#1) = decide (x (ix1 b) < x (ix1 a)) := by
    intro a b
    show (BitVec.ofBool (decide (x (ix1 b) < x (ix1 a))) == 1#1) = _
    by_cases hc : x (ix1 b) < x (ix1 a) <;> simp [hc]
  have hf := first hk (fun p => x (ix1 p)) _ hR σ hinj hord hdom t
  have hs : ∀ {γ : Type} (z : (⟨1, ![n]⟩ : Shape).Idx → γ),
      extractStridedSlice ⟨1, ![k]⟩ (fun _ => 0) z h (ix1 t) = z (ix1 (t.castLE hk)) := by
    intro γ z
    refine congrArg z ?_
    funext a
    have : a = 0 := Subsingleton.elim _ _
    subst this
    exact Fin.ext (Nat.zero_add _)
  have hq := sort2_ix1 (fun l r : EReal × BitVec 32 => FloatOps.cmpfTotal (F := Ideal) (φ := .f32) .gt l.1 r.1) x
    (fun i => if hd : 0 < (⟨1, ![n]⟩ : Shape).rank then iotaInDim ⟨1, ![n]⟩ 32 ⟨0, hd⟩ i else 0#32) (t.castLE hk)
  constructor
  · refine (hs _).trans (hq.1.trans ?_)
    exact congrArg (fun p => x (ix1 p)) hf
  · refine (hs _).trans (hq.2.trans ?_)
    refine (congrArg (fun p => if hd : 0 < (⟨1, ![n]⟩ : Shape).rank then iotaInDim ⟨1, ![n]⟩ 32 ⟨0, hd⟩ (ix1 p) else 0#32) hf).trans ?_
    rw [dif_pos (show 0 < (⟨1, ![n]⟩ : Shape).rank from Nat.one_pos)]
    rfl

end Cert.TopK

end
-- ==== Proof.FlatReads.lean ====
/-
Readings of the reference's operations at an entry, for any arrays.
-/
module

public import proofs.«01_k».proof.Proof.Gen.ReferenceIdeal
public import proofs.«01_k».proof.Proof.Scores
public import proofs.«01_k».proof.Proof.TopK

@[expose] public section

set_option maxRecDepth 16384
set_option maxHeartbeats 4000000

noncomputable section

namespace Cert.ReferenceIdeal.Read

open Cert.ReferenceIdeal Cert.ReferenceIdeal.Gen Cert.Spec Cert.Order
open Idealize.ShloMosaic Idealize.ShloMosaic.TcCoe Idealize.ShloMosaic.Pointwise

/-- A flat array read at a position is the matrix read at the position's row and column. -/
theorem flat_apply {α : Type} (A : S512x512.Idx → α) (x : Fin 262144) :
    shapeCast S262144 A shapeCasts_S512x512_S262144 (ix1 x) = A (ix2 (row x) (col x)) := by
  pointwise []
  rfl

/-- A flat product of matrices. -/
theorem score_read (G P : FVec Ideal S512x512 .f32) (x : Fin 262144) :
    (shapeCast S262144 (mulf G P) shapeCasts_S512x512_S262144 : FVec Ideal S262144 .f32) (ix1 x) = G (ix2 (row x) (col x)) * P (ix2 (row x) (col x)) := by
  rw [flat_apply]; rfl

/-- The greatest product over the first target of the greatest product over the second. -/
def pairTop (A : FVec Ideal S64x512 .f32) (R : FVec Ideal S64x64 .f32) : FVec Ideal S512x512 .f32 :=
  Host.reduce FloatOps.maximumf (mulf (broadcastInDim S64x512x512 ![0, 1, 2] bcast_S64x512x1_S64x512x512_0_1_2 (broadcastInDim S64x512x1 ![0, 1] bcast_S64x512_S64x512x1_0_1 A)) (broadcastInDim S64x512x512 ![0, 1, 2] bcast_S64x1x512_S64x512x512_0_1_2 (broadcastInDim S64x1x512 ![0, 2] bcast_S64x512_S64x1x512_0_2 (Host.reduce FloatOps.maximumf (mulf (broadcastInDim S64x64x512 ![0, 1, 2] bcast_S64x64x1_S64x64x512_0_1_2 (broadcastInDim S64x64x1 ![0, 1] bcast_S64x64_S64x64x1_0_1 R)) (broadcastInDim S64x64x512 ![0, 1, 2] bcast_S1x64x512_S64x64x512_0_1_2 (broadcastInDim S1x64x512 ![1, 2] bcast_S64x512_S1x64x512_1_2 A))) (constant S_ .f32 0xFF800000#32) reducesTo_S64x64x512_S64x512_d1 h_S_)))) (constant S_ .f32 0xFF800000#32) reducesTo_S64x512x512_S512x512_d0 h_S_

theorem pairTop_apply (A : FVec Ideal S64x512 .f32) (R : FVec Ideal S64x64 .f32) (i j : Fin 512) :
    pairTop A R (ix2 i j) = top fun h => A (ix2 h i) * top fun t => R (ix2 h t) * A (ix2 t j) := by
  unfold pairTop top
  pointwise []

/-- The foreground indicator. -/
theorem fg_read (A E : FVec Ideal S512x512 .f32) (i j : Fin 512) :
    mulf (uitofp .f32 (cmpf .ogt A (broadcastInDim S512x512 ![] bcast_S_S512x512 (constant S_ .f32 0x00000000#32)))) (subf (broadcastInDim S512x512 ![] bcast_S_S512x512 (constant S_ .f32 0x3F800000#32)) E) (ix2 i j)
      = FloatOps.uitofp (F := Ideal) FTy.f32 (BitVec.ofBool (decide (0 < A (ix2 i j)))) * (1 - E (ix2 i j)) := by
  pointwise []

theorem word_eq (i j : Fin 512) : BitVec.ofNat 32 i.val = BitVec.ofNat 32 j.val ↔ i = j := by
  refine ⟨fun h => ?_, fun h => by rw [h]⟩
  have h' := congrArg BitVec.toNat h
  rw [BitVec.toNat_ofNat, BitVec.toNat_ofNat, Nat.mod_eq_of_lt (by omega), Nat.mod_eq_of_lt (by omega)] at h'
  exact Fin.ext h'

/-- The diagonal. -/
theorem eye_read (i j : Fin 512) : (uitofp .f32 (cmpi .eq (addi (iotaInDim S512x512 32 0) (broadcastInDim S512x512 ![] bcast_S_S512x512 (constantI S_ 32 0#32))) (iotaInDim S512x512 32 1)) : FVec Ideal S512x512 .f32) (ix2 i j) =
    if i = j then (1 : EReal) else 0 := by
  pointwise []
  have e : IntOp.cmpi .eq (IntOp.addi (BitVec.ofNat 32 i.val) 0#32) (BitVec.ofNat 32 j.val) = BitVec.ofBool (decide (i = j)) := by
    show BitVec.ofBool (BitVec.ofNat 32 i.val + 0#32 == BitVec.ofNat 32 j.val) = _
    congr 1
    rw [BitVec.add_zero, Bool.eq_iff_iff, beq_iff_eq, decide_eq_true_iff]
    exact word_eq i j
  rw [e, uitofp_bool]

theorem one_sub_one : (1 : EReal) - 1 = 0 := EReal.sub_self (EReal.coe_ne_top 1) (EReal.coe_ne_bot 1)

/-- An indicator off the diagonal. -/
theorem indicator (P Q : Prop) [Decidable P] [Decidable Q] [Decidable (P ∧ ¬ Q)] : (if P then (1 : EReal) else 0) * (1 - if Q then (1 : EReal) else 0) = if P ∧ ¬ Q then 1 else 0 := by
  by_cases p : P <;> by_cases q : Q <;> simp [p, q, one_sub_one]

end Cert.ReferenceIdeal.Read

end
-- ==== Proof.ScoresReference.lean ====
/-
The reference's scores and labels are the problem's.
-/
module

public import proofs.«01_k».proof.Proof.Gen.ReferenceIdeal.Run
public import proofs.«01_k».proof.Proof.FlatReads

@[expose] public section

set_option maxRecDepth 16384
set_option maxHeartbeats 4000000

noncomputable section

namespace Cert.ReferenceIdeal.Read

open Cert.ReferenceIdeal Cert.ReferenceIdeal.Gen Cert.ReferenceIdeal.Value Cert.Spec Cert.Order
open Idealize.ShloMosaic Idealize.ShloMosaic.TcCoe Idealize.ShloMosaic.Pointwise

variable (W : Valuation τ sig (Elt Ideal))

/-- The problem's inputs as the arguments hold them. -/
def dataR : Data where
  tb t k := (W (Proc.devRef .tc main_arg2) : FVec Ideal S64x4 .f32) (ix2 t k)
  pb p k := (W (Proc.devRef .tc main_arg0) : FVec Ideal S512x4 .f32) (ix2 p k)
  tl t := (W (Proc.devRef .tc main_arg3) : IVec S64 32) (ix1 t)
  pl p := (W (Proc.devRef .tc main_arg1) : IVec S512 32) (ix1 p)
  rl h t := (W (Proc.devRef .tc main_arg4) : IVec S64x64 32) (ix2 h t)

/-- The reference's overlap ratios, match matrix, relation indicator, labels, foreground indicator and scores. -/
abbrev rIou : FVec Ideal S64x512 .f32 := res_main_v51 W
abbrev rM : FVec Ideal S64x512 .f32 := res_main_v60 W
abbrev rRp : FVec Ideal S64x64 .f32 := res_main_v63 W
abbrev rEye : FVec Ideal S512x512 .f32 := res_main_v69 W
abbrev rLab : FVec Ideal S512x512 .f32 := res_main_v93 W
abbrev rFg : FVec Ideal S512x512 .f32 := res_main_v99 W
abbrev rScore : FVec Ideal S262144 .f32 := res_main_v113 W

/-- The bit pattern of zero. -/
theorem zero_eq : (id (constant S_ .f32 0x00000000#32) : FVec Ideal S_ .f32) ix0 = (0 : EReal) := by
  show Ideal.ofBits .f32 0x00000000#32 = 0
  simp [Ideal.ofBits, Ideal.ieee]

theorem iou_apply (t : Fin 64) (p : Fin 512) : rIou W (ix2 t p) = (dataR W).iou t p := by
  unfold rIou res_main_v51 res_main_v42 res_main_v37
  pointwise []
  simp only [zero_eq]
  rfl

theorem m_apply (t : Fin 64) (p : Fin 512) : rM W (ix2 t p) = (dataR W).m t p := by
  have h : rM W (ix2 t p) = FloatOps.uitofp (F := Ideal) FTy.f32 (IntOp.andi (IntOp.cmpi .eq ((dataR W).tl t) ((dataR W).pl p))
      (BitVec.ofBool (decide (Ideal.ofBits FTy.f32 1056964608#32 < rIou W (ix2 t p))))) := by
    unfold rM res_main_v60 rIou
    generalize res_main_v51 W = A
    pointwise []
    rfl
  rw [h, iou_apply, andi_eq, uitofp_bool]; unfold Data.m Data.M; congr 1

theorem rp_apply (h t : Fin 64) : rRp W (ix2 h t) = (dataR W).rp h t := by
  unfold rRp res_main_v63
  pointwise []
  rw [sgt_zero, uitofp_bool]; unfold Data.rp Data.R; congr 1

theorem rLab_eq : rLab W = pairTop (rM W) (sitofp .f32 (W (Proc.devRef .tc main_arg4) : IVec S64x64 32)) := rfl

/-- The reference's labels of the pairs. -/
theorem label_apply (i j : Fin 512) : rLab W (ix2 i j) = (dataR W).label i j := by
  rw [rLab_eq, pairTop_apply]
  unfold Data.label Data.innerLab
  refine congrArg top (funext fun h => ?_)
  rw [m_apply]
  refine congrArg (fun z => (dataR W).m h i * z) (congrArg top (funext fun t => ?_))
  rw [m_apply]
  rfl

/-- The reference's diagonal. -/
theorem eye_apply (i j : Fin 512) : rEye W (ix2 i j) = if i = j then (1 : EReal) else 0 := eye_read i j

open Classical in
/-- The reference's foreground pairs, as numbers. -/
theorem fg_apply (i j : Fin 512) : rFg W (ix2 i j) = if (dataR W).Fg i j then (1 : EReal) else 0 := by
  have h : rFg W (ix2 i j) = _ := fg_read (rLab W) (rEye W) i j
  rw [h, label_apply, eye_apply, uitofp_bool, indicator]
  refine if_congr ?_ rfl rfl
  rw [(dataR W).label_pos]; rfl

theorem rScore_eq : rScore W = shapeCast S262144 (mulf (rFg W) (pairTop (rIou W) (rRp W))) shapeCasts_S512x512_S262144 := rfl

/-- The reference's scores. -/
theorem score_apply (x : Fin 262144) : rScore W (ix1 x) = (dataR W).score (row x) (col x) := by
  have e : pairTop (rIou W) (rRp W) (ix2 (row x) (col x)) = (dataR W).iouPair (row x) (col x) := by
    rw [pairTop_apply]
    unfold Data.iouPair Data.innerIou
    refine congrArg top (funext fun h => ?_)
    rw [iou_apply]
    refine congrArg (fun z => (dataR W).iou h (row x) * z) (congrArg top (funext fun t => ?_))
    rw [rp_apply, iou_apply]
  refine (congrFun (rScore_eq W) (ix1 x)).trans ((score_read (rFg W) (pairTop (rIou W) (rRp W)) x).trans ?_)
  rw [e, fg_apply]
  unfold Data.score
  split
  · rw [one_mul]
  · rw [zero_mul]

end Cert.ReferenceIdeal.Read

end
-- ==== Proof.ResultsReference.lean ====
/-
The reference's results: the relation matrix, and the foreground indices, their scores and their labels.
-/
module

public import proofs.«01_k».proof.Proof.ScoresReference
public import proofs.«01_k».proof.Proof.Words
public import Idealize.ShloMosaic.Lib.Routing.OpsSet

@[expose] public section

set_option maxRecDepth 16384
set_option maxHeartbeats 4000000

noncomputable section

namespace Cert.ReferenceIdeal.Read

open Cert.ReferenceIdeal Cert.ReferenceIdeal.Gen Cert.ReferenceIdeal.Value Cert.Spec Cert.Order
open Idealize.ShloMosaic Idealize.ShloMosaic.TcCoe Idealize.ShloMosaic.Pointwise

/-- An index that is not negative is left as it is. -/
theorem kept (n : Fin 262144) : (if IntOp.cmpi .slt (BitVec.ofNat 32 n.val) 0#32 = 1#1 then IntOp.addi (BitVec.ofNat 32 n.val) 262144#32 else BitVec.ofNat 32 n.val) = BitVec.ofNat 32 n.val := by
  have e : IntOp.cmpi .slt (BitVec.ofNat 32 n.val) (BitVec.ofNat 32 0) = BitVec.ofBool (decide (n.val < 0)) :=
    Cert.Words.slt_nat (by omega) (by norm_num)
  rw [show (0#32 : BitVec 32) = BitVec.ofNat 32 0 from rfl, e, if_neg]
  simp

/-- The indices of a gather, as a column. -/
theorem column_read (I : IVec S256 32) (t : Fin 256) (n : Fin 262144) (hI : I (ix1 t) = BitVec.ofNat 32 n.val) :
    (broadcastInDim S256x1 ![0] bcast_S256_S256x1_0 (select (cmpi .slt I (broadcastInDim S256 ![] bcast_S_S256 (constantI S_ 32 0#32))) (addi I (broadcastInDim S256 ![] bcast_S_S256 (constantI S_ 32 262144#32))) I) : IVec S256x1 32) (ix2 t 0)
      = BitVec.ofNat 32 n.val := by
  pointwise []
  rw [hI]
  exact kept n

/-- A gather from a flat array reads the matrix at the index's row and column. -/
theorem gather_read (L : FVec Ideal S512x512 .f32) (I : IVec S256 32) (t : Fin 256) (n : Fin 262144) (hI : I (ix1 t) = BitVec.ofNat 32 n.val) :
    Host.gather gather_S262144_S256x1_S256_n_0_n_n_0_1_1 (shapeCast S262144 L shapeCasts_S512x512_S262144) (broadcastInDim S256x1 ![0] bcast_S256_S256x1_0 (select (cmpi .slt I (broadcastInDim S256 ![] bcast_S_S256 (constantI S_ 32 0#32))) (addi I (broadcastInDim S256 ![] bcast_S_S256 (constantI S_ 32 262144#32))) I) : IVec S256x1 32) (ix1 t)
      = L (ix2 (row n) (col n)) :=
  (Routing.gather_take1 gather_S262144_S256x1_S256_n_0_n_n_0_1_1 rfl rfl rfl rfl _ _ t n (column_read I t n hI) (by norm_num)).trans (flat_apply L n)

/-- The quality of a pair: its score where it is positive. -/
theorem quality_read (V : FVec Ideal S256 .f32) (t : Fin 256) (h : 0 ≤ V (ix1 t)) :
    mulf V (uitofp .f32 (cmpf .ogt V (broadcastInDim S256 ![] bcast_S_S256 (constant S_ .f32 0x00000000#32)))) (ix1 t) = V (ix1 t) := by
  have e : mulf V (uitofp .f32 (cmpf .ogt V (broadcastInDim S256 ![] bcast_S_S256 (constant S_ .f32 0x00000000#32)))) (ix1 t)
      = V (ix1 t) * FloatOps.uitofp (F := Ideal) FTy.f32 (BitVec.ofBool (decide (0 < V (ix1 t)))) := by
    pointwise []
  rw [e, uitofp_bool]
  by_cases hp : 0 < V (ix1 t)
  · rw [if_pos hp, mul_one]
  · rw [if_neg hp, mul_zero]; exact le_antisymm h (not_lt.mp hp)

theorem fptosi_zero : FloatOps.fptosi (F := Ideal) (φ := FTy.f32) 32 (0 : EReal) = 0#32 := by
  have := Cert.Words.fptosi_nat (n := 0) (by norm_num)
  simpa using this

/-- The label of a pair, cut to zero where the score is not positive. -/
theorem cut_read (V G : FVec Ideal S256 .f32) (t : Fin 256) :
    muli (fptosi 32 G) (extui 32 (cmpf .ogt V (broadcastInDim S256 ![] bcast_S_S256 (constant S_ .f32 0x00000000#32))) natLt_1_32) (ix1 t)
      = FloatOps.fptosi (F := Ideal) (φ := FTy.f32) 32 (if 0 < V (ix1 t) then G (ix1 t) else 0) := by
  have e : muli (fptosi 32 G) (extui 32 (cmpf .ogt V (broadcastInDim S256 ![] bcast_S_S256 (constant S_ .f32 0x00000000#32))) natLt_1_32) (ix1 t)
      = FloatOps.fptosi (F := Ideal) (φ := FTy.f32) 32 (G (ix1 t)) * BitVec.setWidth 32 (BitVec.ofBool (decide (0 < V (ix1 t)))) := by
    pointwise []
    rfl
  rw [e, widen]
  by_cases hp : 0 < V (ix1 t)
  · rw [if_pos hp, if_pos hp, BitVec.mul_one]
  · rw [if_neg hp, if_neg hp, BitVec.mul_zero, fptosi_zero]

/-- The sum of a matrix and its transpose, compared with zero. -/
theorem symmetric_read (A : FVec Ideal S64x512 .f32) (B : FVec Ideal S64x64 .f32) (i j : Fin 512) :
    (fun Q : FVec Ideal S512x512 .f32 => extui 32 (cmpf .ogt (addf Q (transpose S512x512 [1, 0] Q transposes_S512x512_S512x512_1_0)) (broadcastInDim S512x512 ![] bcast_S_S512x512 (constant S_ .f32 0x00000000#32))) natLt_1_32)
        (Host.dotGeneral dot_S512x64_S64x512_S512x512_1_0_0_1_n_n none (Host.dotGeneral dot_S512x64_S64x64_S512x64_1_0_0_1_n_n none (transpose S512x64 [1, 0] A transposes_S64x512_S512x64_1_0) B) A) (ix2 i j)
      = BitVec.setWidth 32 (BitVec.ofBool (decide ((0 : EReal) <
        (∑ t, (∑ h, A (ix2 h i) * B (ix2 h t)) * A (ix2 t j) : EReal) + ∑ t, (∑ h, A (ix2 h j) * B (ix2 h t)) * A (ix2 t i)))) := by
  beta_reduce
  pointwise []

variable (W : Valuation τ sig (Elt Ideal))

/-- The reference's relation matrix, as an array. -/
abbrev rBin : IVec S512x512 32 :=
  extui 32 (cmpf .ogt (addf (res_main_v147 W) (transpose S512x512 [1, 0] (res_main_v147 W) transposes_S512x512_S512x512_1_0)) (broadcastInDim S512x512 ![] bcast_S_S512x512 (constant S_ .f32 0x00000000#32))) natLt_1_32

/-- The reference's relation matrix. -/
theorem bin_apply (i j : Fin 512) : rBin W (ix2 i j) = (dataR W).bin i j := by
  have h : rBin W (ix2 i j) = _ := symmetric_read (rM W) (rRp W) i j
  rw [h]
  simp only [m_apply, rp_apply]
  rw [widen]
  classical
  unfold Data.bin
  exact if_congr ((add_pos_iff ((dataR W).left_nonneg i j) ((dataR W).left_nonneg j i)).trans
    (or_congr ((dataR W).pos_left i j) ((dataR W).pos_left j i))) rfl rfl

/-- The reference's selected scores and their indices. -/
abbrev rVal : FVec Ideal S256 .f32 := res_main_values W
abbrev rInd : IVec S256 32 := res_main_indices W

/-- The reference's labels and qualities of the selected pairs. -/
abbrev rLabels : IVec S256 32 :=
  muli (fptosi 32 (Host.gather gather_S262144_S256x1_S256_n_0_n_n_0_1_1 (shapeCast S262144 (res_main_v93 W) shapeCasts_S512x512_S262144) (broadcastInDim S256x1 ![0] bcast_S256_S256x1_0 (select (cmpi .slt (res_main_indices W) (broadcastInDim S256 ![] bcast_S_S256 (constantI S_ 32 0#32))) (addi (res_main_indices W) (broadcastInDim S256 ![] bcast_S_S256 (constantI S_ 32 262144#32))) (res_main_indices W))))) (extui 32 (res_main_v117 W) natLt_1_32)
abbrev rQuality : FVec Ideal S256 .f32 := mulf (res_main_values W) (uitofp .f32 (res_main_v117 W))

/-- The reference's background indices. -/
abbrev rBack : IVec S768 32 := res_main_indices_20 W

/-- The reference's list of pairs, as an array. -/
abbrev rPairs : IVec S1024x2 32 :=
  concatenate S1024x2 1 [⟨S1024x1, (broadcastInDim S1024x1 ![0] bcast_S1024_S1024x1_0 (concatenate S1024 0 [⟨S256, (select (andi (cmpi .ne (signi (res_main_indices W)) (broadcastInDim S256 ![] bcast_S_S256 (signi (res_main_call1_v0 W)))) (cmpi .ne (Host.remsi (res_main_indices W) (broadcastInDim S256 ![] bcast_S_S256 (res_main_call1_v0 W))) (broadcastInDim S256 ![] bcast_S_S256 (constantI S_ 32 0#32)))) (subi (res_main_call1_v2 W) (broadcastInDim S256 ![] bcast_S_S256 (constantI S_ 32 1#32))) (res_main_call1_v2 W))⟩, ⟨S768, (select (andi (cmpi .ne (signi (res_main_indices_20 W)) (broadcastInDim S768 ![] bcast_S_S768 (signi (res_main_call4_v0 W)))) (cmpi .ne (Host.remsi (res_main_indices_20 W) (broadcastInDim S768 ![] bcast_S_S768 (res_main_call4_v0 W))) (broadcastInDim S768 ![] bcast_S_S768 (constantI S_ 32 0#32)))) (subi (res_main_call4_v2 W) (broadcastInDim S768 ![] bcast_S_S768 (constantI S_ 32 1#32))) (res_main_call4_v2 W))⟩] concatenates_S256_S768_S1024_d0))⟩, ⟨S1024x1, (broadcastInDim S1024x1 ![0] bcast_S1024_S1024x1_0 (concatenate S1024 0 [⟨S256, (select (andi (cmpi .ne (cmpi .slt (res_main_call2_v4 W) (broadcastInDim S256 ![] bcast_S_S256 (constantI S_ 32 0#32))) (broadcastInDim S256 ![] bcast_S_S256 (cmpi .slt (res_main_call2_v2 W) (constantI S_ 32 0#32)))) (cmpi .ne (res_main_call2_v4 W) (broadcastInDim S256 ![] bcast_S_S256 (constantI S_ 32 0#32)))) (addi (res_main_call2_v4 W) (broadcastInDim S256 ![] bcast_S_S256 (res_main_call2_v2 W))) (res_main_call2_v4 W))⟩, ⟨S768, (select (andi (cmpi .ne (cmpi .slt (res_main_call5_v4 W) (broadcastInDim S768 ![] bcast_S_S768 (constantI S_ 32 0#32))) (broadcastInDim S768 ![] bcast_S_S768 (cmpi .slt (res_main_call5_v2 W) (constantI S_ 32 0#32)))) (cmpi .ne (res_main_call5_v4 W) (broadcastInDim S768 ![] bcast_S_S768 (constantI S_ 32 0#32)))) (addi (res_main_call5_v4 W) (broadcastInDim S768 ![] bcast_S_S768 (res_main_call5_v2 W))) (res_main_call5_v4 W))⟩] concatenates_S256_S768_S1024_d0))⟩] concatenates_S1024x1_S1024x1_S1024x2_d1

variable (σ : Fin 256 → Fin 262144) (hinj : Function.Injective σ)
  (hord : ∀ i j, i < j → ¬ Better (fun x => (dataR W).score (row x) (col x)) (σ j) (σ i))
  (hdom : ∀ i x, (∀ j, σ j ≠ x) → ¬ Better (fun x => (dataR W).score (row x) (col x)) x (σ i))

include hinj hord hdom

/-- The reference selects the places that are first in the order by score. -/
theorem top_read (t : Fin 256) : rVal W (ix1 t) = (dataR W).score (row (σ t)) (col (σ t)) ∧ rInd W (ix1 t) = BitVec.ofNat 32 (σ t).val := by
  have e : (fun p => rScore W (ix1 p)) = fun x => (dataR W).score (row x) (col x) := funext fun x => score_apply W x
  have h := Cert.TopK.topK_apply (n := 262144) (k := 256) (by norm_num) (rScore W) sliceFits_S262144_S256 σ hinj (by rw [e]; exact hord) (by rw [e]; exact hdom) t
  exact ⟨h.1.trans (score_apply W _), h.2⟩

/-- The reference's qualities. -/
theorem quality_apply (t : Fin 256) : rQuality W (ix1 t) = (dataR W).score (row (σ t)) (col (σ t)) := by
  have hv := (top_read W σ hinj hord hdom t).1
  have h : rQuality W (ix1 t) = rVal W (ix1 t) := quality_read (rVal W) t (by
    rw [hv]; unfold Data.score; split
    · rename_i hf; exact ((dataR W).iouPair_pos hf.1).le
    · exact le_rfl)
  rw [h, hv]

/-- The reference's labels. -/
theorem labels_apply (t : Fin 256) : rLabels W (ix1 t) =
    FloatOps.fptosi (F := Ideal) (φ := FTy.f32) 32 (if 0 < (dataR W).score (row (σ t)) (col (σ t)) then (dataR W).label (row (σ t)) (col (σ t)) else 0) := by
  have hv := top_read W σ hinj hord hdom t
  have h : rLabels W (ix1 t) = _ := cut_read (rVal W) _ t
  rw [h, hv.1]
  have g := gather_read (rLab W) (rInd W) t (σ t) hv.2
  rw [g, label_apply]

end Cert.ReferenceIdeal.Read

end
-- ==== Proof.Relation.lean ====
/- The two programs' results agree. -/
module

public import proofs.«01_k».proof.Defs
public import proofs.«01_k».proof.Proof.ScoresKernel
public import proofs.«01_k».proof.Proof.KernelTail
public import proofs.«01_k».proof.Proof.ResultsReference

@[expose] public section

set_option maxRecDepth 16384
set_option maxHeartbeats 4000000

noncomputable section

namespace Cert.Proof

open Idealize.ShloMosaic Idealize.ShloMosaic.TcCoe Idealize.ShloMosaic.Pointwise Idealize.SL.Sem
open Cert.KernelIdeal.Body Cert.ReferenceIdeal.Read Cert.Spec

/-- A list read as a column. -/
theorem column_apply (v : IVec Cert.KernelIdeal.S64 32) (t : Fin 64) :
    shapeCast Cert.KernelIdeal.S64x1 v Cert.KernelIdeal.Gen.shapeCasts_S64_S64x1 (ix2 t 0) = v (ix1 t) := by
  pointwise []

/-- A transposed array. -/
theorem turned_apply (v : FVec Ideal Cert.KernelIdeal.S512x4 .f32) (k : Fin 4) (p : Fin 512) :
    transpose Cert.KernelIdeal.S4x512 [1, 0] v Cert.KernelIdeal.Gen.transposes_S512x4_S4x512_1_0 (ix2 k p) = v (ix2 p k) := by
  pointwise []

/-- A list read as a row. -/
theorem row_apply (v : IVec Cert.KernelIdeal.S512 32) (p : Fin 512) :
    shapeCast Cert.KernelIdeal.S1x512 v Cert.KernelIdeal.Gen.shapeCasts_S512_S1x512 (ix2 0 p) = v (ix1 p) := by
  pointwise []

/-- From memories with the same arguments the two programs have the same inputs of the problem. -/
theorem data_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) :
    dataX (insV m c) = dataR (StableHlo.launchContents m' c) := by
  have e : dataR (StableHlo.launchContents m' c) = Data.mk
      (fun t k => (m' ((c.tc : Thread Cert.ReferenceIdeal.nD Cert.ReferenceIdeal.τ).loc Cert.ReferenceIdeal.main_arg2) : FVec Ideal Cert.ReferenceIdeal.S64x4 .f32) (ix2 t k))
      (fun p k => (m' ((c.tc : Thread Cert.ReferenceIdeal.nD Cert.ReferenceIdeal.τ).loc Cert.ReferenceIdeal.main_arg0) : FVec Ideal Cert.ReferenceIdeal.S512x4 .f32) (ix2 p k))
      (fun t => (m' ((c.tc : Thread Cert.ReferenceIdeal.nD Cert.ReferenceIdeal.τ).loc Cert.ReferenceIdeal.main_arg3) : IVec Cert.ReferenceIdeal.S64 32) (ix1 t))
      (fun p => (m' ((c.tc : Thread Cert.ReferenceIdeal.nD Cert.ReferenceIdeal.τ).loc Cert.ReferenceIdeal.main_arg1) : IVec Cert.ReferenceIdeal.S512 32) (ix1 p))
      (fun h t => (m' ((c.tc : Thread Cert.ReferenceIdeal.nD Cert.ReferenceIdeal.τ).loc Cert.ReferenceIdeal.main_arg4) : IVec Cert.ReferenceIdeal.S64x64 32) (ix2 h t)) := rfl
  rw [e]
  unfold dataX
  rw [insV_x0, insV_x1, insV_x2, insV_x3, insV_x5, h0, h1, h2, h3, h4]
  congr 1
  · funext p k; exact turned_apply _ k p
  · funext t; exact column_apply _ t
  · funext p; exact row_apply _ p

/-- Two square matrices of words with the same entries are equal. -/
theorem matrix_ext (A B : IVec Cert.KernelIdeal.S512x512 32) (h : ∀ i j : Fin 512, A (ix2 i j) = B (ix2 i j)) : A = B :=
  funext fun x => by rw [eq_ix2 x]; exact h _ _

/-- Two lists of 256 with the same entries are equal. -/
theorem list_ext {α : Type} (A B : Cert.KernelIdeal.S256.Idx → α) (h : ∀ t : Fin 256, A (ix1 t) = B (ix1 t)) : A = B :=
  funext fun x => by rw [eq_ix1 x]; exact h _

/-- A row of 256 read as a list. -/
theorem flatten_apply {α : Type} (A : Cert.KernelIdeal.S1x256.Idx → α) (t : Fin 256) :
    shapeCast Cert.KernelIdeal.S256 A Cert.KernelIdeal.Gen.shapeCasts_S1x256_S256 (ix1 t) = A (ix2 0 t) := by
  pointwise []

variable (X : Ins) (W : Valuation Cert.ReferenceIdeal.τ Cert.ReferenceIdeal.sig (Elt Ideal)) (hd : dataX X = dataR W)

include hd

/-- The relation matrices agree. -/
theorem bin_agree : rBin W = o11 X :=
  matrix_ext _ _ fun i j => (bin_apply W i j).trans (by rw [o11_apply, hd])

/-- The foreground indices, qualities and labels agree. -/
theorem fore_agree : rInd W = shapeCast Cert.KernelIdeal.S256 (o7 X) Cert.KernelIdeal.Gen.shapeCasts_S1x256_S256
    ∧ rQuality W = shapeCast Cert.KernelIdeal.S256 (o8 X) Cert.KernelIdeal.Gen.shapeCasts_S1x256_S256
    ∧ rLabels W = shapeCast Cert.KernelIdeal.S256 (o9 X) Cert.KernelIdeal.Gen.shapeCasts_S1x256_S256 := by
  obtain ⟨σ, hinj, hord, hdom, ho⟩ := picked X
  rw [hd] at hord hdom ho
  refine ⟨list_ext _ _ fun t => ?_, list_ext _ _ fun t => ?_, list_ext _ _ fun t => ?_⟩
  · exact ((top_read W σ hinj hord hdom t).2.trans (ho t).1.symm).trans (flatten_apply _ t).symm
  · exact ((quality_apply W σ hinj hord hdom t).trans (ho t).2.1.symm).trans (flatten_apply _ t).symm
  · exact ((labels_apply W σ hinj hord hdom t).trans (ho t).2.2.symm).trans (flatten_apply _ t).symm

omit hd in
/-- The reference's list of pairs is made of its indices as the kernel's is. -/
theorem pairs_agree (x : IVec Cert.KernelIdeal.S256 32) (y : IVec Cert.KernelIdeal.S768 32) (hx : rInd W = x) (hy : rBack W = y) : rPairs W = pairList x y := by
  subst hx hy; rfl

end Cert.Proof

end
-- ==== Proof.Ranks.lean ====
/-
The rank of each pair by its noise, as the host computes it before the launch: a stable sort of the negated noise, and a
scatter of the positions to the sorted indices.
-/
module

public import proofs.«01_k».proof.Proof.KernelRun
public import proofs.«01_k».proof.Proof.TopK
public import proofs.«01_k».proof.Proof.Words
public import Idealize.ShloMosaic.Lib.Routing.OpsSet

@[expose] public section

set_option maxRecDepth 16384
set_option maxHeartbeats 4000000

noncomputable section

namespace Cert.KernelIdeal.Body

open Cert.KernelIdeal.Gen Cert.Order
open Idealize.ShloMosaic Idealize.ShloMosaic.TcCoe Idealize.ShloMosaic.Pointwise Idealize.SL.Sem

/-- The positions sorted by falling noise. -/
def sorted (a : FVec Ideal S262144 .f32) : IVec S262144 32 :=
  (Host.sort2 S262144 0 comparator_f32_i32_d0 (Host.negf a) (iotaInDim S262144 32 0)).2

/-- The list of ranks from the sorted positions. -/
def ranked (s : IVec S262144 32) : IVec S262144 32 :=
  Host.scatter scatter_S262144_S262144x1_S262144_n_0_0_1 (fun _ b => b) (broadcastInDim S262144 ![] bcast_S_S262144 (constantI S_ 32 0#32))
    (broadcastInDim S262144x1 ![0] bcast_S262144_S262144x1_0 (select (cmpi .slt s (broadcastInDim S262144 ![] bcast_S_S262144 (constantI S_ 32 0#32))) (addi s (broadcastInDim S262144 ![] bcast_S_S262144 (constantI S_ 32 262144#32))) s))
    (iotaInDim S262144 32 0)

/-- The comparison of the sort: the greater noise first. -/
theorem comparator_eq (a b : EReal) (i j : BitVec 32) :
    (comparator_f32_i32_d0 (F := Ideal) (-a, i) (-b, j) == 1#1) = decide (b < a) := by
  have h0 : ∀ x : EReal, Scalar.select (FloatOps.cmpf (F := Ideal) (φ := FTy.f32) .une x x) (FloatOps.ofBits (F := Ideal) .f32 0x7FC00000#32)
      (Scalar.select (FloatOps.cmpf (F := Ideal) (φ := FTy.f32) .oeq x (FloatOps.ofBits (F := Ideal) .f32 0x00000000#32)) (FloatOps.ofBits (F := Ideal) .f32 0x00000000#32) x) = x := by
    intro x
    have z : (FloatOps.ofBits (F := Ideal) .f32 0x00000000#32) = (0 : EReal) := by
      show Ideal.ofBits .f32 0x00000000#32 = 0
      simp [Ideal.ofBits, Ideal.ieee]
    have e1 : FloatOps.cmpf (F := Ideal) (φ := FTy.f32) .une x x = 0#1 := by
      show BitVec.ofBool (decide (x ≠ x)) = 0#1
      simp
    have e2 : FloatOps.cmpf (F := Ideal) (φ := FTy.f32) .oeq x 0 = BitVec.ofBool (decide (x = 0)) := rfl
    rw [z, e1, e2]
    by_cases h : x = 0
    · subst h; simp [Scalar.select]
    · simp [Scalar.select, h]
  unfold comparator_f32_i32_d0
  simp only [h0]
  show (BitVec.ofBool (decide (-a < -b)) == 1#1) = _
  by_cases h : b < a
  · simp [h]
  · simp [h]

/-- A rank by noise. -/
abbrev noiseRank (a : FVec Ideal S262144 .f32) (x : Fin 262144) : ℕ := rank Finset.univ (Better fun x => a (ix1 x)) x

/-- The sorted position at a place has the place as its rank. -/
theorem sorted_apply (a : FVec Ideal S262144 .f32) : ∃ σ : Fin 262144 → Fin 262144,
    (∀ k, noiseRank a (σ k) = k.val) ∧ ∀ k, sorted a (ix1 k) = BitVec.ofNat 32 (σ k).val := by
  have hB := strict_better (fun x : Fin 262144 => a (ix1 x))
  have hex : ∀ k : Fin 262144, ∃ x, noiseRank a x = k.val := fun k => by
    obtain ⟨s, _, h⟩ := exists_rank (T := Finset.univ) hB (k := k.val) (by rw [Finset.card_univ, Fintype.card_fin]; exact k.isLt)
    exact ⟨s, h⟩
  choose σ hσ using hex
  refine ⟨σ, hσ, fun k => ?_⟩
  have hinj : Function.Injective σ := fun i j h => Fin.ext (by rw [← hσ i, ← hσ j, h])
  have hsur : Function.Surjective σ := Finite.surjective_of_injective hinj
  have hf := Cert.TopK.first (le_refl 262144) (fun x => a (ix1 x))
    (fun k k' => comparator_f32_i32_d0 (F := Ideal) ((Host.negf a : FVec Ideal S262144 .f32) (ix1 k), iotaInDim S262144 32 0 (ix1 k)) ((Host.negf a : FVec Ideal S262144 .f32) (ix1 k'), iotaInDim S262144 32 0 (ix1 k')) == 1#1)
    (fun x y => comparator_eq (a (ix1 x)) (a (ix1 y)) _ _) σ hinj
    (fun i j hij h => by
      have := rank_lt_rank (T := Finset.univ) hB (Finset.mem_univ (σ j)) h
      have h1 := hσ i; have h2 := hσ j
      unfold noiseRank at h1 h2
      rw [h1, h2] at this; exact absurd hij (not_lt.mpr (le_of_lt this)))
    (fun i x hx => absurd (hsur x) (by push Not; exact hx)) k
  refine (Cert.TopK.sort2_ix1 (comparator_f32_i32_d0 (F := Ideal)) (Host.negf a : FVec Ideal S262144 .f32) (iotaInDim S262144 32 0) k).2.trans ?_
  refine (congrArg (fun x : Fin 262144 => iotaInDim S262144 32 0 (ix1 x)) hf).trans ?_
  rfl

/-- An index that is not negative is left as it is. -/
theorem index_kept (n : Fin 262144) : (if IntOp.cmpi .slt (BitVec.ofNat 32 n.val) 0#32 = 1#1 then IntOp.addi (BitVec.ofNat 32 n.val) 262144#32 else BitVec.ofNat 32 n.val) = BitVec.ofNat 32 n.val := by
  have e : IntOp.cmpi .slt (BitVec.ofNat 32 n.val) (BitVec.ofNat 32 0) = BitVec.ofBool (decide (n.val < 0)) :=
    Cert.Words.slt_nat (by omega) (by norm_num)
  rw [show (0#32 : BitVec 32) = BitVec.ofNat 32 0 from rfl, e, if_neg]
  simp

theorem index_column (s : IVec S262144 32) (t : Fin 262144) (n : Fin 262144) (h : s (ix1 t) = BitVec.ofNat 32 n.val) :
    (broadcastInDim S262144x1 ![0] bcast_S262144_S262144x1_0 (select (cmpi .slt s (broadcastInDim S262144 ![] bcast_S_S262144 (constantI S_ 32 0#32))) (addi s (broadcastInDim S262144 ![] bcast_S_S262144 (constantI S_ 32 262144#32))) s) : IVec S262144x1 32) (ix2 t 0)
      = BitVec.ofNat 32 n.val := by
  pointwise []
  rw [h]
  exact index_kept n

/-- The list of ranks holds at each position its rank by noise. -/
theorem ranked_apply (a : FVec Ideal S262144 .f32) (x : Fin 262144) : ranked (sorted a) (ix1 x) = BitVec.ofNat 32 (noiseRank a x) := by
  obtain ⟨σ, hσ, hs⟩ := sorted_apply a
  have hB := strict_better (fun x : Fin 262144 => a (ix1 x))
  generalize sorted a = s at hs
  have hl : noiseRank a x < 262144 := by
    have := rank_lt_card (T := Finset.univ) hB (Finset.mem_univ x)
    rw [Finset.card_univ, Fintype.card_fin] at this; exact this
  obtain ⟨n, hn⟩ : ∃ n, noiseRank a x = n := ⟨_, rfl⟩
  rw [hn] at hl ⊢
  have hx : σ ⟨n, hl⟩ = x := rank_inj hB (Finset.mem_univ _) (Finset.mem_univ _) ((hσ ⟨n, hl⟩).trans hn.symm)
  refine (Routing.scatter_set scatter_S262144_S262144x1_S262144_n_0_0_1 rfl rfl rfl _ _ (iotaInDim S262144 32 0)
    (fun k => if h : k < 262144 then (σ ⟨k, h⟩).val else 0)
    (fun i => (index_column s i (σ i) (hs i)).trans (by rw [dif_pos i.isLt])) (fun i => by rw [dif_pos i.isLt]; omega) x
    (BitVec.ofNat 32 n) (fun i hi => ?_)).1 ⟨⟨n, hl⟩, ?_⟩
  · rw [dif_pos i.isLt] at hi
    have hi' : n = i.val := by rw [← hn, show x = σ i from Fin.ext hi.symm, hσ]
    rw [hi']
    rfl
  · rw [dif_pos hl, hx]

/-- A flat list of words as a matrix. -/
theorem square_apply (A : IVec S262144 32) (i j : Fin 512) :
    shapeCast S512x512 A shapeCasts_S262144_S512x512 (ix2 i j) = A (ix1 (flat i j)) := by
  pointwise []
  refine congrArg A ?_
  refine congrArg ix1 (Fin.ext ?_)
  show _ = 512 * i.val + j.val
  simp [mul_comm]

variable (m : (ℓ : Loc nD τ sig) → Buf (Elt Ideal) ℓ)

section

variable (W : Valuation τ sig (Elt Ideal))

/-- The negated noise. -/
theorem head_v4 : StableHlo.after hostOps0 W (Proc.devRef .tc main_v4) = Host.negf (F := Ideal) (φ := FTy.f32) (W (Proc.devRef .tc main_arg5)) := by
  simp only [hostOps0, List.flatten_cons, List.flatten_nil, List.append_nil, List.cons_append, List.nil_append, StableHlo.TRef.nullary, StableHlo.TRef.binary, StableHlo.TRef.unary, StableHlo.TRef.toBuf, StableHlo.TRef.ofBuf, cast_eq]
  after_results_simp
  try rfl

/-- The sorted positions. -/
theorem head_v5 : StableHlo.after hostOps0_1 W (Proc.devRef .tc main_v5) = (Host.sort2 S262144 0 (comparator_f32_i32_d0 (F := Ideal)) (W (Proc.devRef .tc main_v4)) (iotaInDim S262144 32 0)).2 := by
  simp only [hostOps0_1, List.flatten_cons, List.flatten_nil, List.append_nil, List.cons_append, List.nil_append, StableHlo.TRef.nullary, StableHlo.TRef.binary, StableHlo.TRef.unary, StableHlo.TRef.toBuf, StableHlo.TRef.ofBuf, cast_eq]
  after_results_simp
  try rfl

/-- The rank matrix. -/
theorem head_v15 : StableHlo.after hostOps0_2 W (Proc.devRef .tc main_v15) = shapeCast S512x512 (ranked (W (Proc.devRef .tc main_v5))) shapeCasts_S262144_S512x512 := by
  simp only [hostOps0_2, List.flatten_cons, List.flatten_nil, List.append_nil, List.cons_append, List.nil_append, StableHlo.TRef.nullary, StableHlo.TRef.binary, StableHlo.TRef.unary, StableHlo.TRef.toBuf, StableHlo.TRef.ofBuf, cast_eq]
  after_results_simp
  try rfl

/-- The three stretches of host operations before the launch, one after the other. -/
theorem head_all : StableHlo.after (List.flatten [hostOps0, hostOps0_1, hostOps0_2]) W (Proc.devRef .tc main_v15)
    = shapeCast S512x512 (ranked (sorted (W (Proc.devRef .tc main_arg5)))) shapeCasts_S262144_S512x512 := by
  rw [List.flatten_cons, List.flatten_cons, List.flatten_cons, List.flatten_nil, List.append_nil, StableHlo.after_append, StableHlo.after_append, head_v15, head_v5, head_v4]
  rfl

end

/-- The launch's seventh input, as the host operations leave it. -/
theorem seventh (a0 : Vec Ideal S64x4 .f32) (a1 : Vec Ideal S4x512 .f32) (a2 : Vec Ideal S64x1 .i32) (a3 : Vec Ideal S1x512 .i32) (a4 : Vec Ideal S512x1 .i32)
    (a5 : Vec Ideal S64x64 .i32) (a6 : Vec Ideal S512x512 .i32) : (Ins.mk a0 a1 a2 a3 a4 a5 a6).x6 = a6 := rfl

theorem insV_x6_def (c : Dev nD) : (insV m c).x6 = (V m c main_v15 : Vec Ideal S512x512 .i32) :=
  seventh (V m c main_arg2) (V m c main_v0) (V m c main_v1) (V m c main_v2) (V m c main_v3) (V m c main_arg4) (V m c main_v15)

theorem V_main_v15 (c : Dev nD) : V m c main_v15 = StableHlo.after (List.flatten [hostOps0, hostOps0_1, hostOps0_2]) (fun b => m (c, b)) (Proc.devRef .tc main_v15) := rfl

/-- The noise as launched. -/
abbrev noiseOf (c : Dev nD) : FVec Ideal S262144 .f32 := m ((c : Thread nD τ).loc main_arg5)

/-- The launch's seventh input. -/
theorem insV_x6 (c : Dev nD) : (insV m c).x6 = shapeCast S512x512 (ranked (sorted (noiseOf m c))) shapeCasts_S262144_S512x512 := by
  rw [insV_x6_def, V_main_v15, head_all]

/-- The rank matrix of the launch: each pair's rank by noise. -/
theorem x6_apply (c : Dev nD) (i j : Fin 512) :
    (insV m c).x6 (ix2 i j) = BitVec.ofNat 32 (noiseRank (noiseOf m c) (flat i j)) := by
  rw [insV_x6]
  exact (square_apply _ i j).trans (ranked_apply _ _)

end Cert.KernelIdeal.Body

end
-- ==== Proof.Keys.lean ====
/-
The keys by which the background pairs are chosen, and the threshold that 768 of them reach.
-/
module

public import proofs.«01_k».proof.Proof.ScoresKernel

@[expose] public section

set_option maxRecDepth 16384
set_option maxHeartbeats 1000000

noncomputable section

namespace Cert.KernelIdeal.Body

open Cert.KernelIdeal.Gen Cert.Spec Cert.Order Cert.Words Cert.Bisect
open Idealize.ShloMosaic Idealize.ShloMosaic.TcCoe Idealize.ShloMosaic.Pointwise

/-- A pair is a background pair. -/
def BgX (X : Ins) (x : Fin 262144) : Prop := nBg X (ix2 (row x) (col x)) = 1#1

instance (X : Ins) : DecidablePred (BgX X) := fun x => inferInstanceAs (Decidable (_ = _))

/-- The key of a pair: a background pair's rank, and for the others their position behind all ranks. -/
def keyN (X : Ins) (rk : Fin 262144 → ℕ) (x : Fin 262144) : ℕ := if BgX X x then rk x else 524288 + x.val

variable (X : Ins) (rk : Fin 262144 → ℕ) (hrk : ∀ x, rk x < 262144)

include hrk in
theorem keyN_lt (x : Fin 262144) : keyN X rk x < 1048576 := by
  have := hrk x
  unfold keyN; split <;> omega

include hrk in
theorem keyN_inj (hinj : Function.Injective rk) : Function.Injective (keyN X rk) := by
  intro x y h
  have h1 := hrk x; have h2 := hrk y
  unfold keyN at h
  split at h <;> split at h
  · exact hinj h
  · omega
  · omega
  · exact Fin.ext (by omega)

/-- The program's key of a pair. -/
theorem nKey_apply (hx6 : ∀ i j, X.x6 (ix2 i j) = BitVec.ofNat 32 (rk (flat i j))) (i j : Fin 512) :
    nKey X (ix2 i j) = BitVec.ofNat 32 (keyN X rk (flat i j)) := by
  unfold nKey
  have e : k0_pay121 (F := Ideal) (nI0 X) (nI1 X) (nBg X) X.x6 (ix2 i j) = Scalar.select (nBg X (ix2 i j)) (X.x6 (ix2 i j))
      (IntOp.addi 524288#32 (IntOp.addi (IntOp.muli (nI0 X (ix2 i j)) 512#32) (nI1 X (ix2 i j)))) := by
    pointwise [k0_pay121]
  rw [e, hx6, nI0_apply, nI1_apply, flat_word]
  have hb : BgX X (flat i j) ↔ nBg X (ix2 i j) = 1#1 := by unfold BgX; rw [row_flat, col_flat]
  unfold keyN
  by_cases h : nBg X (ix2 i j) = 1#1
  · rw [if_pos (hb.2 h), h]; rfl
  · rw [if_neg fun h' => h (hb.1 h')]
    have : nBg X (ix2 i j) = 0#1 := by
      revert h; generalize nBg X (ix2 i j) = b; revert b; decide
    rw [this]
    show BitVec.ofNat 32 524288 + BitVec.ofNat 32 _ = _
    rw [← BitVec.ofNat_add]

/-- A comparison of a number's word with an integer's. -/
theorem sle_int {n : ℕ} {z : ℤ} (hn : n < 2 ^ 31) (h1 : -1 ≤ z) (h2 : z ≤ 2 ^ 30) :
    IntOp.cmpi .sle (BitVec.ofNat 32 n) (BitVec.ofInt 32 z) = 1#1 ↔ (n : ℤ) ≤ z := by
  show BitVec.ofBool ((BitVec.ofNat 32 n).sle (BitVec.ofInt 32 z)) = 1#1 ↔ _
  unfold BitVec.sle
  rw [toInt_ofNat hn, toInt_int h1 h2]
  by_cases h : (n : ℤ) ≤ z <;> simp [h]

/-- At least 768 keys are at or below a level. -/
def Many (K : Fin 262144 → ℕ) (z : ℤ) : Prop := 768 ≤ (Finset.univ.filter fun v => (K v : ℤ) ≤ z).card

instance (K : Fin 262144 → ℕ) : DecidablePred (Many K) := fun z => inferInstanceAs (Decidable (_ ≤ _))

/-- One step of the bisection on integers. -/
theorem bgStep_int (K : Fin 262144 → ℕ) (hw : ∀ i j, nKey X (ix2 i j) = BitVec.ofNat 32 (K (flat i j)))
    (hK : ∀ x, K x < 1048576) (x y : ℤ) (h1 : -1 ≤ x) (h2 : x < y) (h3 : y ≤ 1048576) :
    bgStep X (BitVec.ofInt 32 x, BitVec.ofInt 32 y)
      = if Many K (x + (y - x) / 2) then (BitVec.ofInt 32 x, BitVec.ofInt 32 (x + (y - x) / 2))
        else (BitVec.ofInt 32 (x + (y - x) / 2), BitVec.ofInt 32 y) := by
  have hm : mid (BitVec.ofInt 32 x) (BitVec.ofInt 32 y) = BitVec.ofInt 32 (x + (y - x) / 2) := mid_int h2 (by omega)
  have hc : ∀ a b : BitVec 32, extractAt ![0, 0, 0] (k0_pay122 (F := Ideal) (nI0 X) (nI1 X) (nBg X) X.x6 a b) inpos_S1x1x1_p0_0_0
      = Finset.fold IntOp.addi 0#32 (fun x : Fin 512 × Fin 512 => BitVec.setWidth 32 (IntOp.cmpi CmpIPredicate.sle (nKey X (ix2 x.1 x.2)) (mid a b))) Finset.univ := by
    intro a b
    unfold nKey
    pointwise [k0_pay122]
    rfl
  have hs : ∀ a b : BitVec 32, bgStep X (a, b)
      = (Scalar.select (Scalar.cmpi .sge (extractAt ![0, 0, 0] (k0_pay122 (F := Ideal) (nI0 X) (nI1 X) (nBg X) X.x6 a b) inpos_S1x1x1_p0_0_0) 768#32) a (mid a b),
         Scalar.select (Scalar.cmpi .sge (extractAt ![0, 0, 0] (k0_pay122 (F := Ideal) (nI0 X) (nI1 X) (nBg X) X.x6 a b) inpos_S1x1x1_p0_0_0) 768#32) (mid a b) b) :=
    fun a b => rfl
  rw [hs, hc, hm, IndicatorCount.fold_addi_setWidth_eq_card]
  have hcard : (Finset.univ.filter fun z : Fin 512 × Fin 512 =>
      IntOp.cmpi CmpIPredicate.sle (nKey X (ix2 z.1 z.2)) (BitVec.ofInt 32 (x + (y - x) / 2)) = 1#1).card
      = (Finset.univ.filter fun v => (K v : ℤ) ≤ (x + (y - x) / 2)).card := by
    refine card_pairs _ _ fun z => ?_
    rw [hw, sle_int (by have := hK (flat z.1 z.2); omega) (by omega) (by omega)]
  rw [hcard]
  have hle : (Finset.univ.filter fun v => (K v : ℤ) ≤ (x + (y - x) / 2)).card ≤ 262144 :=
    (Finset.card_le_univ _).trans_eq (Fintype.card_fin _)
  have hd : Scalar.cmpi .sge (BitVec.ofNat 32 (Finset.univ.filter fun v => (K v : ℤ) ≤ (x + (y - x) / 2)).card) 768#32
      = BitVec.ofBool (decide (Many K (x + (y - x) / 2))) := sle_nat (by omega) (by omega)
  rw [hd]
  by_cases h : Many K (x + (y - x) / 2)
  · rw [if_pos h]; simp [h, Scalar.select]
  · rw [if_neg h]; simp [h, Scalar.select]

/-- The threshold found by bisection: exactly 768 keys are at or below it. -/
theorem nCut_int (K : Fin 262144 → ℕ) (hw : ∀ i j, nKey X (ix2 i j) = BitVec.ofNat 32 (K (flat i j)))
    (hK : ∀ x, K x < 1048576) (hinj : Function.Injective K) : ∃ θ : ℕ, θ ≤ 1048576 ∧ nCut X = BitVec.ofNat 32 θ
      ∧ (Finset.univ.filter fun v => K v ≤ θ).card = 768 := by
  unfold nCut
  rw [Scf.fold_eq]
  have hb : ((4294967295#32, 1048576#32) : BitVec 32 × BitVec 32) = (BitVec.ofInt 32 (-1), BitVec.ofInt 32 1048576) := by decide
  rw [hb]
  obtain ⟨z, e, p1, p2, z0, z1⟩ := fold_bisect (fun (_ : Fin k0_t3_loop.trips) p => bgStep X p) (Many K) 1048576 (by norm_num)
    (fun _ x y h1 h2 h3 => bgStep_int X K hw hK x y h1 h2 h3) (List.finRange k0_t3_loop.trips) (-1) 1048576 (by norm_num) (by norm_num)
    (by norm_num) (by rw [List.length_finRange]; have : k0_t3_loop.trips = 21 := by decide
                      rw [this]; norm_num)
    (by
      unfold Many
      rw [Finset.filter_false_of_mem (fun v _ => by omega)]; simp)
    (by
      unfold Many
      rw [Finset.filter_true_of_mem (fun v _ => by have := hK v; omega), Finset.card_univ, Fintype.card_fin]; norm_num)
  obtain ⟨θ, rfl⟩ := Int.eq_ofNat_of_zero_le z0
  refine ⟨θ, by omega, ?_, ?_⟩
  · rw [e]; exact BitVec.ofInt_natCast _ _
  · unfold Many at p1 p2
    have e1 : (Finset.univ.filter fun v => K v ≤ θ) = (Finset.univ.filter fun v => (K v : ℤ) ≤ ((θ : ℕ) : ℤ)) := by
      ext v; simp
    have e2 : (Finset.univ.filter fun v => (K v : ℤ) ≤ ((θ : ℕ) : ℤ)) ⊆ (Finset.univ.filter fun v => (K v : ℤ) ≤ ((θ : ℕ) : ℤ) - 1) ∪ (Finset.univ.filter fun v => K v = θ) := by
      intro v
      simp only [Finset.mem_union, Finset.mem_filter, Finset.mem_univ, true_and]
      omega
    have e3 : (Finset.univ.filter fun v => K v = θ).card ≤ 1 := by
      rw [Finset.card_le_one]
      intro a ha b hb'
      simp only [Finset.mem_filter, Finset.mem_univ, true_and] at ha hb'
      exact hinj (ha.trans hb'.symm)
    have e4 := (Finset.card_le_card e2).trans (Finset.card_union_le _ _)
    rw [e1]
    omega

/-- The pairs picked for the background are those whose key is at or below the threshold. -/
theorem nPickB_apply (K : Fin 262144 → ℕ) (hw : ∀ i j, nKey X (ix2 i j) = BitVec.ofNat 32 (K (flat i j)))
    (hK : ∀ x, K x < 1048576) (θ : ℕ) (hθ : θ ≤ 1048576) (hc : nCut X = BitVec.ofNat 32 θ) (i j : Fin 512) :
    k0_pay123 (F := Ideal) (nI0 X) (nI1 X) (nBg X) X.x6 (nCut X) (ix2 i j) = ((ind (K (flat i j) ≤ θ) : ℕ) : EReal) := by
  have e : k0_pay123 (F := Ideal) (nI0 X) (nI1 X) (nBg X) X.x6 (nCut X) (ix2 i j)
      = FloatOps.sitofp (F := Ideal) FTy.f32 (BitVec.setWidth 32 (IntOp.cmpi .sle (nKey X (ix2 i j)) (nCut X))) := by
    unfold nKey
    pointwise [k0_pay123]
  rw [e, hw, hc, sle_nat (by have := hK (flat i j); omega) (by omega), sitofp_ind]

end Cert.KernelIdeal.Body

end
-- ==== Proof.EnumerateBack.lean ====
/- How the kernel enumerates the pairs it has picked for the background places: for each place the row and the column of
   the pair with so many picked pairs before it. -/
module

public import proofs.«01_k».proof.Proof.Enumerate

@[expose] public section

set_option maxRecDepth 16384
set_option maxHeartbeats 1000000

noncomputable section

namespace Cert.KernelIdeal.Body

open Cert.KernelIdeal.Gen Cert.Spec Cert.Order Cert.Words
open Idealize.ShloMosaic Idealize.ShloMosaic.TcCoe Idealize.ShloMosaic.Pointwise

/-- The places' numbers, from 1. -/
theorem placeB_apply (s : Fin 768) : k0_pay126 (F := Ideal) (ix2 s 0) = ((s.val + 1 : ℕ) : EReal) := by
  pointwise [k0_pay126]
  rw [sitofp_nat (by omega), cast_one, cast_add]

section

variable (S : Fin 262144 → Prop) [DecidablePred S] (v0 v1 : IVec S512x512 32) (b : IVec S512x512 1) (r : Vec Ideal S512x512 .i32) (n : BitVec 32)
  (hP : ∀ i j, k0_pay123 (F := Ideal) v0 v1 b r n (ix2 i j) = ((ind (S (flat i j)) : ℕ) : EReal))
include hP

/-- The number of picked pairs up to a row. -/
theorem upToB_apply (k : Fin 512) : k0_pay124 (F := Ideal) v0 v1 (k0_pay26 (F := Ideal)) b r n (ix2 0 k)
    = ((∑ i ∈ Finset.univ.filter (fun i => i ≤ k), rowCount S i : ℕ) : EReal) := by
  pointwise [k0_pay124]
  simp only [hP, upper_apply, cast_mul, cast_sum]
  rw [Finset.sum_comm]
  simp only [← Finset.sum_mul]
  rw [sum_ind_mul]; rfl

/-- The row of a place: the number of rows up to which not enough pairs are picked. -/
theorem rowOfB_apply (s : Fin 768) : k0_pay127 (F := Ideal) v0 v1 (k0_pay26 (F := Ideal)) b r n (ix2 s 0)
    = (((Finset.univ.filter fun k : Fin 512 => ∑ i ∈ Finset.univ.filter (fun i => i ≤ k), rowCount S i ≤ s.val).card : ℕ) : EReal) := by
  pointwise [k0_pay127]
  simp only [upToB_apply S v0 v1 b r n hP, placeB_apply, cast_lt, sitofp_ind, cast_sum, sum_ind, Nat.lt_succ_iff]

/-- The row of a place, as a column that is 1 at it. -/
theorem oneRowB_apply (s : Fin 768) (k : Fin 512) (hr : (Finset.univ.filter fun k : Fin 512 => ∑ i ∈ Finset.univ.filter (fun i => i ≤ k), rowCount S i ≤ s.val).card = k.val)
    (i : Fin 512) : k0_pay128 (F := Ideal) v0 v1 (k0_pay26 (F := Ideal)) b r n (ix2 s i) = ((ind (i = k) : ℕ) : EReal) := by
  pointwise [k0_pay128]
  rw [rowOfB_apply S v0 v1 b r n hP, hr, fptosi_nat (by omega), eq_nat (by omega) (by omega), sitofp_ind]
  simp only [ind, Fin.ext_iff]

/-- The number of picked pairs before a row. -/
theorem beforeB_apply (k : Fin 512) : k0_pay125 (F := Ideal) v0 v1 (k0_pay26 (F := Ideal)) b (k0_pay100 (F := Ideal)) r n (ix2 0 k)
    = ((∑ i ∈ Finset.univ.filter (fun i => i < k), rowCount S i : ℕ) : EReal) := by
  pointwise [k0_pay125, k0_pay100]
  rw [upToB_apply S v0 v1 b r n hP]
  simp only [hP, cast_sum]
  have h : ∑ i ∈ Finset.univ.filter (fun i => i ≤ k), rowCount S i
      = ∑ i ∈ Finset.univ.filter (fun i => i < k), rowCount S i + rowCount S k := by
    have : Finset.univ.filter (fun i => i ≤ k) = insert k (Finset.univ.filter fun i => i < k) := by
      ext i; simp only [Finset.mem_filter, Finset.mem_univ, true_and, Finset.mem_insert]; rw [le_iff_lt_or_eq, or_comm]
    rw [this, Finset.sum_insert (by simp), add_comm]
  rw [h]
  show _ - ((rowCount S k : ℕ) : EReal) = _
  rw [cast_sub (Nat.le_add_left _ _), Nat.add_sub_cancel]

end

section

variable (S : Fin 262144 → Prop) [DecidablePred S] (P : FVec Ideal S512x512 .bf16) (C : FVec Ideal S1x512 .f32) (R : FVec Ideal S768x512 .f32)
  (hP : ∀ i j, P (ix2 i j) = ((ind (S (flat i j)) : ℕ) : EReal)) (s : Fin 768) (r : Fin 512)
  (hR : ∀ i, R (ix2 s i) = ((ind (i = r) : ℕ) : EReal))
  (hC : ∀ i, C (ix2 0 i) = ((∑ i ∈ Finset.univ.filter (fun i' => i' < i), rowCount S i : ℕ) : EReal))
include hP hR hC

/-- The column of a place: the number of columns up to which, in its row, not enough pairs are picked. -/
theorem colOfB_apply (hs : ∑ i ∈ Finset.univ.filter (fun i => i < r), rowCount S i ≤ s.val) :
    k0_pay129 (k0_pay26 (F := Ideal)) P C (k0_pay126 (F := Ideal)) R (ix2 s 0)
    = (((Finset.univ.filter fun j' : Fin 512 => ∑ j ∈ Finset.univ.filter (fun j => j ≤ j'), ind (S (flat r j))
        ≤ s.val - ∑ i ∈ Finset.univ.filter (fun i => i < r), rowCount S i).card : ℕ) : EReal) := by
  pointwise [k0_pay129]
  simp only [hR, onehot]
  simp only [hC, hP, upper_apply, placeB_apply, cast_mul, cast_sum, sum_ind_mul]
  rw [cast_sub (by omega)]
  simp only [cast_lt, sitofp_ind, cast_sum, sum_ind]
  congr 2
  refine Finset.filter_congr fun j' _ => ?_
  omega

end

end Cert.KernelIdeal.Body

end
-- ==== Proof.Background.lean ====
/- The background places in order of their keys. -/
module

public import proofs.«01_k».proof.Proof.Keys
public import proofs.«01_k».proof.Proof.EnumerateBack

@[expose] public section

set_option maxRecDepth 16384
set_option maxHeartbeats 1000000

noncomputable section

namespace Cert.KernelIdeal.Body

open Cert.KernelIdeal.Gen Cert.Spec Cert.Order Cert.Words
open Idealize.ShloMosaic Idealize.ShloMosaic.TcCoe Idealize.ShloMosaic.Pointwise

/-- The low byte of a number's word. -/
theorem low_byte (n : ℕ) : IntOp.andi (BitVec.ofNat 32 n) 255#32 = BitVec.ofNat 32 (n % 256) := by
  apply BitVec.eq_of_toNat_eq
  show (BitVec.ofNat 32 n &&& 255#32).toNat = _
  rw [BitVec.toNat_and, BitVec.toNat_ofNat, BitVec.toNat_ofNat, BitVec.toNat_ofNat]
  rw [show 255 % 2 ^ 32 = 2 ^ 8 - 1 by norm_num, Nat.and_two_pow_sub_one_eq_mod]
  omega

/-- A shift to the right is a division. -/
theorem shift_right (n k : ℕ) (h : n < 2 ^ 31) (hk : k < 32) : IntOp.shrsi .vector (BitVec.ofNat 32 n) (BitVec.ofNat 32 k) = BitVec.ofNat 32 (n / 2 ^ k) := by
  have e : IntOp.shrsi .vector (BitVec.ofNat 32 n) (BitVec.ofNat 32 k) = (BitVec.ofNat 32 n).sshiftRight k := by
    have hn : (BitVec.ofNat 32 k).toNat = k := by rw [BitVec.toNat_ofNat]; omega
    unfold IntOp.shrsi BitVec.sshiftRight'
    rw [hn, if_pos hk]
  rw [e]
  apply BitVec.eq_of_toNat_eq
  have hm : (BitVec.ofNat 32 n).msb = false := by
    rw [BitVec.msb_eq_false_iff_two_mul_lt, BitVec.toNat_ofNat]; omega
  rw [BitVec.sshiftRight_eq_of_msb_false hm, BitVec.toNat_ushiftRight, BitVec.toNat_ofNat, BitVec.toNat_ofNat, Nat.shiftRight_eq_div_pow]
  rw [Nat.mod_eq_of_lt (by omega), Nat.mod_eq_of_lt (lt_of_le_of_lt (Nat.div_le_self _ _) (by omega))]

/-- A small number's word, as a short float. -/
theorem sitofp_short {n : ℕ} (h : n < 2 ^ 31) : FloatOps.sitofp (F := Ideal) FTy.bf16 (BitVec.ofNat 32 n) = ((n : ℕ) : EReal) := sitofp_nat h

/-- The key of a place: it is put together from its three bytes. -/
theorem keyCol_apply (K : Fin 262144 → ℕ) (hK : ∀ x, K x < 1048576) (Q : IVec S512x512 32) (hQ : ∀ i j, Q (ix2 i j) = BitVec.ofNat 32 (K (flat i j)))
    (P : FVec Ideal S512x512 .bf16) (C : FVec Ideal S1x512 .f32) (R : FVec Ideal S768x512 .f32) (s : Fin 768) (r q : Fin 512)
    (hR : ∀ i, R (ix2 s i) = ((ind (i = r) : ℕ) : EReal))
    (hq : k0_pay129 (k0_pay26 (F := Ideal)) P C (k0_pay126 (F := Ideal)) R (ix2 s 0) = ((q.val : ℕ) : EReal)) (j : Fin 512) :
    k0_pay131 (k0_pay26 (F := Ideal)) Q P C (k0_pay126 (F := Ideal)) (iota .tc S768x512 32 [1] iota_S768x512_d1_w32) R (ix2 s j)
      = ((K (flat r j) * ind (j = q) : ℕ) : EReal) := by
  pointwise [k0_pay131]
  simp only [hR, onehot]
  rw [hq, fptosi_nat (by omega), eq_nat (by omega) (by omega), sitofp_ind, hQ, low_byte]
  have hk := hK (flat r j)
  rw [shift_right (K (flat r j)) 8 (by omega) (by omega), shift_right (K (flat r j)) 16 (by omega) (by omega), low_byte]
  rw [sitofp_short (by omega), sitofp_short (by omega), sitofp_short (by omega), bits65536, bits256, cast_mul, cast_mul, cast_add, cast_add]
  have e1 : K (flat r j) / 2 ^ 16 * 65536 + K (flat r j) / 2 ^ 8 % 256 * 256 + K (flat r j) % 256 = K (flat r j) := by omega
  rw [e1, cast_mul]
  refine congrArg (fun n : ℕ => ((K (flat r j) * n : ℕ) : EReal)) ?_
  simp only [ind, Fin.ext_iff]

/-- The background output: the places' pairs in the order of their keys. -/
theorem orderB_apply (J : FVec Ideal S768x1 .f32) (L : FVec Ideal S768x512 .f32) (k : Fin 768 → ℕ) (p : Fin 768 → ℕ) (hp : ∀ s, p s < 262144)
    (hL : ∀ s, ∑ j, L (ix2 s j) = ((k s : ℕ) : EReal)) (hJ : ∀ s, J (ix2 s 0) = ((p s : ℕ) : EReal)) (t u : Fin 768)
    (hu : ∀ s, (Finset.univ.filter fun x : Fin 768 => k x < k s).card = t.val ↔ s = u) :
    k0_pay1 (F := Ideal) J L (ix2 0 t) = BitVec.ofNat 32 (p u) := by
  pointwise [k0_pay1]
  have e1 : ∀ x : Fin 768, (∑ x_1 : Fin 768, FloatOps.sitofp (F := Ideal) FTy.f32
      (BitVec.setWidth 32 (IntOp.cmpi CmpIPredicate.eq (BitVec.ofNat 32 x_1.val) (BitVec.ofNat 32 x.val))) * ((k x_1 : ℕ) : EReal)) = ((k x : ℕ) : EReal) := by
    intro x
    rw [← onehot x (fun y => ((k y : ℕ) : EReal))]
    refine Finset.sum_congr rfl fun y _ => ?_
    rw [eq_nat (by omega) (by omega), sitofp_ind]
    simp only [ind, Fin.ext_iff]
  simp only [hL, e1, cast_lt, sitofp_ind, cast_sum, sum_ind]
  have hr : ∀ s, (Finset.univ.filter fun x : Fin 768 => k x < k s).card < 2 ^ 31 := fun s =>
    lt_of_le_of_lt ((Finset.card_le_univ _).trans_eq (Fintype.card_fin _)) (by norm_num)
  have e2 : ∀ x : Fin 768, FloatOps.sitofp (F := Ideal) FTy.f32 (BitVec.setWidth 32 (IntOp.cmpi CmpIPredicate.eq (BitVec.ofNat 32 t.val)
      (FloatOps.fptosi (F := Ideal) (φ := FTy.f32) 32 (((Finset.univ.filter fun y : Fin 768 => k y < k x).card : ℕ) : EReal)))) = ((ind (x = u) : ℕ) : EReal) := by
    intro x
    rw [fptosi_nat (hr x), eq_nat (by omega) (by have := hr x; omega), sitofp_ind]
    refine congrArg (fun n : ℕ => (n : EReal)) ?_
    simp only [ind, eq_comm (a := t.val), hu x]
  simp only [e2, onehot]
  rw [hJ, fptosi_nat (by have := hp u; omega)]

/-- The pairs the kernel picks for the background: the 768 pairs with the least keys, in order of the keys. -/
theorem back_places (X : Ins) (rk : Fin 262144 → ℕ) (hrk : ∀ x, rk x < 262144) (hinj : Function.Injective rk)
    (hx6 : ∀ i j, X.x6 (ix2 i j) = BitVec.ofNat 32 (rk (flat i j))) :
    ∃ σ : Fin 768 → Fin 262144, Function.Injective σ ∧ (∀ i j : Fin 768, i < j → ¬ keyN X rk (σ j) < keyN X rk (σ i)) ∧
      (∀ (i : Fin 768) (x : Fin 262144), (∀ j, σ j ≠ x) → ¬ keyN X rk x < keyN X rk (σ i)) ∧
      ∀ t : Fin 768, o10 X (ix2 0 t) = BitVec.ofNat 32 (σ t).val := by
  have hw := nKey_apply X rk hx6
  have hK := keyN_lt X rk hrk
  have hKinj := keyN_inj X rk hrk hinj
  generalize keyN X rk = K at hw hK hKinj ⊢
  obtain ⟨θ, hθ, hc, hcard⟩ := nCut_int X K hw hK hKinj
  have hP := nPickB_apply X K hw hK θ hθ hc
  have hB : ∀ x y, Better (fun x => -(K x : ℤ)) x y ↔ K x < K y := by
    intro x y
    unfold Better
    constructor
    · rintro (h | ⟨h, h'⟩)
      · simp only at h; omega
      · exact absurd (hKinj (by simp only at h; omega)) (ne_of_lt h')
    · intro h; left; simp only; omega
  choose r q h1 h2 h3 h4 h5 using fun s : Fin 768 => enumerated (fun x => K x ≤ θ) s.val (by rw [hcard]; exact s.isLt)
  obtain ⟨hmono, τ, hτ, hi, hord, hdom⟩ := ordered (fun x => -(K x : ℤ)) (fun x => K x ≤ θ) 768 hcard
    (fun x y hx hy => ((hB y x).1 hy).le.trans hx) (fun s => flat (r s) (q s)) h4 h5
  have hR : ∀ s i, nOneB X (ix2 s i) = ((ind (i = r s) : ℕ) : EReal) := fun s i =>
    oneRowB_apply (fun x => K x ≤ θ) _ _ _ _ _ hP s (r s) (h1 s) i
  have hC : ∀ i, nExB X (ix2 0 i) = ((∑ i' ∈ Finset.univ.filter (fun i' => i' < i), rowCount (fun x => K x ≤ θ) i' : ℕ) : EReal) := fun i =>
    beforeB_apply (fun x => K x ≤ θ) _ _ _ _ _ hP i
  have hcol : ∀ s, k0_pay129 (k0_pay26 (F := Ideal)) (nPickB X) (nExB X) (k0_pay126 (F := Ideal)) (nOneB X) (ix2 s 0) = (((q s).val : ℕ) : EReal) := fun s =>
    (colOfB_apply (fun x => K x ≤ θ) (nPickB X) (nExB X) (nOneB X) hP s (r s) (hR s) hC (h2 s)).trans (congrArg (fun n : ℕ => (n : EReal)) (h3 s))
  have hJ : ∀ s, nJB X (ix2 s 0) = (((flat (r s) (q s)).val : ℕ) : EReal) := by
    intro s
    unfold nJB
    pointwise [k0_pay130]
    rw [hcol]
    have : nRowB X (ix2 s 0) = (((r s).val : ℕ) : EReal) :=
      (rowOfB_apply (fun x => K x ≤ θ) _ _ _ _ _ hP s).trans (congrArg (fun n : ℕ => (n : EReal)) (h1 s))
    rw [this, bits512, cast_mul, cast_add]
    refine congrArg (fun n : ℕ => (n : EReal)) ?_
    simp only [flat]; ring
  have hL : ∀ s, ∑ j, nKB X (ix2 s j) = ((K (flat (r s) (q s)) : ℕ) : EReal) := by
    intro s
    have e : ∀ j, nKB X (ix2 s j) = ((K (flat (r s) j) * ind (j = q s) : ℕ) : EReal) := fun j =>
      keyCol_apply K hK (nKey X) hw (nPickB X) (nExB X) (nOneB X) s (r s) (q s) (hR s) (hcol s) j
    simp only [e, cast_sum]
    refine congrArg (fun n : ℕ => (n : EReal)) ?_
    simp [ind]
  refine ⟨fun t => flat (r (τ t)) (q (τ t)), hi, fun i j hij h => hord i j hij ((hB _ _).2 h), fun i x hx h => hdom i x hx ((hB _ _).2 h), fun t => ?_⟩
  unfold o10
  refine orderB_apply (nJB X) (nKB X) (fun s => K (flat (r s) (q s))) (fun s => (flat (r s) (q s)).val) (fun s => (flat (r s) (q s)).isLt) hL hJ t (τ t) (fun s => ?_)
  rw [← hτ s t]
  unfold rank
  simp only [hB]

end Cert.KernelIdeal.Body

end
-- ==== Proof.BackReference.lean ====
/- The reference's background indices: the 768 greatest of the marked noise. -/
module

public import proofs.«01_k».proof.Proof.ResultsReference

@[expose] public section

set_option maxRecDepth 16384
set_option maxHeartbeats 1000000

noncomputable section

namespace Cert.Spec.Data

/-- A background pair: two different boxes with labels that are not a foreground pair. -/
def Bg (D : Data) (i j : Fin 512) : Prop := D.pl i ≠ 0#32 ∧ D.pl j ≠ 0#32 ∧ i ≠ j ∧ ¬ D.Fg i j

end Cert.Spec.Data

namespace Cert.ReferenceIdeal.Read

open Cert.ReferenceIdeal Cert.ReferenceIdeal.Gen Cert.ReferenceIdeal.Value Cert.Spec Cert.Order
open Idealize.ShloMosaic Idealize.ShloMosaic.TcCoe Idealize.ShloMosaic.Pointwise

/-- The product of the four indicators. -/
theorem product_read (E G : FVec Ideal S512x512 .f32) (b : FVec Ideal S512 .f32) (i j : Fin 512) :
    mulf (mulf (mulf (subf (broadcastInDim S512x512 ![] bcast_S_S512x512 (constant S_ .f32 0x3F800000#32)) E) (broadcastInDim S512x512 ![0, 1] bcast_S512x1_S512x512_0_1 (broadcastInDim S512x1 ![0] bcast_S512_S512x1_0 b))) (broadcastInDim S512x512 ![0, 1] bcast_S1x512_S512x512_0_1 (broadcastInDim S1x512 ![1] bcast_S512_S1x512_1 b))) (subf (broadcastInDim S512x512 ![] bcast_S_S512x512 (constant S_ .f32 0x3F800000#32)) G) (ix2 i j)
      = (1 - E (ix2 i j)) * b (ix1 i) * b (ix1 j) * (1 - G (ix2 i j)) := by
  pointwise []

/-- The mark: the noise where the product is positive, and a negative number elsewhere. -/
theorem mark_read (A : FVec Ideal S512x512 .f32) (a : FVec Ideal S262144 .f32) (x : Fin 262144) :
    (select (cmpf .ogt (shapeCast S262144 A shapeCasts_S512x512_S262144) (broadcastInDim S262144 ![] bcast_S_S262144 (constant S_ .f32 0x00000000#32))) a (broadcastInDim S262144 ![] bcast_S_S262144 (id (constant S_ .f32 0xBF800000#32))) : FVec Ideal S262144 .f32) (ix1 x)
      = if 0 < A (ix2 (row x) (col x)) then a (ix1 x) else -1 := by
  have e : (select (cmpf .ogt (shapeCast S262144 A shapeCasts_S512x512_S262144) (broadcastInDim S262144 ![] bcast_S_S262144 (constant S_ .f32 0x00000000#32))) a (broadcastInDim S262144 ![] bcast_S_S262144 (id (constant S_ .f32 0xBF800000#32))) : FVec Ideal S262144 .f32) (ix1 x)
      = Scalar.select (BitVec.ofBool (decide (Ideal.ofBits .f32 0x00000000#32 < shapeCast S262144 A shapeCasts_S512x512_S262144 (ix1 x)))) (a (ix1 x)) (Ideal.ofBits .f32 0xBF800000#32) := rfl
  rw [e, flat_apply]
  have z : Ideal.ofBits .f32 0x00000000#32 = (0 : EReal) := by simp [Ideal.ofBits, Ideal.ieee]
  have u : Ideal.ofBits .f32 0xBF800000#32 = (-1 : EReal) := by
    have h : Ideal.ofBits .f32 0xBF800000#32 = ((-1 : ℝ) : EReal) := by
      simp [Ideal.ofBits, Ideal.ieee, -EReal.coe_mul, -EReal.coe_neg]; norm_num
    rw [h]; rfl
  rw [z, u]
  by_cases h : 0 < A (ix2 (row x) (col x)) <;> simp [h, Scalar.select]

/-- Whether a label is set. -/
theorem set_read (l : IVec S512 32) (i : Fin 512) :
    (uitofp .f32 (cmpi .ne l (broadcastInDim S512 ![] bcast_S_S512 (constantI S_ 32 0#32))) : FVec Ideal S512 .f32) (ix1 i) = if l (ix1 i) ≠ 0#32 then 1 else 0 := by
  have e : (uitofp .f32 (cmpi .ne l (broadcastInDim S512 ![] bcast_S_S512 (constantI S_ 32 0#32))) : FVec Ideal S512 .f32) (ix1 i)
      = FloatOps.uitofp (F := Ideal) FTy.f32 (BitVec.ofBool (decide (l (ix1 i) ≠ 0#32))) := by
    pointwise []
    congr 1
    show BitVec.ofBool (l (ix1 i) != 0#32) = _
    congr 1
    rw [Bool.eq_iff_iff, bne_iff_ne, decide_eq_true_iff]
  rw [e, uitofp_bool]

/-- A product of four indicators is positive exactly where all four hold. -/
theorem product_pos (E P Q G : Prop) [Decidable E] [Decidable P] [Decidable Q] [Decidable G] :
    (0 : EReal) < (1 - if E then 1 else 0) * (if P then 1 else 0) * (if Q then 1 else 0) * (1 - if G then 1 else 0) ↔ P ∧ Q ∧ ¬ E ∧ ¬ G := by
  by_cases e : E <;> by_cases p : P <;> by_cases q : Q <;> by_cases g : G <;> simp [e, p, q, g, one_sub_one]

variable (W : Valuation τ sig (Elt Ideal))

/-- The noise as the argument holds it, and the marked noise. -/
abbrev rNoise : FVec Ideal S262144 .f32 := W (Proc.devRef .tc main_arg5)
abbrev rMark : FVec Ideal S262144 .f32 := res_main_v135 W
abbrev rSet : FVec Ideal S512 .f32 := res_main_v72 W

theorem rSet_apply (i : Fin 512) : rSet W (ix1 i) = if (dataR W).pl i ≠ 0#32 then 1 else 0 := set_read _ i

open Classical in
/-- The marked noise: the noise at the background pairs, and a negative number elsewhere. -/
theorem rMark_apply (x : Fin 262144) : rMark W (ix1 x) = if (dataR W).Bg (row x) (col x) then rNoise W (ix1 x) else -1 := by
  have h : rMark W (ix1 x) = _ := mark_read _ (rNoise W) x
  rw [h]
  refine if_congr ?_ rfl rfl
  have h' : _ = (1 - rEye W (ix2 (row x) (col x))) * rSet W (ix1 (row x)) * rSet W (ix1 (col x)) * (1 - rFg W (ix2 (row x) (col x))) :=
    product_read (rEye W) (rFg W) (rSet W) (row x) (col x)
  rw [h', rSet_apply, rSet_apply, eye_apply, fg_apply]
  exact product_pos _ _ _ _

/-- The reference's background indices, in the order of the marked noise. -/
theorem back_read (σ : Fin 768 → Fin 262144) (hinj : Function.Injective σ)
    (hord : ∀ i j, i < j → ¬ Better (fun p => rMark W (ix1 p)) (σ j) (σ i))
    (hdom : ∀ i p, (∀ j, σ j ≠ p) → ¬ Better (fun p => rMark W (ix1 p)) p (σ i)) (t : Fin 768) :
    rBack W (ix1 t) = BitVec.ofNat 32 (σ t).val :=
  (Cert.TopK.topK_apply (n := 262144) (k := 768) (by norm_num) (rMark W) sliceFits_S262144_S768 σ hinj hord hdom t).2

end Cert.ReferenceIdeal.Read

end
-- ==== Proof.RelationBack.lean ====
/- The two programs' background indices agree. -/
module

public import proofs.«01_k».proof.Proof.Relation
public import proofs.«01_k».proof.Proof.Ranks
public import proofs.«01_k».proof.Proof.Background
public import proofs.«01_k».proof.Proof.BackReference

@[expose] public section

set_option maxRecDepth 16384
set_option maxHeartbeats 1000000

noncomputable section

namespace Cert.KernelIdeal.Body

open Cert.KernelIdeal.Gen Cert.Spec Cert.Order
open Idealize.ShloMosaic Idealize.ShloMosaic.TcCoe Idealize.ShloMosaic.Pointwise

/-- The complement of a bit, and the conjunction of bits. -/
theorem bits_and (a b c d : BitVec 1) :
    IntOp.andi (IntOp.andi (IntOp.andi a b) c) (IntOp.xori d 1#1) = 1#1 ↔ a = 1#1 ∧ b = 1#1 ∧ c = 1#1 ∧ ¬ d = 1#1 := by
  revert a b c d; decide

theorem ne_bit {w : ℕ} (a b : BitVec w) : IntOp.cmpi .ne a b = 1#1 ↔ a ≠ b := by
  show BitVec.ofBool (a != b) = 1#1 ↔ _
  by_cases h : a = b
  · simp [h]
  · simp [h, bne_iff_ne.2 h]

/-- Whether the rows and columns of a place differ. -/
theorem off_diagonal (i j : Fin 512) : k0_pay28 (ix2 i j) = 1#1 ↔ i ≠ j := by
  have e : k0_pay28 (ix2 i j) = IntOp.cmpi .ne (BitVec.ofNat 32 i.val) (BitVec.ofNat 32 j.val) := by pointwise [k0_pay28]
  rw [e, ne_bit]
  exact not_congr (Cert.ReferenceIdeal.Read.word_eq i j)

/-- The kernel's background pairs are the problem's. -/
theorem nBg_iff (X : Ins) (hx : ∀ i : Fin 512, X.x4 (ix2 i 0) = X.x3 (ix2 0 i)) (i j : Fin 512) : nBg X (ix2 i j) = 1#1 ↔ (dataX X).Bg i j := by
  have e : nBg X (ix2 i j) = IntOp.andi (IntOp.andi (IntOp.andi (IntOp.cmpi .ne (X.x4 (ix2 i 0)) 0#32) (IntOp.cmpi .ne (X.x3 (ix2 0 j)) 0#32)) (k0_pay28 (ix2 i j)))
      (IntOp.xori (nFg X (ix2 i j)) 1#1) := by
    unfold nBg nFg
    generalize nM X = A
    generalize nRp X = B
    generalize k0_pay28 = C
    pointwise [k0_pay99, k0_pay98, k0_pay97, k0_pay31]
  rw [e, bits_and, ne_bit, ne_bit, off_diagonal, nFg_iff, hx]
  rfl

end Cert.KernelIdeal.Body

namespace Cert.Proof

open Idealize.ShloMosaic Idealize.ShloMosaic.TcCoe Idealize.ShloMosaic.Pointwise Idealize.SL.Sem
open Cert.KernelIdeal.Body Cert.ReferenceIdeal.Read Cert.Spec Cert.Order

/-- A list read as a column. -/
theorem upright_apply (v : IVec Cert.KernelIdeal.S512 32) (p : Fin 512) :
    shapeCast Cert.KernelIdeal.S512x1 v Cert.KernelIdeal.Gen.shapeCasts_S512_S512x1 (ix2 p 0) = v (ix1 p) := by
  pointwise []

/-- Two lists of 768 with the same entries are equal. -/
theorem back_ext {α : Type} (A B : Cert.KernelIdeal.S768.Idx → α) (h : ∀ t : Fin 768, A (ix1 t) = B (ix1 t)) : A = B :=
  funext fun x => by rw [eq_ix1 x]; exact h _

/-- A row of 768 read as a list. -/
theorem unroll_apply {α : Type} (A : Cert.KernelIdeal.S1x768.Idx → α) (t : Fin 768) :
    shapeCast Cert.KernelIdeal.S768 A Cert.KernelIdeal.Gen.shapeCasts_S1x768_S768 (ix1 t) = A (ix2 0 t) := by
  pointwise []

/-- The order of the noise's ranks is the order of the noise. -/
theorem rank_order (v : Fin 262144 → EReal) (x y : Fin 262144) :
    rank Finset.univ (Better v) x < rank Finset.univ (Better v) y ↔ Better v x y := by
  have hs := strict_better v
  constructor
  · intro h
    by_contra hn
    by_cases e : x = y
    · subst e; exact lt_irrefl _ h
    · rcases hs.total x y e with h' | h'
      · exact hn h'
      · exact lt_asymm h (rank_lt_rank hs (Finset.mem_univ _) h')
  · exact fun h => rank_lt_rank hs (Finset.mem_univ _) h

open Classical in
/-- With noise that is not negative the order of the marked noise is the order of the keys. -/
theorem key_order (v : Fin 262144 → EReal) (hv : ∀ x, 0 ≤ v x) (B : Fin 262144 → Prop) (K : Fin 262144 → ℕ)
    (rk : Fin 262144 → ℕ) (hrk : ∀ x, rk x < 262144) (ho : ∀ x y, rk x < rk y ↔ Better v x y)
    (hb : ∀ x, B x → K x = rk x) (hf : ∀ x, ¬ B x → K x = 524288 + x.val) (w : Fin 262144 → EReal)
    (hw : ∀ x, w x = if B x then v x else -1) (x y : Fin 262144) : Better w x y ↔ K x < K y := by
  have neg : ∀ x, (-1 : EReal) < v x := fun x => lt_of_lt_of_le (by
    exact EReal.coe_lt_coe_iff.2 (by norm_num : (-1 : ℝ) < 0)) (hv x)
  have hx := hrk x
  have hy := hrk y
  unfold Better
  rw [hw x, hw y]
  by_cases bx : B x <;> by_cases by' : B y
  · rw [if_pos bx, if_pos by', hb x bx, hb y by']; exact (ho x y).symm
  · rw [if_pos bx, if_neg by', hb x bx, hf y by']
    exact ⟨fun _ => by omega, fun _ => Or.inl (neg x)⟩
  · rw [if_neg bx, if_pos by', hf x bx, hb y by']
    exact ⟨fun h => absurd h (by
      rintro (h | ⟨h, _⟩)
      · exact lt_asymm h (neg y)
      · exact absurd h (ne_of_lt (neg y))), fun h => by omega⟩
  · rw [if_neg bx, if_neg by', hf x bx, hf y by']
    exact ⟨fun h => by
      rcases h with h | ⟨_, h⟩
      · exact absurd h (lt_irrefl _)
      · have : x.val < y.val := h
        omega, fun h => Or.inr ⟨rfl, show x.val < y.val by omega⟩⟩

/-- The background indices agree where the noise is not negative. -/
theorem back_agree (X : Ins) (W : Valuation Cert.ReferenceIdeal.τ Cert.ReferenceIdeal.sig (Elt Ideal)) (hd : dataX X = dataR W)
    (hx : ∀ i : Fin 512, X.x4 (ix2 i 0) = X.x3 (ix2 0 i)) (a : FVec Ideal Cert.KernelIdeal.S262144 .f32) (ha : rNoise W = a) (hn : ∀ x, 0 ≤ a (ix1 x))
    (h6 : ∀ i j, X.x6 (ix2 i j) = BitVec.ofNat 32 (noiseRank a (flat i j))) :
    rBack W = shapeCast Cert.KernelIdeal.S768 (o10 X) Cert.KernelIdeal.Gen.shapeCasts_S1x768_S768 := by
  have hrk : ∀ x, noiseRank a x < 262144 := fun x => by
    have := rank_lt_card (strict_better fun x => a (ix1 x)) (Finset.mem_univ x)
    rwa [Finset.card_univ, Fintype.card_fin] at this
  have hinj : Function.Injective (noiseRank a) := fun x y h =>
    rank_inj (strict_better fun x => a (ix1 x)) (Finset.mem_univ x) (Finset.mem_univ y) h
  obtain ⟨σ, hi, hord, hdom, ho⟩ := back_places X (noiseRank a) hrk hinj h6
  have hB : ∀ x, BgX X x ↔ (dataR W).Bg (row x) (col x) := fun x => by rw [← hd]; exact nBg_iff X hx _ _
  have hk : ∀ x y, Better (fun p => rMark W (ix1 p)) x y ↔ keyN X (noiseRank a) x < keyN X (noiseRank a) y :=
    key_order (fun x => a (ix1 x)) hn (fun x => (dataR W).Bg (row x) (col x)) (keyN X (noiseRank a)) (noiseRank a) hrk
      (fun x y => rank_order (fun x => a (ix1 x)) x y)
      (fun x h => if_pos ((hB x).2 h)) (fun x h => if_neg (fun h' => h ((hB x).1 h'))) (fun p => rMark W (ix1 p))
      (fun x => by rw [rMark_apply, ha])
  refine back_ext _ _ fun t => ?_
  exact ((back_read W σ hi (fun i j h h' => hord i j h ((hk _ _).1 h')) (fun i p h h' => hdom i p h ((hk _ _).1 h')) t).trans (ho t).symm).trans
    (unroll_apply _ t).symm

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.KernelFrame
public import proofs.«01_k».proof.Proof.KernelIdealFrame
public import proofs.«01_k».proof.Proof.ReferenceFrame
public import proofs.«01_k».proof.Proof.RelationBack
public import Idealize.ShloMosaic.Adequacy
public import Idealize.ShloMosaic.Init

@[expose] public section

noncomputable section

namespace Cert.Proof

open Idealize.ShloMosaic Idealize.SL.Sem Cert.Kernel Idealize.ShloMosaic.Pointwise

/-- The precondition's shapes fit. -/
theorem drawn_facts : Cert.Pre_noise_drawn.Facts := ⟨Cert.KernelIdeal.Gen.bcast_S_S262144⟩

/-- Under the precondition the noise is not negative. -/
theorem noise_nonneg (m : (ℓ : Loc Cert.KernelIdeal.nD Cert.KernelIdeal.τ Cert.KernelIdeal.sig) → Buf (Elt Ideal) ℓ)
    (h : @Cert.Pre_KernelIdeal_noise_drawn drawn_facts m) (c : Dev Cert.KernelIdeal.nD) (x : Fin 262144) :
    0 ≤ Cert.KernelIdeal.Body.noiseOf m c (ix1 x) := by
  have e : BitVec.ofBool (decide (Ideal.ofBits .f32 0x00000000#32 ≤ Cert.KernelIdeal.Body.noiseOf m c (ix1 x))) = 1#1 := congrFun (h c) (ix1 x)
  have z : Ideal.ofBits .f32 0x00000000#32 = (0 : EReal) := by simp [Ideal.ofBits, Ideal.ieee]
  rw [z] at e
  by_contra hn
  rw [decide_eq_false hn] at e
  exact absurd e (by decide)

/-- From the same arguments, with noise that is not negative, the kernel and the reference leave the same four results. -/
theorem algebraic : @Cert.algebraic_KernelIdeal_ReferenceIdeal_pre_noise_drawn Cert.KernelIdeal.Gen.facts Cert.ReferenceIdeal.Gen.facts drawn_facts :=
  fun m ρ m' ρ' hpre hag => by
    have hd : ∀ c, Cert.KernelIdeal.Body.dataX (Cert.KernelIdeal.Body.insV m c) = Cert.ReferenceIdeal.Read.dataR (StableHlo.launchContents m' c) := fun c =>
      data_eq m m' c (hag c).1 (hag c).2.1 (hag c).2.2.1 (hag c).2.2.2.1 (hag c).2.2.2.2.1
    have hf := fun c => fore_agree _ _ (hd c)
    have hx : ∀ c (i : Fin 512), (Cert.KernelIdeal.Body.insV m c).x4 (ix2 i 0) = (Cert.KernelIdeal.Body.insV m c).x3 (ix2 0 i) := fun c i => by
      rw [Cert.KernelIdeal.Body.insV_x3, Cert.KernelIdeal.Body.insV_x4]
      exact (upright_apply _ i).trans (row_apply _ i).symm
    have hb := fun c => back_agree _ _ (hd c) (hx c) (Cert.KernelIdeal.Body.noiseOf m c) (hag c).2.2.2.2.2 (noise_nonneg m hpre c) (Cert.KernelIdeal.Body.x6_apply m c)
    refine ⟨fun c => Cert.KernelIdeal.Body.pairList (shapeCast Cert.KernelIdeal.S256 (Cert.KernelIdeal.Body.o7 (Cert.KernelIdeal.Body.insV m c)) Cert.KernelIdeal.Gen.shapeCasts_S1x256_S256) (shapeCast Cert.KernelIdeal.S768 (Cert.KernelIdeal.Body.o10 (Cert.KernelIdeal.Body.insV m c)) Cert.KernelIdeal.Gen.shapeCasts_S1x768_S768),
      fun c => Cert.KernelIdeal.Body.labelList (shapeCast Cert.KernelIdeal.S256 (Cert.KernelIdeal.Body.o9 (Cert.KernelIdeal.Body.insV m c)) Cert.KernelIdeal.Gen.shapeCasts_S1x256_S256),
      fun c => Cert.KernelIdeal.Body.o11 (Cert.KernelIdeal.Body.insV m c),
      fun c => shapeCast Cert.KernelIdeal.S256 (Cert.KernelIdeal.Body.o8 (Cert.KernelIdeal.Body.insV m c)) Cert.KernelIdeal.Gen.shapeCasts_S1x256_S256, ?_, ?_⟩
    · exact (θ_run _ _ _).mono (fun _ h c => ⟨(h c).1.1, (h c).1.2.1, (h c).1.2.2.1, (h c).1.2.2.2, (h c).2⟩) (Cert.KernelIdeal.Body.run_value m ρ)
    · refine (θ_run _ _ _).mono (fun _ h c => ⟨(h c).1.trans ?_, (h c).2.1.trans ?_, (h c).2.2.1.trans ?_, (h c).2.2.2.1.trans ?_, (h c).2.2.2.2⟩) (Cert.ReferenceIdeal.Value.run m' ρ')
      · exact pairs_agree (StableHlo.launchContents m' c) _ _ (hf c).1 (hb c)
      · exact congrArg Cert.KernelIdeal.Body.labelList (hf c).2.2
      · exact bin_agree _ _ (hd c)
      · exact (hf c).2.1

theorem claim : Cert.Claim := ⟨Cert.Kernel.Gen.facts, Cert.KernelIdeal.Gen.facts, Cert.ReferenceIdeal.Gen.facts, drawn_facts,
  fun m ρ _ => Cert.Kernel.Body.frame m ρ,
  fun m ρ _ => Cert.KernelIdeal.Body.frame m ρ,
  fun m ρ _ => Cert.KernelIdeal.Body.frame m ρ,
  fun m ρ _ => (θ_run _ _ _).mono (fun _ h => ⟨fun c => (h c).2.2.2.2, Cert.ReferenceIdeal.Read.no_counters _⟩) (Cert.ReferenceIdeal.Value.run m ρ),
  fun m ρ _ => (θ_run _ _ _).mono (fun _ h => ⟨fun c => (h c).2.2.2.2, Cert.ReferenceIdeal.Read.no_counters _⟩) (Cert.ReferenceIdeal.Value.run m ρ),
  trivial,
  algebraic⟩

end Cert.Proof

end
